-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 [hPre_experts : Cert.Pre_experts.Facts] (m : (ℓ : Loc Cert.Kernel2.nD Cert.Kernel2.τ Cert.Kernel2.sig) → Buf (Elt Bits) ℓ) : Prop :=
  ∀ c : Dev Cert.Kernel2.nD,
    (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts : Cert.Pre_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts [hPre_experts : Cert.Pre_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts : Cert.Pre_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts [hReference2Ideal : Cert.Reference2Ideal.Facts] [hPre_experts : Cert.Pre_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_v17) = v2 c
          ∧ r.2.mem ((c.tc : Thread Cert.Reference5Ideal.nD Cert.Reference5Ideal.τ).loc Cert.Reference5Ideal.main_v19) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts := hPre_experts)
    ∧ quiescent_Kernel2Ideal (hKernel2Ideal := hKernel2Ideal) (hPre_experts := hPre_experts)
    ∧ quiescent_Reference2Ideal (hReference2Ideal := hReference2Ideal)
    ∧ quiescent_Reference2Ideal_pre_experts (hReference2Ideal := hReference2Ideal) (hPre_experts := hPre_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts := hPre_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_experts.lean ====
abbrev S136 : Shape := ⟨1, ![136]⟩
abbrev S69632x1024 : Shape := ⟨2, ![69632, 1024]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S136 32) (main_arg1 : IVec S136 32) (main_arg2 : FVec F S69632x1024 .f32) (main_arg3 : FVec F S8x1024x2816 .bf16) (main_arg4 : FVec F S8x1024x2816 .bf16) (main_arg5 : FVec F S8x2816x1024 .bf16) : IVec S136 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  main_v4
-- ==== Pre_finite.lean ====
abbrev S32768x1536 : Shape := ⟨2, ![32768, 1536]⟩
abbrev S8x4096x128 : Shape := ⟨3, ![8, 4096, 128]⟩
abbrev S8x8x4096 : Shape := ⟨3, ![8, 8, 4096]⟩
abbrev S_ : Shape := ⟨0, ![]⟩
abbrev S8x4096x8 : Shape := ⟨3, ![8, 4096, 8]⟩

class Facts : Prop where
  bcast_S_S32768x1536 : S_.BroadcastsInDim S32768x1536 (![] : Fin 0 → Fin S32768x1536.rank)
  slices_S8x4096x128_S8x4096x8_0_0_0 : S8x4096x128.Slices ![0, 0, 0] S8x4096x8
  bcast_S_S8x4096x8 : S_.BroadcastsInDim S8x4096x8 (![] : Fin 0 → Fin S8x4096x8.rank)
  bcast_S_S8x8x4096 : S_.BroadcastsInDim S8x8x4096 (![] : Fin 0 → Fin S8x8x4096.rank)

variable [Facts]

def fn {F : FTy → Type} [FloatOps F] (main_arg0 : FVec F S32768x1536 .bf16) (main_arg1 : FVec F S8x4096x128 .f32) (main_arg2 : FVec F S8x8x4096 .f32) : IVec S32768x1536 1 × IVec S8x4096x8 1 × IVec S8x8x4096 1 :=
  let main_v0 : FVec F S32768x1536 .bf16 := Host.absf main_arg0
  let main_cst : FVec F S_ .bf16 := constant S_ .bf16 0x7F80#16
  let main_v1 : FVec F S32768x1536 .bf16 := broadcastInDim S32768x1536 ![] bcast_S_S32768x1536 main_cst
  let main_v2 : IVec S32768x1536 1 := cmpf .olt main_v0 main_v1
  let main_v3 : FVec F S8x4096x8 .f32 := (extractStridedSlice S8x4096x8 ![0, 0, 0] · slices_S8x4096x128_S8x4096x8_0_0_0) main_arg1
  let main_v4 : FVec F S8x4096x8 .f32 := Host.absf main_v3
  let main_cst_0 : FVec F S_ .f32 := constant S_ .f32 0x7F800000#32
  let main_v5 : FVec F S8x4096x8 .f32 := broadcastInDim S8x4096x8 ![] bcast_S_S8x4096x8 main_cst_0
  let main_v6 : IVec S8x4096x8 1 := cmpf .olt main_v4 main_v5
  let main_v7 : FVec F S8x8x4096 .f32 := Host.absf main_arg2
  let main_cst_1 : FVec F S_ .f32 := constant S_ .f32 0x7F800000#32
  let main_v8 : FVec F S8x8x4096 .f32 := broadcastInDim S8x8x4096 ![] bcast_S_S8x8x4096 main_cst_1
  let main_v9 : IVec S8x8x4096 1 := cmpf .olt main_v7 main_v8
  (main_v2, main_v6, main_v9)
-- ==== Kernel.lean ====
abbrev S32768x1536 : Shape := ⟨2, ![32768, 1536]⟩
abbrev S8x4096x128 : Shape := ⟨3, ![8, 4096, 128]⟩
abbrev S8x8x4096 : Shape := ⟨3, ![8, 8, 4096]⟩
abbrev S32768x512 : Shape := ⟨2, ![32768, 512]⟩
abbrev S512x128 : Shape := ⟨2, ![512, 128]⟩
abbrev S1x512x128 : Shape := ⟨3, ![1, 512, 128]⟩
abbrev S1x8x512 : Shape := ⟨3, ![1, 8, 512]⟩
abbrev S2x512x128 : Shape := ⟨3, ![2, 512, 128]⟩
abbrev S1x128 : Shape := ⟨2, ![1, 128]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S512x512 : Shape := ⟨2, ![512, 512]⟩

abbrev nBuf : Space → Nat
  | .hbm => 4
  | .vmem => 16
  | .smem => 0
  | _ => 0

abbrev bufTy : (tb : Table) → Fin (tcTables nBuf tb) → BufTy
  | .hbm, ⟨0, _⟩ => ⟨S32768x1536, .bf16⟩
  | .hbm, ⟨1, _⟩ => ⟨S8x4096x128, .f32⟩
  | .hbm, ⟨2, _⟩ => ⟨S8x8x4096, .f32⟩
  | .hbm, ⟨3, _⟩ => ⟨S32768x512, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x512x128, .f32⟩
  | .local _ .vmem, ⟨7, _⟩ => ⟨S1x512x128, .f32⟩
  | .local _ .vmem, ⟨8, _⟩ => ⟨S1x8x512, .f32⟩
  | .local _ .vmem, ⟨9, _⟩ => ⟨S1x8x512, .f32⟩
  | .local _ .vmem, ⟨10, _⟩ => ⟨S512x128, .bf16⟩
  | .local _ .vmem, ⟨11, _⟩ => ⟨S512x128, .bf16⟩
  | .local _ .vmem, ⟨12, _⟩ => ⟨S2x512x128, .f32⟩
  | .local _ .vmem, ⟨13, _⟩ => ⟨S2x512x128, .f32⟩
  | .local _ .vmem, ⟨14, _⟩ => ⟨S2x512x128, .f32⟩
  | .local _ .vmem, ⟨15, _⟩ => ⟨S2x512x128, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![8, 4, 8, 8], ![false, false, false, false]⟩

def k0_cond2 (i : grid0.Coords) : BitVec 1 :=
  let arg3 : BitVec 32 := BitVec.ofNat 32 (i 3).val
  let arg2 : BitVec 32 := BitVec.ofNat 32 (i 2).val
  let v4 : BitVec 1 := Scalar.cmpi .slt arg3 arg2
  let v5 : BitVec 32 := Scalar.extui v4
  let c0_i32_1 : BitVec 32 := 0#32
  let v6 : BitVec 1 := Scalar.cmpi .ne v5 c0_i32_1
  v6

def k0_off1 (i : grid0.Coords) (c0_i32_14 : BitVec 32) : Fin 3 → Nat :=
  let c0_15 : Index := 0#32
  let c2_i32 : BitVec 32 := 2#32
  let arg1 : BitVec 32 := BitVec.ofNat 32 (i 1).val
  let v43 : BitVec 32 := Scalar.muli c2_i32 arg1
  let v44 : BitVec 32 := Scalar.addi v43 c0_i32_14
  let v45 : Index := Scalar.indexCast v44
  let c0_16 : Index := 0#32
  ![0, v45.toNat, 0]
def k0_cond3 (i : grid0.Coords) : BitVec 1 :=
  let arg3 : BitVec 32 := BitVec.ofNat 32 (i 3).val
  let arg2 : BitVec 32 := BitVec.ofNat 32 (i 2).val
  let v7 : BitVec 1 := Scalar.cmpi .eq arg3 arg2
  let v8 : BitVec 32 := Scalar.extui v7
  let c0_i32_2 : BitVec 32 := 0#32
  let v9 : BitVec 1 := Scalar.cmpi .ne v8 c0_i32_2
  v9

def k0_off2 (i : grid0.Coords) (c0_i32_14 : BitVec 32) : Fin 3 → Nat :=
  let c0_15 : Index := 0#32
  let c2_i32 : BitVec 32 := 2#32
  let arg1 : BitVec 32 := BitVec.ofNat 32 (i 1).val
  let v46 : BitVec 32 := Scalar.muli c2_i32 arg1
  let v47 : BitVec 32 := Scalar.addi v46 c0_i32_14
  let v48 : Index := Scalar.indexCast v47
  let c0_16 : Index := 0#32
  ![0, v48.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.minsi arg3 arg2
  let v2 : BitVec 32 := Scalar.addi v0 v1
  let c4_i32 : BitVec 32 := 4#32
  let v3 : BitVec 32 := Scalar.addi c4_i32 arg1
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.minsi arg3 arg2
  let v2 : BitVec 32 := Scalar.addi v0 v1
  let c8_i32_0 : BitVec 32 := 8#32
  let v3 : BitVec 32 := Scalar.addi c8_i32_0 arg1
  let c0_i32 : BitVec 32 := 0#32
  ![v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== KernelIdeal.lean ====
variable {F : FTy → Type} [FloatOps F] [Named F]
def κ : String → Option EReal := fun
  | "mask" => some ⊥
  | _ => none
-- ==== ReferenceIdeal.lean ====
abbrev S32768x1536 : Shape := ⟨2, ![32768, 1536]⟩
abbrev S8x4096x128 : Shape := ⟨3, ![8, 4096, 128]⟩
abbrev S8x8x4096 : Shape := ⟨3, ![8, 8, 4096]⟩
abbrev S8x4096x3x8x64 : Shape := ⟨5, ![8, 4096, 3, 8, 64]⟩
abbrev S8x4096x1x8x64 : Shape := ⟨5, ![8, 4096, 1, 8, 64]⟩
abbrev S8x4096x8x64 : Shape := ⟨4, ![8, 4096, 8, 64]⟩
abbrev S8x8x4096x64 : Shape := ⟨4, ![8, 8, 4096, 64]⟩
abbrev S8x4096x8 : Shape := ⟨3, ![8, 4096, 8]⟩
abbrev S8x8x4096x4096 : Shape := ⟨4, ![8, 8, 4096, 4096]⟩
abbrev S_ : Shape := ⟨0, ![]⟩
abbrev S8x8x4096x1 : Shape := ⟨4, ![8, 8, 4096, 1]⟩
abbrev S8x8x1x4096 : Shape := ⟨4, ![8, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S32768x512 : Shape := ⟨2, ![32768, 512]⟩

abbrev nBuf : Space → Nat
  | .hbm => 55
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S8x4096x128, .f32⟩
  | .hbm, ⟨2, _⟩ => ⟨S8x8x4096, .f32⟩
  | .hbm, ⟨3, _⟩ => ⟨S32768x1536, .f32⟩
  | .hbm, ⟨4, _⟩ => ⟨S8x4096x3x8x64, .f32⟩
  | .hbm, ⟨5, _⟩ => ⟨S8x4096x1x8x64, .f32⟩
  | .hbm, ⟨6, _⟩ => ⟨S8x4096x8x64, .f32⟩
  | .hbm, ⟨7, _⟩ => ⟨S8x8x4096x64, .f32⟩
  | .hbm, ⟨8, _⟩ => ⟨S8x4096x1x8x64, .f32⟩
  | .hbm, ⟨9, _⟩ => ⟨S8x4096x8x64, .f32⟩
  | .hbm, ⟨10, _⟩ => ⟨S8x8x4096x64, .f32⟩
  | .hbm, ⟨11, _⟩ => ⟨S8x4096x1x8x64, .f32⟩
  | .hbm, ⟨12, _⟩ => ⟨S8x4096x8x64, .f32⟩
  | .hbm, ⟨13, _⟩ => ⟨S8x8x4096x64, .f32⟩
  | .hbm, ⟨14, _⟩ => ⟨S8x4096x8, .f32⟩
  | .hbm, ⟨15, _⟩ => ⟨S8x8x4096, .f32⟩
  | .hbm, ⟨16, _⟩ => ⟨S8x8x4096x4096, .f32⟩
  | .hbm, ⟨17, _⟩ => ⟨S_, .f32⟩
  | .hbm, ⟨18, _⟩ => ⟨S8x8x4096x4096, .f32⟩
  | .hbm, ⟨19, _⟩ => ⟨S8x8x4096x4096, .f32⟩
  | .hbm, ⟨20, _⟩ => ⟨S8x8x4096x1, .f32⟩
  | .hbm, ⟨21, _⟩ => ⟨S8x8x1x4096, .f32⟩
  | .hbm, ⟨22, _⟩ => ⟨S8x8x4096x4096, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S8x8x4096x4096, .i1⟩
  | .hbm, ⟨35, _⟩ => ⟨S8x8x4096x4096, .f32⟩
  | .hbm, ⟨36, _⟩ => ⟨S8x8x4096x4096, .f32⟩
  | .hbm, ⟨37, _⟩ => ⟨S_, .f32⟩
  | .hbm, ⟨38, _⟩ => ⟨S8x8x4096, .f32⟩
  | .hbm, ⟨39, _⟩ => ⟨S_, .f32⟩
  | .hbm, ⟨40, _⟩ => ⟨S8x8x4096, .f32⟩
  | .hbm, ⟨41, _⟩ => ⟨S8x8x4096, .f32⟩
  | .hbm, ⟨42, _⟩ => ⟨S8x8x4096x1, .f32⟩
  | .hbm, ⟨43, _⟩ => ⟨S8x8x4096x4096, .f32⟩
  | .hbm, ⟨44, _⟩ => ⟨S8x8x4096x4096, .f32⟩
  | .hbm, ⟨45, _⟩ => ⟨S8x8x4096x4096, .f32⟩
  | .hbm, ⟨46, _⟩ => ⟨S_, .f32⟩
  | .hbm, ⟨47, _⟩ => ⟨S8x8x4096, .f32⟩
  | .hbm, ⟨48, _⟩ => ⟨S8x8x4096x1, .f32⟩
  | .hbm, ⟨49, _⟩ => ⟨S8x8x4096x4096, .f32⟩
  | .hbm, ⟨50, _⟩ => ⟨S8x8x4096x4096, .f32⟩
  | .hbm, ⟨51, _⟩ => ⟨S8x8x4096x64, .f32⟩
  | .hbm, ⟨52, _⟩ => ⟨S8x4096x8x64, .f32⟩
  | .hbm, ⟨53, _⟩ => ⟨S32768x512, .f32⟩
  | .hbm, ⟨54, _⟩ => ⟨S32768x512, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Kernel2.lean ====
abbrev S136 : Shape := ⟨1, ![136]⟩
abbrev S69632x1024 : Shape := ⟨2, ![69632, 1024]⟩
abbrev S8x1024x2816 : Shape := ⟨3, ![8, 1024, 2816]⟩
abbrev S8x2816x1024 : Shape := ⟨3, ![8, 2816, 1024]⟩
abbrev S512x1024 : Shape := ⟨2, ![512, 1024]⟩
abbrev S1x1024x2816 : Shape := ⟨3, ![1, 1024, 2816]⟩
abbrev S1 : Shape := ⟨1, ![1]⟩
abbrev S1x2816x1024 : Shape := ⟨3, ![1, 2816, 1024]⟩
abbrev S1024x2816 : Shape := ⟨2, ![1024, 2816]⟩
abbrev S1024x256 : Shape := ⟨2, ![1024, 256]⟩
abbrev S512x256 : Shape := ⟨2, ![512, 256]⟩
abbrev S2816x1024 : Shape := ⟨2, ![2816, 1024]⟩
abbrev S256x1024 : Shape := ⟨2, ![256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S69632x1024, .f32⟩
  | .hbm, ⟨1, _⟩ => ⟨S8x1024x2816, .bf16⟩
  | .hbm, ⟨2, _⟩ => ⟨S8x1024x2816, .bf16⟩
  | .hbm, ⟨3, _⟩ => ⟨S8x2816x1024, .bf16⟩
  | .hbm, ⟨4, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S512x1024, .f32⟩
  | .local _ .vmem, ⟨9, _⟩ => ⟨S512x1024, .f32⟩
  | .local _ .smem, ⟨0, _⟩ => ⟨S136, .i32⟩
  | .local _ .smem, ⟨1, _⟩ => ⟨S136, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v1 : BitVec 32) : BitVec 1 :=
  let c1_i32 : BitVec 32 := 1#32
  let v2 : BitVec 1 := Scalar.cmpi .eq v1 c1_i32
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S136 : Shape := ⟨1, ![136]⟩
abbrev S69632x1024 : Shape := ⟨2, ![69632, 1024]⟩
abbrev S8x1024x2816 : Shape := ⟨3, ![8, 1024, 2816]⟩
abbrev S8x2816x1024 : Shape := ⟨3, ![8, 2816, 1024]⟩
abbrev S136x1 : Shape := ⟨2, ![136, 1]⟩
abbrev S8 : Shape := ⟨1, ![8]⟩
abbrev S1x8 : Shape := ⟨2, ![1, 8]⟩
abbrev S136x8 : Shape := ⟨2, ![136, 8]⟩
abbrev S_ : Shape := ⟨0, ![]⟩
abbrev S8x2816x69632 : Shape := ⟨3, ![8, 2816, 69632]⟩
abbrev S8x69632x2816 : Shape := ⟨3, ![8, 69632, 2816]⟩
abbrev S8x69632x1024 : Shape := ⟨3, ![8, 69632, 1024]⟩
abbrev S8x136 : Shape := ⟨2, ![8, 136]⟩
abbrev S8x136x1 : Shape := ⟨3, ![8, 136, 1]⟩
abbrev S8x136x512 : Shape := ⟨3, ![8, 136, 512]⟩
abbrev S8x69632 : Shape := ⟨2, ![8, 69632]⟩
abbrev S8x69632x1 : Shape := ⟨3, ![8, 69632, 1]⟩

abbrev nBuf : Space → Nat
  | .hbm => 48
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S69632x1024, .f32⟩
  | .hbm, ⟨3, _⟩ => ⟨S8x1024x2816, .bf16⟩
  | .hbm, ⟨4, _⟩ => ⟨S8x1024x2816, .bf16⟩
  | .hbm, ⟨5, _⟩ => ⟨S8x2816x1024, .bf16⟩
  | .hbm, ⟨6, _⟩ => ⟨S8x1024x2816, .f32⟩
  | .hbm, ⟨7, _⟩ => ⟨S8x1024x2816, .f32⟩
  | .hbm, ⟨8, _⟩ => ⟨S8x2816x1024, .f32⟩
  | .hbm, ⟨9, _⟩ => ⟨S136x1, .i32⟩
  | .hbm, ⟨10, _⟩ => ⟨S8, .i32⟩
  | .hbm, ⟨11, _⟩ => ⟨S1x8, .i32⟩
  | .hbm, ⟨12, _⟩ => ⟨S136x8, .i32⟩
  | .hbm, ⟨13, _⟩ => ⟨S136x8, .i32⟩
  | .hbm, ⟨14, _⟩ => ⟨S136x8, .i1⟩
  | .hbm, ⟨15, _⟩ => ⟨S136x1, .i32⟩
  | .hbm, ⟨16, _⟩ => ⟨S_, .i32⟩
  | .hbm, ⟨17, _⟩ => ⟨S136x1, .i32⟩
  | .hbm, ⟨18, _⟩ => ⟨S136x1, .i1⟩
  | .hbm, ⟨19, _⟩ => ⟨S136x8, .i1⟩
  | .hbm, ⟨20, _⟩ => ⟨S136x8, .i1⟩
  | .hbm, ⟨21, _⟩ => ⟨S8x2816x69632, .f32⟩
  | .hbm, ⟨22, _⟩ => ⟨S8x69632x2816, .f32⟩
  | .hbm, ⟨23, _⟩ => ⟨S8x2816x69632, .f32⟩
  | .hbm, ⟨24, _⟩ => ⟨S8x69632x2816, .f32⟩
  | .hbm, ⟨25, _⟩ => ⟨S8x69632x2816, .f32⟩
  | .hbm, ⟨26, _⟩ => ⟨S8x69632x2816, .f32⟩
  | .hbm, ⟨27, _⟩ => ⟨S_, .f32⟩
  | .hbm, ⟨28, _⟩ => ⟨S8x69632x2816, .f32⟩
  | .hbm, ⟨29, _⟩ => ⟨S8x69632x2816, .f32⟩
  | .hbm, ⟨30, _⟩ => ⟨S_, .f32⟩
  | .hbm, ⟨31, _⟩ => ⟨S8x69632x2816, .f32⟩
  | .hbm, ⟨32, _⟩ => ⟨S8x69632x2816, .f32⟩
  | .hbm, ⟨33, _⟩ => ⟨S8x69632x2816, .f32⟩
  | .hbm, ⟨34, _⟩ => ⟨S8x69632x2816, .f32⟩
  | .hbm, ⟨35, _⟩ => ⟨S8x69632x1024, .f32⟩
  | .hbm, ⟨36, _⟩ => ⟨S8x136, .i1⟩
  | .hbm, ⟨37, _⟩ => ⟨S8x136x1, .i1⟩
  | .hbm, ⟨38, _⟩ => ⟨S8x136x512, .i1⟩
  | .hbm, ⟨39, _⟩ => ⟨S8x69632, .i1⟩
  | .hbm, ⟨40, _⟩ => ⟨S8x69632x1, .i1⟩
  | .hbm, ⟨41, _⟩ => ⟨S_, .f32⟩
  | .hbm, ⟨42, _⟩ => ⟨S_, .f32⟩
  | .hbm, ⟨43, _⟩ => ⟨S8x69632x1024, .i1⟩
  | .hbm, ⟨44, _⟩ => ⟨S8x69632x1024, .f32⟩
  | .hbm, ⟨45, _⟩ => ⟨S8x69632x1024, .f32⟩
  | .hbm, ⟨46, _⟩ => ⟨S_, .f32⟩
  | .hbm, ⟨47, _⟩ => ⟨S69632x1024, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v26 : Ref sig .tc := ⟨.hbm, 45, rfl⟩
abbrev main_cst_0 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Kernel3.lean ====
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S32768x1024, .f32⟩
  | .hbm, ⟨36, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Kernel4.lean ====
abbrev S32768x1024 : Shape := ⟨2, ![32768, 1024]⟩
abbrev S1x1024 : Shape := ⟨2, ![1, 1024]⟩
abbrev S32768x512 : Shape := ⟨2, ![32768, 512]⟩
abbrev S1024x3072 : Shape := ⟨2, ![1024, 3072]⟩
abbrev S1x3072 : Shape := ⟨2, ![1, 3072]⟩
abbrev S512x1024 : Shape := ⟨2, ![512, 1024]⟩
abbrev S1024x1024 : Shape := ⟨2, ![1024, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S1024x3072, .bf16⟩
  | .hbm, ⟨6, _⟩ => ⟨S1x3072, .f32⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S1024x3072, .bf16⟩
  | .local _ .vmem, ⟨10, _⟩ => ⟨S1x3072, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S32768x1024 : Shape := ⟨2, ![32768, 1024]⟩
abbrev S1x1024 : Shape := ⟨2, ![1, 1024]⟩
abbrev S32768x512 : Shape := ⟨2, ![32768, 512]⟩
abbrev S1024x3072 : Shape := ⟨2, ![1024, 3072]⟩
abbrev S1x3072 : Shape := ⟨2, ![1, 3072]⟩
abbrev S512x1024 : Shape := ⟨2, ![512, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S32768x3072 : Shape := ⟨2, ![32768, 3072]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S1024x3072, .bf16⟩
  | .hbm, ⟨6, _⟩ => ⟨S1x3072, .f32⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S1024x3072, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S1024x1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x3072, .f32⟩
  | .hbm, ⟨35, _⟩ => ⟨S32768x3072, .f32⟩
  | .hbm, ⟨36, _⟩ => ⟨S32768x3072, .f32⟩
  | .hbm, ⟨37, _⟩ => ⟨S32768x3072, .f32⟩
  | .hbm, ⟨38, _⟩ => ⟨S32768x3072, .f32⟩
  | .hbm, ⟨39, _⟩ => ⟨S_, .f32⟩
  | .hbm, ⟨40, _⟩ => ⟨S32768x3072, .f32⟩
  | .hbm, ⟨41, _⟩ => ⟨S32768x3072, .f32⟩
  | .hbm, ⟨42, _⟩ => ⟨S_, .f32⟩
  | .hbm, ⟨43, _⟩ => ⟨S32768x3072, .f32⟩
  | .hbm, ⟨44, _⟩ => ⟨S32768x3072, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel5.lean ====
abbrev S32768x1024 : Shape := ⟨2, ![32768, 1024]⟩
abbrev S1x1024 : Shape := ⟨2, ![1, 1024]⟩
abbrev S1024x4608 : Shape := ⟨2, ![1024, 4608]⟩
abbrev S1024x128 : Shape := ⟨2, ![1024, 128]⟩
abbrev S32768x1536 : Shape := ⟨2, ![32768, 1536]⟩
abbrev S32768x128 : Shape := ⟨2, ![32768, 128]⟩
abbrev S512x1024 : Shape := ⟨2, ![512, 1024]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 8
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x4608, .bf16⟩
  | .hbm, ⟨3, _⟩ => ⟨S1024x128, .bf16⟩
  | .hbm, ⟨4, _⟩ => ⟨S32768x1536, .bf16⟩
  | .hbm, ⟨5, _⟩ => ⟨S32768x1536, .bf16⟩
  | .hbm, ⟨6, _⟩ => ⟨S32768x1536, .bf16⟩
  | .hbm, ⟨7, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4608, .bf16⟩
  | .local _ .vmem, ⟨4, _⟩ => ⟨S1024x128, .bf16⟩
  | .local _ .vmem, ⟨5, _⟩ => ⟨S512x1536, .bf16⟩
  | .local _ .vmem, ⟨6, _⟩ => ⟨S512x1536, .bf16⟩
  | .local _ .vmem, ⟨7, _⟩ => ⟨S512x1536, .bf16⟩
  | .local _ .vmem, ⟨8, _⟩ => ⟨S512x1536, .bf16⟩
  | .local _ .vmem, ⟨9, _⟩ => ⟨S512x1536, .bf16⟩
  | .local _ .vmem, ⟨10, _⟩ => ⟨S512x1536, .bf16⟩
  | .local _ .vmem, ⟨11, _⟩ => ⟨S512x128, .f32⟩
  | .local _ .vmem, ⟨12, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S32768x1024 : Shape := ⟨2, ![32768, 1024]⟩
abbrev S1x1024 : Shape := ⟨2, ![1, 1024]⟩
abbrev S1024x4608 : Shape := ⟨2, ![1024, 4608]⟩
abbrev S1024x128 : Shape := ⟨2, ![1024, 128]⟩
abbrev S_ : Shape := ⟨0, ![]⟩
abbrev S32768 : Shape := ⟨1, ![32768]⟩
abbrev S32768x1 : Shape := ⟨2, ![32768, 1]⟩
abbrev S32768x4608 : Shape := ⟨2, ![32768, 4608]⟩
abbrev S32768x1536 : Shape := ⟨2, ![32768, 1536]⟩
abbrev S32768x128 : Shape := ⟨2, ![32768, 128]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x4608, .bf16⟩
  | .hbm, ⟨3, _⟩ => ⟨S1024x128, .bf16⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S1024x4608, .f32⟩
  | .hbm, ⟨20, _⟩ => ⟨S32768x4608, .f32⟩
  | .hbm, ⟨21, _⟩ => ⟨S32768x4608, .bf16⟩
  | .hbm, ⟨22, _⟩ => ⟨S32768x1536, .bf16⟩
  | .hbm, ⟨23, _⟩ => ⟨S32768x1536, .bf16⟩
  | .hbm, ⟨24, _⟩ => ⟨S32768x1536, .bf16⟩
  | .hbm, ⟨25, _⟩ => ⟨S1024x128, .f32⟩
  | .hbm, ⟨26, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.Attn.Base.lean ====
/- What the attention kernel's runs share: its branch conditions over the grid's points, its staging and scratch memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 3).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 2048 := Nat.lt_of_lt_of_eq t.isLt N_0
    have e0 : (grid0.coords t 0).val = t.val / 256 % 8 := Pipeline.Grid.coords_val t 0 (by decide) rfl
    have e1 : (grid0.coords t 1).val = t.val / 64 % 4 := Pipeline.Grid.coords_val t 1 (by decide) rfl
    have e2 : (grid0.coords t 2).val = t.val / 8 % 8 := Pipeline.Grid.coords_val t 2 (by decide) rfl
    have e3 : (grid0.coords t 3).val = t.val / 1 % 8 := Pipeline.Grid.coords_val t 3 (by decide) rfl
    simp only [cond0_0, e0, e1, e2, e3]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points whose coordinates have i3 + 1 ≤ i2 — decided over the grid. -/
theorem hcond0_1 : ∀ t : Fin cfg0.N, cond0_1 (grid0.coords t) ↔ t.val % 8 + 1 ≤ t.val / 8 % 8 :=
  (by decide +kernel : ∀ t : Fin grid0.N, cond0_1 (grid0.coords t) ↔ t.val % 8 + 1 ≤ t.val / 8 % 8)

/-- The condition of the body's `scf.if` 2 (`k0_h3`), from the grid coordinates (the skeleton's scalar
    chain substituted). -/
abbrev cond0_2 (i : grid0.Coords) : Prop := k0_cond3 i = 1#1
/-- It holds at the points whose coordinates have i2 = i3 — decided over the grid. -/
theorem hcond0_2 : ∀ t : Fin cfg0.N, cond0_2 (grid0.coords t) ↔ t.val / 8 % 8 = t.val % 8 :=
  (by decide +kernel : ∀ t : Fin grid0.N, cond0_2 (grid0.coords t) ↔ t.val / 8 % 8 = t.val % 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x512x128 .f32 := Memref.whole cc0_scratch0
abbrev scM0_1 : Memref sig .tc .vmem S2x512x128 .f32 := Memref.whole cc0_scratch1
abbrev scM0_2 : Memref sig .tc .vmem S2x512x128 .f32 := Memref.whole cc0_scratch2
abbrev scM0_3 : Memref sig .tc .vmem S2x512x128 .f32 := Memref.whole cc0_scratch3
/-- The scratch `arg10` the kernel carries between points, as a view: what it holds is stated through it. -/
abbrev VS0_0 : View sig .tc .vmem S2x512x128 .f32 := scM0_0.view
/-- The scratch `arg11` the kernel carries between points, as a view: what it holds is stated through it. -/
abbrev VS0_1 : View sig .tc .vmem S2x512x128 .f32 := scM0_1.view
/-- The scratch `arg12` the kernel carries between points, as a view: what it holds is stated through it. -/
abbrev VS0_2 : View sig .tc .vmem S2x512x128 .f32 := scM0_2.view
/-- The scratch `arg13` the kernel carries between points, as a view: what it holds is stated through it. -/
abbrev VS0_3 : View sig .tc .vmem S2x512x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.Attn.Block.lean ====
/- One step of the attention kernel on a tile, as functions of blocks. -/
module

public import proofs.«01_k».proof.Proof.Attn.Base
public import Idealize.ShloMosaic.Lib.ValueIdx
public import Idealize.ShloMosaic.Lib.WritesUnit
public import Idealize.ShloMosaic.Lib.WholeRead
public import Idealize.ShloMosaic.Lib.Pipeline.ValueKit.Tiles

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx

variable {F : FTy → Type} [FloatOps F] [Named F]

/-! ## One step of the attention on one tile, as functions of blocks

The kernel's body states the same step four times (two heads of a pair, below the diagonal and on it), each cut at other places into
stored values. These functions state it once; each stored value is one of them by unfolding. -/

/-- The lanes of head `j` of the pair: lane divided by 64, rounded down, equals `j`. -/
def headMask (j : BitVec 32) : IVec S1x128 1 :=
  let lane : IVec S1x128 32 := iota .tc S1x128 32 [1] iota_S1x128_d1_w32
  let q := divsi lane (broadcast S1x128 64#32)
  let sgn := subi (extui 32 (cmpi .sgt lane (broadcast S1x128 0#32)) natLt_1_32) (extui 32 (cmpi .slt lane (broadcast S1x128 0#32)) natLt_1_32)
  let one := Scalar.subi (Scalar.extui (Scalar.cmpi .sgt 64#32 0#32)) (Scalar.extui (Scalar.cmpi .slt 64#32 0#32))
  let off := andi (cmpi .ne sgn (broadcast S1x128 one)) (cmpi .ne (remsi lane (broadcast S1x128 64#32)) (broadcast S1x128 0#32))
  cmpi .eq (select off (subi q (broadcast S1x128 1#32)) q) (broadcast S1x128 j)

/-- The queries with every lane of the other head at zero. -/
def qHead (j : BitVec 32) (q : Vec F S512x128 .bf16) : Vec F S512x128 .bf16 :=
  select (broadcastTo S512x128 (shapeCast S1x128 (headMask j) shapeCasts_S1x128_S1x128) broadcasts_S1x128_S512x128) q
    (broadcast S512x128 (Scalar.ofBits .bf16 0x0000#16 : F .bf16))

/-- The scores of a tile: queries against keys, scaled, with the difference of the two decays. -/
def scoreBlk (j : BitVec 32) (q k : Vec F S512x128 .bf16) (fk : Vec F S1x1x512 .f32) (fq : Vec F S1x512x128 .f32) : FVec F S512x512 .f32 :=
  addf (mulf (matmul dot_S512x128_S512x128_S512x512_1_1_0_0_n_n none (qHead j q) k (constant S512x512 .f32 0x00000000#32))
      (broadcast S512x512 (Scalar.ofBits .f32 0x3E000000#32 : F .f32)))
    (subf (broadcastTo S512x512 (extractStridedSlice S512x1 ![0, 0] (shapeCast S512x128 fq shapeCasts_S1x512x128_S512x128) slices_S512x128_o0_0_S512x1) broadcasts_S512x1_S512x512)
      (broadcastTo S512x512 (shapeCast S1x512 fk shapeCasts_S1x1x512_S1x512) broadcasts_S1x512_S512x512))

/-- The scores of a tile on the diagonal: those of later keys masked. -/
def scoreDiag (j : BitVec 32) (q k : Vec F S512x128 .bf16) (fk : Vec F S1x1x512 .f32) (fq : Vec F S1x512x128 .f32) : FVec F S512x512 .f32 :=
  select (cmpi .sle (iota .tc S512x512 32 [1] iota_S512x512_d1_w32) (iota .tc S512x512 32 [0] iota_S512x512_d0_w32)) (scoreBlk j q k fk fq)
    (broadcast S512x512 (Named.named κ "mask" 0xF149F2CA#32 : F .f32))

/-- The running maximum after a tile. -/
def maxBlk (s : FVec F S512x512 .f32) (mp : Vec F S1x512x128 .f32) : FVec F S512x128 .f32 :=
  maximumf (shapeCast S512x128 mp shapeCasts_S1x512x128_S512x128)
    (broadcastTo S512x128 (shapeCast S512x1 (multiReduction .maximumf [1] S512 s 0xFF800000#32 reduces_S512x512_S512 (.inl rfl) rfl) shapeCasts_S512_S512x1) broadcasts_S512x1_S512x128)

/-- The factor by which the tile rescales what earlier tiles left. -/
def alphaBlk (s : FVec F S512x512 .f32) (mp : Vec F S1x512x128 .f32) : FVec F S512x128 .f32 :=
  exp (subf (shapeCast S512x128 mp shapeCasts_S1x512x128_S512x128) (maxBlk s mp))

/-- The tile's weights, not yet divided. -/
def probBlk (s : FVec F S512x512 .f32) (mp : Vec F S1x512x128 .f32) : FVec F S512x512 .f32 :=
  exp (subf s (broadcastTo S512x512 (extractStridedSlice S512x1 ![0, 0] (maxBlk s mp) slices_S512x128_o0_0_S512x1) broadcasts_S512x1_S512x512))

/-- The running maximum as it is stored. -/
def mStep (s : FVec F S512x512 .f32) (mp : Vec F S1x512x128 .f32) : FVec F S1x512x128 .f32 :=
  shapeCast S1x512x128 (maxBlk s mp) shapeCasts_S512x128_S1x512x128

/-- The running sum of weights after a tile. -/
def lStep (s : FVec F S512x512 .f32) (mp lp : Vec F S1x512x128 .f32) : FVec F S1x512x128 .f32 :=
  shapeCast S1x512x128 (addf (mulf (alphaBlk s mp) (shapeCast S512x128 lp shapeCasts_S1x512x128_S512x128))
    (broadcastTo S512x128 (shapeCast S512x1 (multiReduction .add [1] S512 (probBlk s mp) 0x00000000#32 reduces_S512x512_S512 (.inl rfl) rfl) shapeCasts_S512_S512x1) broadcasts_S512x1_S512x128))
    shapeCasts_S512x128_S1x512x128

/-- The running sum of weighted values after a tile. -/
def accStep (s : FVec F S512x512 .f32) (mp ap : Vec F S1x512x128 .f32) (v : Vec F S512x128 .bf16) : FVec F S1x512x128 .f32 :=
  shapeCast S1x512x128 (addf (mulf (alphaBlk s mp) (shapeCast S512x128 ap shapeCasts_S1x512x128_S512x128))
    (matmul dot_S512x512_S512x128_S512x128_1_0_0_1_n_n none (truncf .bf16 (probBlk s mp) bitsLt_bf16_f32) v (constant S512x128 .f32 0x00000000#32)))
    shapeCasts_S512x128_S1x512x128

/-- The decay of a query row: the one lane of the gates' block that is the head's, in every lane. -/
def fqInit (arg1 j : BitVec 32) (f : Vec F S1x512x128 .f32) : FVec F S1x512x128 .f32 :=
  shapeCast S1x512x128 (broadcastTo S512x128 (shapeCast S512x1 (shapeCast S512x1 (multiReduction .add [1] S512
    (select (broadcastTo S512x128 (shapeCast S1x128 (cmpi .eq (iota .tc S1x128 32 [1] iota_S1x128_d1_w32) (broadcast S1x128 (Scalar.addi (Scalar.muli 2#32 arg1) j))) shapeCasts_S1x128_S1x128) broadcasts_S1x128_S512x128)
      (shapeCast S512x128 f shapeCasts_S1x512x128_S512x128) (broadcast S512x128 (Scalar.ofBits .f32 0x00000000#32 : F .f32)))
    0x00000000#32 reduces_S512x128_S512 (.inl rfl) rfl) shapeCasts_S512_S512x1) shapeCasts_S512x1_S512x1) broadcasts_S512x1_S512x128) shapeCasts_S512x128_S1x512x128

/-! ## The carried buffers: two heads, one above the other -/

/-- Head `j`'s half of a carried buffer. -/
def half (j : Fin 2) (X : Vec F S2x512x128 .f32) : Vec F S1x512x128 .f32 := fun i => X (ix3 j (i 1) (i 2))

/-- A carried buffer of two halves. -/
def two (a b : Vec F S1x512x128 .f32) : Vec F S2x512x128 .f32 := fun i => if (i 0).val = 0 then a (ix3 0 (i 1) (i 2)) else b (ix3 0 (i 1) (i 2))

/-- The keys' decays of head `j` of pair `p`. -/
def fkRow (p : Fin 4) (j : Fin 2) (f : Vec F S1x8x512 .f32) : Vec F S1x1x512 .f32 :=
  fun i => f (ix3 (0 : Fin 1) (⟨2 * p.val + j.val, by omega⟩ : Fin 8) (i 2))

/-- The quotient of the two sums, of the lower head in its lanes and of the upper in the others. -/
def outBlk (A L : Vec F S2x512x128 .f32) : FVec F S512x128 .bf16 :=
  truncf .bf16 (select (broadcastTo S512x128 (shapeCast S1x128 (cmpi .slt (iota .tc S1x128 32 [1] iota_S1x128_d1_w32) (broadcast S1x128 64#32)) shapeCasts_S1x128_S1x128) broadcasts_S1x128_S512x128)
    (divf (shapeCast S512x128 (half 0 A) shapeCasts_S1x512x128_S512x128) (shapeCast S512x128 (half 0 L) shapeCasts_S1x512x128_S512x128))
    (divf (shapeCast S512x128 (half 1 A) shapeCasts_S1x512x128_S512x128) (shapeCast S512x128 (half 1 L) shapeCasts_S1x512x128_S512x128))) bitsLt_bf16_f32

/-- What a query tile's row of points begins with: the maxima at the mask, both sums at zero, the queries' decays. -/
def mInit : FVec F S2x512x128 .f32 := shapeCast S2x512x128 (broadcast S2x512x128 (Named.named κ "mask" 0xF149F2CA#32 : F .f32)) shapeCasts_S2x512x128_S2x512x128
/-- Sums before the first tile. -/
def zInit : FVec F S2x512x128 .f32 := shapeCast S2x512x128 (broadcast S2x512x128 (Scalar.ofBits .f32 0x00000000#32 : F .f32)) shapeCasts_S2x512x128_S2x512x128
/-- The queries' decays of both heads. -/
def fInit (p : Fin 4) (f : Vec F S1x512x128 .f32) : Vec F S2x512x128 .f32 :=
  two (fqInit (BitVec.ofNat 32 p.val) 0#32 f) (fqInit (BitVec.ofNat 32 p.val) 1#32 f)

/-- The maxima of both heads after a tile whose scores are `s 0` and `s 1`. -/
def mNext (s : Fin 2 → FVec F S512x512 .f32) (M : Vec F S2x512x128 .f32) : Vec F S2x512x128 .f32 :=
  two (mStep (s 0) (half 0 M)) (mStep (s 1) (half 1 M))
/-- The sums of weights of both heads after a tile. -/
def lNext (s : Fin 2 → FVec F S512x512 .f32) (M L : Vec F S2x512x128 .f32) : Vec F S2x512x128 .f32 :=
  two (lStep (s 0) (half 0 M) (half 0 L)) (lStep (s 1) (half 1 M) (half 1 L))
/-- The weighted values of both heads after a tile. -/
def aNext (s : Fin 2 → FVec F S512x512 .f32) (M A : Vec F S2x512x128 .f32) (v : Vec F S512x128 .bf16) : Vec F S2x512x128 .f32 :=
  two (accStep (s 0) (half 0 M) (half 0 A) v) (accStep (s 1) (half 1 M) (half 1 A) v)
/-- Head number as the kernel's word. -/
def hw : Fin 2 → BitVec 32 | 0 => 0#32 | 1 => 1#32
/-- Both heads' scores of a tile below the diagonal. -/
def scBelow (p : Fin 4) (q k : Vec F S512x128 .bf16) (f : Vec F S1x8x512 .f32) (FQ : Vec F S2x512x128 .f32) : Fin 2 → FVec F S512x512 .f32 :=
  fun j => scoreBlk (hw j) q k (fkRow p j f) (half j FQ)
/-- Both heads' scores of a tile on the diagonal. -/
def scDiag (p : Fin 4) (q k : Vec F S512x128 .bf16) (f : Vec F S1x8x512 .f32) (FQ : Vec F S2x512x128 .f32) : Fin 2 → FVec F S512x512 .f32 :=
  fun j => scoreDiag (hw j) q k (fkRow p j f) (half j FQ)

/-! ## Loads and stores of halves -/

theorem half_two0 (a b : Vec F S1x512x128 .f32) : half 0 (two a b) = a := by
  funext i; show a _ = a i
  congr 1; funext x; match x with | ⟨0, _⟩ => exact Subsingleton.elim (α := Fin 1) _ _ | ⟨1, _⟩ => rfl | ⟨2, _⟩ => rfl
theorem half_two1 (a b : Vec F S1x512x128 .f32) : half 1 (two a b) = b := by
  funext i; show b _ = b i
  congr 1; funext x; match x with | ⟨0, _⟩ => exact Subsingleton.elim (α := Fin 1) _ _ | ⟨1, _⟩ => rfl | ⟨2, _⟩ => rfl

/-- Reading the lower half of given contents. -/
theorem ld_half0 (X : Vec F S2x512x128 .f32) (inb) :
    View.ld X (Rect.unit (s := S2x512x128) ![0, 0, 0] S1x512x128.size inb) = half 0 X := by
  funext x
  show X _ = X _
  congr 1; funext a; refine Fin.ext ((Rect.idx_unit_val _ _ inb x a).trans ?_)
  match a with
  | ⟨0, _⟩ => have : (x 0).val < 1 := (x 0).isLt; show 0 + (x 0).val = 0; omega
  | ⟨1, _⟩ => exact Nat.zero_add _
  | ⟨2, _⟩ => exact Nat.zero_add _
/-- Reading the upper half of given contents. -/
theorem ld_half1 (X : Vec F S2x512x128 .f32) (inb) :
    View.ld X (Rect.unit (s := S2x512x128) ![1, 0, 0] S1x512x128.size inb) = half 1 X := by
  funext x
  show X _ = X _
  congr 1; funext a; refine Fin.ext ((Rect.idx_unit_val _ _ inb x a).trans ?_)
  match a with
  | ⟨0, _⟩ => have : (x 0).val < 1 := (x 0).isLt; show 1 + (x 0).val = 1; omega
  | ⟨1, _⟩ => exact Nat.zero_add _
  | ⟨2, _⟩ => exact Nat.zero_add _

/-- A load of the lower half of a whole buffer. -/
theorem load_half0 (a : Memref sig .tc .vmem S2x512x128 .f32) (h : a.IsWhole) (X : Vec F S2x512x128 .f32) (inb) :
    View.readAt (Elt F) a.view (Rect.unit (s := S2x512x128) ![0, 0, 0] (no_index S1x512x128.size) inb).toLoadRect (h.unread X) = half 0 X :=
  (congrArg (fun Y => View.ld Y (Rect.unit (s := S2x512x128) ![0, 0, 0] (no_index S1x512x128.size) inb)) (h.read_unread X)).trans (ld_half0 X inb)
/-- A load of the upper half of a whole buffer. -/
theorem load_half1 (a : Memref sig .tc .vmem S2x512x128 .f32) (h : a.IsWhole) (X : Vec F S2x512x128 .f32) (inb) :
    View.readAt (Elt F) a.view (Rect.unit (s := S2x512x128) ![1, 0, 0] (no_index S1x512x128.size) inb).toLoadRect (h.unread X) = half 1 X :=
  (congrArg (fun Y => View.ld Y (Rect.unit (s := S2x512x128) ![1, 0, 0] (no_index S1x512x128.size) inb)) (h.read_unread X)).trans (ld_half1 X inb)
/-- A load of a whole block. -/
theorem load_all (a : Memref sig .tc .vmem S512x128 .bf16) (h : a.IsWhole) (X : Vec F S512x128 .bf16) (inb) :
    View.readAt (Elt F) a.view (Rect.unit (s := S512x128) ![0, 0] (no_index S512x128.size) inb).toLoadRect (h.unread X) = X := by
  funext x
  refine (h.readAt_unread X _ x).trans (congrArg X (funext fun b => Fin.ext ((Rect.idx_unit_val _ _ inb x b).trans ?_)))
  match b with | ⟨0, _⟩ => exact Nat.zero_add _ | ⟨1, _⟩ => exact Nat.zero_add _
/-- A load of the queries' gates. -/
theorem load_gates (a : Memref sig .tc .vmem S1x512x128 .f32) (h : a.IsWhole) (X : Vec F S1x512x128 .f32) (inb) :
    View.readAt (Elt F) a.view (Rect.unit (s := S1x512x128) ![0, 0, 0] (no_index S1x512x128.size) inb).toLoadRect (h.unread X) = X := by
  funext x
  refine (h.readAt_unread X _ x).trans (congrArg X (funext fun b => Fin.ext ((Rect.idx_unit_val _ _ inb x b).trans ?_)))
  match b with | ⟨0, _⟩ => exact Nat.zero_add _ | ⟨1, _⟩ => exact Nat.zero_add _ | ⟨2, _⟩ => exact Nat.zero_add _
/-- A load of one row of the keys' decays, at an offset that is that row. -/
theorem load_row (a : Memref sig .tc .vmem S1x8x512 .f32) (h : a.IsWhole) (X : Vec F S1x8x512 .f32) (off : Fin 3 → ℕ) (inb) (p : Fin 4) (j : Fin 2)
    (e : off = ![0, 2 * p.val + j.val, 0]) :
    View.readAt (Elt F) a.view (Rect.unit (s := S1x8x512) off (no_index S1x1x512.size) inb).toLoadRect (h.unread X) = fkRow p j X := by
  subst e
  funext x
  refine (h.readAt_unread X _ x).trans (congrArg X (funext fun b => Fin.ext ((Rect.idx_unit_val _ _ inb x b).trans ?_)))
  match b with
  | ⟨0, _⟩ => have : (x 0).val < 1 := (x 0).isLt; show 0 + (x 0).val = 0; omega
  | ⟨1, _⟩ => have : (x 1).val < 1 := (x 1).isLt; show 2 * p.val + j.val + (x 1).val = 2 * p.val + j.val; omega
  | ⟨2, _⟩ => exact Nat.zero_add _

theorem off1_0 (i : grid0.Coords) : k0_off1 i 0#32 = ![0, 2 * (i 1).val + (0 : Fin 2).val, 0] :=
  (by decide : ∀ a : Fin 4, (![0, (Scalar.indexCast (Scalar.addi (Scalar.muli 2#32 (BitVec.ofNat 32 a.val)) 0#32)).toNat, 0] : Fin 3 → ℕ) = ![0, 2 * a.val + (0 : Fin 2).val, 0]) (i 1)
theorem off1_1 (i : grid0.Coords) : k0_off1 i 1#32 = ![0, 2 * (i 1).val + (1 : Fin 2).val, 0] :=
  (by decide : ∀ a : Fin 4, (![0, (Scalar.indexCast (Scalar.addi (Scalar.muli 2#32 (BitVec.ofNat 32 a.val)) 1#32)).toNat, 0] : Fin 3 → ℕ) = ![0, 2 * a.val + (1 : Fin 2).val, 0]) (i 1)
theorem off2_0 (i : grid0.Coords) : k0_off2 i 0#32 = ![0, 2 * (i 1).val + (0 : Fin 2).val, 0] := off1_0 i
theorem off2_1 (i : grid0.Coords) : k0_off2 i 1#32 = ![0, 2 * (i 1).val + (1 : Fin 2).val, 0] := off1_1 i

/-- After a store of each half, a buffer holds the two halves, whatever came before. -/
theorem read_two {κ' : Kind} {sp : Space} (v : View sig κ' sp S2x512x128 .f32) (f : v.ty.Contents (Elt F)) (a b : Vec F S1x512x128 .f32) (L : List (View.Piece (Elt F) S2x512x128 .f32)) (inb0 inb1) :
    v.read (Elt F) (v.writes (Elt F) f ((⟨Rect.unit (s := S2x512x128) ![1, 0, 0] (no_index S1x512x128.size) inb1, b⟩ : View.Piece (Elt F) S2x512x128 .f32)
      :: (⟨Rect.unit (s := S2x512x128) ![0, 0, 0] (no_index S1x512x128.size) inb0, a⟩ : View.Piece (Elt F) S2x512x128 .f32) :: L)) = two a b := by
  funext y
  by_cases hy : (y 0).val = 0
  · rw [View.read_writes_cons_unit_of_not_mem v f inb1 b _ y rfl 0 (Or.inl (by show (y 0).val < 1; omega)),
      View.read_writes_cons_unit_of_mem v f inb0 a L y (ix3 (0 : Fin 1) (y 1) (y 2)) rfl
        (fun c => match c with | ⟨0, _⟩ => hy | ⟨1, _⟩ => (Nat.zero_add _).symm | ⟨2, _⟩ => (Nat.zero_add _).symm)]
    exact (if_pos hy).symm
  · have h2 : (y 0).val < 2 := (y 0).isLt
    rw [View.read_writes_cons_unit_of_mem v f inb1 b _ y (ix3 (0 : Fin 1) (y 1) (y 2)) rfl
        (fun c => match c with | ⟨0, _⟩ => (by show (y 0).val = 1 + 0; omega) | ⟨1, _⟩ => (Nat.zero_add _).symm | ⟨2, _⟩ => (Nat.zero_add _).symm)]
    exact (if_neg hy).symm
/-- After a store of a whole block it holds that block. -/
theorem read_all {κ' : Kind} {sp : Space} {e : EltTy} (v : View sig κ' sp S512x128 e) (f : v.ty.Contents (Elt F)) (a : Vec F S512x128 e) (L : List (View.Piece (Elt F) S512x128 e)) (inb) :
    v.read (Elt F) (v.writes (Elt F) f ((⟨Rect.unit (s := S512x128) ![0, 0] (no_index S512x128.size) inb, a⟩ : View.Piece (Elt F) S512x128 e) :: L)) = a := by
  funext y
  exact View.read_writes_cons_unit_of_mem v f inb a L y y rfl
    (fun c => match c with | ⟨0, _⟩ => (Nat.zero_add _).symm | ⟨1, _⟩ => (Nat.zero_add _).symm)

variable [∀ e, Nonempty (Elt F e)]

/-- A load of the lower half after a store of each half. -/
theorem cov_two0 {κ' : Kind} {sp : Space} (v : View sig κ' sp S2x512x128 .f32) (a b : Vec F S1x512x128 .f32) (L : List (View.Piece (Elt F) S2x512x128 .f32)) (inb0 inb1 inb) :
    v.readCov ((⟨Rect.unit (s := S2x512x128) ![1, 0, 0] (no_index S1x512x128.size) inb1, b⟩ : View.Piece (Elt F) S2x512x128 .f32)
      :: (⟨Rect.unit (s := S2x512x128) ![0, 0, 0] (no_index S1x512x128.size) inb0, a⟩ : View.Piece (Elt F) S2x512x128 .f32) :: L)
      (Rect.unit (s := S2x512x128) ![0, 0, 0] (no_index S1x512x128.size) inb).toLoadRect = a :=
  (congrArg (fun Y => View.ld Y (Rect.unit (s := S2x512x128) ![0, 0, 0] (no_index S1x512x128.size) inb)) (read_two v v.junk a b L inb0 inb1)).trans
    ((ld_half0 _ inb).trans (half_two0 a b))
/-- A load of the upper half after a store of each half. -/
theorem cov_two1 {κ' : Kind} {sp : Space} (v : View sig κ' sp S2x512x128 .f32) (a b : Vec F S1x512x128 .f32) (L : List (View.Piece (Elt F) S2x512x128 .f32)) (inb0 inb1 inb) :
    v.readCov ((⟨Rect.unit (s := S2x512x128) ![1, 0, 0] (no_index S1x512x128.size) inb1, b⟩ : View.Piece (Elt F) S2x512x128 .f32)
      :: (⟨Rect.unit (s := S2x512x128) ![0, 0, 0] (no_index S1x512x128.size) inb0, a⟩ : View.Piece (Elt F) S2x512x128 .f32) :: L)
      (Rect.unit (s := S2x512x128) ![1, 0, 0] (no_index S1x512x128.size) inb).toLoadRect = b :=
  (congrArg (fun Y => View.ld Y (Rect.unit (s := S2x512x128) ![1, 0, 0] (no_index S1x512x128.size) inb)) (read_two v v.junk a b L inb0 inb1)).trans
    ((ld_half1 _ inb).trans (half_two1 a b))
/-- After a store of the whole it holds what was stored. -/
theorem read_all3 {κ' : Kind} {sp : Space} (v : View sig κ' sp S2x512x128 .f32) (f : v.ty.Contents (Elt F)) (a : Vec F S2x512x128 .f32) (L : List (View.Piece (Elt F) S2x512x128 .f32)) (inb) :
    v.read (Elt F) (v.writes (Elt F) f ((⟨Rect.unit (s := S2x512x128) ![0, 0, 0] (no_index S2x512x128.size) inb, a⟩ : View.Piece (Elt F) S2x512x128 .f32) :: L)) = a := by
  funext y
  exact View.read_writes_cons_unit_of_mem v f inb a L y y rfl
    (fun c => match c with | ⟨0, _⟩ => (Nat.zero_add _).symm | ⟨1, _⟩ => (Nat.zero_add _).symm | ⟨2, _⟩ => (Nat.zero_add _).symm)
/-- A load of the lower half after a store of the whole. -/
theorem cov_init0 {κ' : Kind} {sp : Space} (v : View sig κ' sp S2x512x128 .f32) (X : Vec F S2x512x128 .f32) (L : List (View.Piece (Elt F) S2x512x128 .f32)) (inbX inb) :
    v.readCov ((⟨Rect.unit (s := S2x512x128) ![0, 0, 0] (no_index S2x512x128.size) inbX, X⟩ : View.Piece (Elt F) S2x512x128 .f32) :: L)
      (Rect.unit (s := S2x512x128) ![0, 0, 0] (no_index S1x512x128.size) inb).toLoadRect = half 0 X :=
  (congrArg (fun Y => View.ld Y (Rect.unit (s := S2x512x128) ![0, 0, 0] (no_index S1x512x128.size) inb)) (read_all3 v v.junk X L inbX)).trans (ld_half0 _ inb)
/-- A load of the upper half after a store of the whole. -/
theorem cov_init1 {κ' : Kind} {sp : Space} (v : View sig κ' sp S2x512x128 .f32) (X : Vec F S2x512x128 .f32) (L : List (View.Piece (Elt F) S2x512x128 .f32)) (inbX inb) :
    v.readCov ((⟨Rect.unit (s := S2x512x128) ![0, 0, 0] (no_index S2x512x128.size) inbX, X⟩ : View.Piece (Elt F) S2x512x128 .f32) :: L)
      (Rect.unit (s := S2x512x128) ![1, 0, 0] (no_index S1x512x128.size) inb).toLoadRect = half 1 X :=
  (congrArg (fun Y => View.ld Y (Rect.unit (s := S2x512x128) ![1, 0, 0] (no_index S1x512x128.size) inb)) (read_all3 v v.junk X L inbX)).trans (ld_half1 _ inb)
/-- A load of the upper half passes over a store of the lower one. -/
theorem cov_skip {κ' : Kind} {sp : Space} (v : View sig κ' sp S2x512x128 .f32) (a : Vec F S1x512x128 .f32) (X : Vec F S2x512x128 .f32) (L : List (View.Piece (Elt F) S2x512x128 .f32)) (inb0 inbX inb) :
    v.readCov ((⟨Rect.unit (s := S2x512x128) ![0, 0, 0] (no_index S1x512x128.size) inb0, a⟩ : View.Piece (Elt F) S2x512x128 .f32) ::
      (⟨Rect.unit (s := S2x512x128) ![0, 0, 0] (no_index S2x512x128.size) inbX, X⟩ : View.Piece (Elt F) S2x512x128 .f32) :: L)
      (Rect.unit (s := S2x512x128) ![1, 0, 0] (no_index S1x512x128.size) inb).toLoadRect = half 1 X := by
  rw [← cov_init1 v X L inbX inb]
  funext x
  refine View.read_writes_cons_unit_of_not_mem v v.junk inb0 a _ _ rfl 0 (Or.inr ?_)
  have : (x 0).val < 1 := (x 0).isLt
  show 0 + 1 ≤ _
  rw [LoadRect.idx]
  show 0 + 1 ≤ 1 + 1 * (x 0).val
  omega

end Cert.KernelIdeal.Gen

end
-- ==== Proof.Attn.RunA.lean ====
/- The attention kernel's body at one kind of point: what it leaves in its buffers. -/
module

public import proofs.«01_k».proof.Proof.Attn.Block

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 1600000 in
/-- The first tile of a row, on the diagonal: the carried buffers restart, one diagonal step, the quotient written. -/
theorem runA (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S1x8x512 .f32) (harg8 : arg8.IsWhole) (arg9 : Memref sig .tc .vmem S512x128 .bf16) (harg9 : arg9.IsWhole) (arg10 : Memref sig .tc .vmem S2x512x128 .f32) (harg10 : arg10.IsWhole) (arg11 : Memref sig .tc .vmem S2x512x128 .f32) (harg11 : arg11.IsWhole) (arg12 : Memref sig .tc .vmem S2x512x128 .f32) (harg12 : arg12.IsWhole) (arg13 : Memref sig .tc .vmem S2x512x128 .f32) (harg13 : arg13.IsWhole) (hc0 : cond0_0 i) (hc1 : ¬ cond0_1 i) (hc2 : cond0_2 i)
    (x0 : Vec F S512x128 .bf16) (x1 : Vec F S512x128 .bf16) (x2 : Vec F S512x128 .bf16) (x3 : Vec F S1x512x128 .f32) (x4 : Vec F S1x8x512 .f32) (xs0 : Vec F S2x512x128 .f32) (xs1 : Vec F S2x512x128 .f32) (xs2 : Vec F S2x512x128 .f32) (xs3 : Vec F S2x512x128 .f32)  (d : Vec F S512x128 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare d ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (outBlk (aNext (scDiag (i 1) x0 x1 x4 (fInit (i 1) x3)) mInit zInit x2) (lNext (scDiag (i 1) x0 x1 x4 (fInit (i 1) x3)) mInit zInit)) ∗ owns (c : Thread nD τ) arg10 fullShare (mNext (scDiag (i 1) x0 x1 x4 (fInit (i 1) x3)) mInit) ∗ owns (c : Thread nD τ) arg11 fullShare (lNext (scDiag (i 1) x0 x1 x4 (fInit (i 1) x3)) mInit zInit) ∗ owns (c : Thread nD τ) arg12 fullShare (aNext (scDiag (i 1) x0 x1 x4 (fInit (i 1) x3)) mInit zInit x2) ∗ owns (c : Thread nD τ) arg13 fullShare (fInit (i 1) x3)) -∗ K ⟨⟩))
          ⊢ wp frame (wpE (defs₀ (F := F)) Variants.none c none) E (cc0_fox_attention i arg4 harg4 arg5 harg5 arg6 harg6 arg7 harg7 arg8 harg8 arg9 harg9 arg10 harg10 arg11 harg11 arg12 harg12 arg13 harg13) K := by
    simp only [cc0_fox_attention_eq_skeleton]; unfold cc0_fox_attention_skel
    simp only [k0_part1_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1; obtain rfl := harg12.eq_unread hfs2; obtain rfl := harg13.eq_unread hfs3
    sl_exec (disch := first | sl_exact hc0 | sl_exact hc1 | sl_exact hc2)
    sl_step
    iapply Hk
    isplitl [H0]
    · iexists _; isplitr
      · ipureintro; exact hf0
      · iexact H0
    isplitl [H1]
    · iexists _; isplitr
      · ipureintro; exact hf1
      · iexact H1
    isplitl [H2]
    · iexists _; isplitr
      · ipureintro; exact hf2
      · iexact H2
    isplitl [H3]
    · iexists _; isplitr
      · ipureintro; exact hf3
      · iexact H3
    isplitl [H4]
    · iexists _; isplitr
      · ipureintro; exact hf4
      · iexact H4
    isplitl [H5]
    · iexists _; isplitr
      rotate_left
      · iexact H5
      · ipureintro
        delta runA.sl.HS2_3 runA.sl.v166 runA.sl.HS2_2 runA.sl.r_9 runA.sl.r_12 runA.sl.r_8 runA.sl.cst_37 runA.sl.r_7 runA.sl.HS1_3 runA.sl.HS2_1 runA.sl.r_10 runA.sl.v185 runA.sl.r_13 runA.sl.HS1_2 runA.sl.HS0_2 runA.sl.v144 runA.sl.v128 runA.sl.v75 runA.sl.v54 runA.sl.v156 runA.sl.r_5 runA.sl.r_3 runA.sl.r_2 runA.sl.v182 runA.sl.HS1_1 runA.sl.v187 runA.sl.r_4 runA.sl.r runA.sl.v127 runA.sl.r_6 runA.sl.v135 runA.sl.r_11 runA.sl.v63 runA.sl.r_1 runA.sl.HS3_2 runA.sl.v180 runA.sl.v85 runA.sl.HS0_1; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; refine (read_all _ _ _ _ _).trans ?_; unfold outBlk aNext lNext scDiag fInit; simp only [half_two0, half_two1]; rfl
    isplitl [HS0]
    · iexists _; isplitr
      rotate_left
      · iexact HS0
      · ipureintro
        delta runA.sl.HS2_3 runA.sl.v166 runA.sl.HS2_2 runA.sl.r_9 runA.sl.r_12 runA.sl.r_8 runA.sl.cst_37 runA.sl.r_7 runA.sl.HS1_3 runA.sl.HS2_1 runA.sl.r_10 runA.sl.v185 runA.sl.r_13 runA.sl.HS1_2 runA.sl.HS0_2 runA.sl.v144 runA.sl.v128 runA.sl.v75 runA.sl.v54 runA.sl.v156 runA.sl.r_5 runA.sl.r_3 runA.sl.r_2 runA.sl.v182 runA.sl.HS1_1 runA.sl.v187 runA.sl.r_4 runA.sl.r runA.sl.v127 runA.sl.r_6 runA.sl.v135 runA.sl.r_11 runA.sl.v63 runA.sl.r_1 runA.sl.HS3_2 runA.sl.v180 runA.sl.v85 runA.sl.HS0_1; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; refine (read_two _ _ _ _ _ _ _).trans ?_; unfold mNext scDiag fInit; simp only [half_two0, half_two1]; rfl
    isplitl [HS1]
    · iexists _; isplitr
      rotate_left
      · iexact HS1
      · ipureintro
        delta runA.sl.HS2_3 runA.sl.v166 runA.sl.HS2_2 runA.sl.r_9 runA.sl.r_12 runA.sl.r_8 runA.sl.cst_37 runA.sl.r_7 runA.sl.HS1_3 runA.sl.HS2_1 runA.sl.r_10 runA.sl.v185 runA.sl.r_13 runA.sl.HS1_2 runA.sl.HS0_2 runA.sl.v144 runA.sl.v128 runA.sl.v75 runA.sl.v54 runA.sl.v156 runA.sl.r_5 runA.sl.r_3 runA.sl.r_2 runA.sl.v182 runA.sl.HS1_1 runA.sl.v187 runA.sl.r_4 runA.sl.r runA.sl.v127 runA.sl.r_6 runA.sl.v135 runA.sl.r_11 runA.sl.v63 runA.sl.r_1 runA.sl.HS3_2 runA.sl.v180 runA.sl.v85 runA.sl.HS0_1; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; refine (read_two _ _ _ _ _ _ _).trans ?_; unfold lNext scDiag fInit; simp only [half_two0, half_two1]; rfl
    isplitl [HS2]
    · iexists _; isplitr
      rotate_left
      · iexact HS2
      · ipureintro
        delta runA.sl.HS2_3 runA.sl.v166 runA.sl.HS2_2 runA.sl.r_9 runA.sl.r_12 runA.sl.r_8 runA.sl.cst_37 runA.sl.r_7 runA.sl.HS1_3 runA.sl.HS2_1 runA.sl.r_10 runA.sl.v185 runA.sl.r_13 runA.sl.HS1_2 runA.sl.HS0_2 runA.sl.v144 runA.sl.v128 runA.sl.v75 runA.sl.v54 runA.sl.v156 runA.sl.r_5 runA.sl.r_3 runA.sl.r_2 runA.sl.v182 runA.sl.HS1_1 runA.sl.v187 runA.sl.r_4 runA.sl.r runA.sl.v127 runA.sl.r_6 runA.sl.v135 runA.sl.r_11 runA.sl.v63 runA.sl.r_1 runA.sl.HS3_2 runA.sl.v180 runA.sl.v85 runA.sl.HS0_1; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; refine (read_two _ _ _ _ _ _ _).trans ?_; unfold aNext scDiag fInit; simp only [half_two0, half_two1]; rfl
    iexists _; isplitr
    rotate_left
    · iexact HS3
    · ipureintro
      delta runA.sl.HS2_3 runA.sl.v166 runA.sl.HS2_2 runA.sl.r_9 runA.sl.r_12 runA.sl.r_8 runA.sl.cst_37 runA.sl.r_7 runA.sl.HS1_3 runA.sl.HS2_1 runA.sl.r_10 runA.sl.v185 runA.sl.r_13 runA.sl.HS1_2 runA.sl.HS0_2 runA.sl.v144 runA.sl.v128 runA.sl.v75 runA.sl.v54 runA.sl.v156 runA.sl.r_5 runA.sl.r_3 runA.sl.r_2 runA.sl.v182 runA.sl.HS1_1 runA.sl.v187 runA.sl.r_4 runA.sl.r runA.sl.v127 runA.sl.r_6 runA.sl.v135 runA.sl.r_11 runA.sl.v63 runA.sl.r_1 runA.sl.HS3_2 runA.sl.v180 runA.sl.v85 runA.sl.HS0_1; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; exact (read_two _ _ _ _ _ _ _).trans rfl

end Cert.KernelIdeal.Gen

end
-- ==== Proof.Attn.RunB.lean ====
/- The attention kernel's body at one kind of point: what it leaves in its buffers. -/
module

public import proofs.«01_k».proof.Proof.Attn.Block

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 1600000 in
/-- A tile above the diagonal: nothing is done. -/
theorem runB (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S1x8x512 .f32) (harg8 : arg8.IsWhole) (arg9 : Memref sig .tc .vmem S512x128 .bf16) (harg9 : arg9.IsWhole) (arg10 : Memref sig .tc .vmem S2x512x128 .f32) (harg10 : arg10.IsWhole) (arg11 : Memref sig .tc .vmem S2x512x128 .f32) (harg11 : arg11.IsWhole) (arg12 : Memref sig .tc .vmem S2x512x128 .f32) (harg12 : arg12.IsWhole) (arg13 : Memref sig .tc .vmem S2x512x128 .f32) (harg13 : arg13.IsWhole) (hc0 : ¬ cond0_0 i) (hc1 : ¬ cond0_1 i) (hc2 : ¬ cond0_2 i)
    (x0 : Vec F S512x128 .bf16) (x1 : Vec F S512x128 .bf16) (x2 : Vec F S512x128 .bf16) (x3 : Vec F S1x512x128 .f32) (x4 : Vec F S1x8x512 .f32) (xs0 : Vec F S2x512x128 .f32) (xs1 : Vec F S2x512x128 .f32) (xs2 : Vec F S2x512x128 .f32) (xs3 : Vec F S2x512x128 .f32)  (d : Vec F S512x128 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare d ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare d ∗ owns (c : Thread nD τ) arg10 fullShare xs0 ∗ owns (c : Thread nD τ) arg11 fullShare xs1 ∗ owns (c : Thread nD τ) arg12 fullShare xs2 ∗ owns (c : Thread nD τ) arg13 fullShare xs3) -∗ K ⟨⟩))
          ⊢ wp frame (wpE (defs₀ (F := F)) Variants.none c none) E (cc0_fox_attention i arg4 harg4 arg5 harg5 arg6 harg6 arg7 harg7 arg8 harg8 arg9 harg9 arg10 harg10 arg11 harg11 arg12 harg12 arg13 harg13) K := by
    simp only [cc0_fox_attention_eq_skeleton]; unfold cc0_fox_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1; obtain rfl := harg12.eq_unread hfs2; obtain rfl := harg13.eq_unread hfs3
    sl_exec (disch := first | sl_exact hc0 | sl_exact hc1 | sl_exact hc2)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [HS0]; · iexists _; isplitr; · ipureintro; exact hfs0
                     iexact HS0
    isplitl [HS1]; · iexists _; isplitr; · ipureintro; exact hfs1
                     iexact HS1
    isplitl [HS2]; · iexists _; isplitr; · ipureintro; exact hfs2
                     iexact HS2
    iexists _; isplitr; · ipureintro; exact hfs3
    iexact HS3

end Cert.KernelIdeal.Gen

end
-- ==== Proof.Attn.RunC.lean ====
/- The attention kernel's body at one kind of point: what it leaves in its buffers. -/
module

public import proofs.«01_k».proof.Proof.Attn.Block

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 1600000 in
/-- The first tile of a row, below the diagonal: the carried buffers restart, one step. -/
theorem runC (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S1x8x512 .f32) (harg8 : arg8.IsWhole) (arg9 : Memref sig .tc .vmem S512x128 .bf16) (harg9 : arg9.IsWhole) (arg10 : Memref sig .tc .vmem S2x512x128 .f32) (harg10 : arg10.IsWhole) (arg11 : Memref sig .tc .vmem S2x512x128 .f32) (harg11 : arg11.IsWhole) (arg12 : Memref sig .tc .vmem S2x512x128 .f32) (harg12 : arg12.IsWhole) (arg13 : Memref sig .tc .vmem S2x512x128 .f32) (harg13 : arg13.IsWhole) (hc0 : cond0_0 i) (hc1 : cond0_1 i) (hc2 : ¬ cond0_2 i)
    (x0 : Vec F S512x128 .bf16) (x1 : Vec F S512x128 .bf16) (x2 : Vec F S512x128 .bf16) (x3 : Vec F S1x512x128 .f32) (x4 : Vec F S1x8x512 .f32) (xs0 : Vec F S2x512x128 .f32) (xs1 : Vec F S2x512x128 .f32) (xs2 : Vec F S2x512x128 .f32) (xs3 : Vec F S2x512x128 .f32)  (d : Vec F S512x128 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare d ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare d ∗ owns (c : Thread nD τ) arg10 fullShare (mNext (scBelow (i 1) x0 x1 x4 (fInit (i 1) x3)) mInit) ∗ owns (c : Thread nD τ) arg11 fullShare (lNext (scBelow (i 1) x0 x1 x4 (fInit (i 1) x3)) mInit zInit) ∗ owns (c : Thread nD τ) arg12 fullShare (aNext (scBelow (i 1) x0 x1 x4 (fInit (i 1) x3)) mInit zInit x2) ∗ owns (c : Thread nD τ) arg13 fullShare (fInit (i 1) x3)) -∗ K ⟨⟩))
          ⊢ wp frame (wpE (defs₀ (F := F)) Variants.none c none) E (cc0_fox_attention i arg4 harg4 arg5 harg5 arg6 harg6 arg7 harg7 arg8 harg8 arg9 harg9 arg10 harg10 arg11 harg11 arg12 harg12 arg13 harg13) K := by
    simp only [cc0_fox_attention_eq_skeleton]; unfold cc0_fox_attention_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1; obtain rfl := harg12.eq_unread hfs2; obtain rfl := harg13.eq_unread hfs3
    sl_exec (disch := first | sl_exact hc0 | sl_exact hc1 | sl_exact hc2)
    sl_step
    iapply Hk
    isplitl [H0]
    · iexists _; isplitr
      · ipureintro; exact hf0
      · iexact H0
    isplitl [H1]
    · iexists _; isplitr
      · ipureintro; exact hf1
      · iexact H1
    isplitl [H2]
    · iexists _; isplitr
      · ipureintro; exact hf2
      · iexact H2
    isplitl [H3]
    · iexists _; isplitr
      · ipureintro; exact hf3
      · iexact H3
    isplitl [H4]
    · iexists _; isplitr
      · ipureintro; exact hf4
      · iexact H4
    isplitl [H5]
    · iexists _; isplitr
      rotate_left
      · iexact H5
      · ipureintro
        exact hf5
    isplitl [HS0]
    · iexists _; isplitr
      rotate_left
      · iexact HS0
      · ipureintro
        delta runC.sl.r_10 runC.sl.HS1_2 runC.sl.HS0_2 runC.sl.cst_18 runC.sl.v130 runC.sl.v58 runC.sl.r_11 runC.sl.r_1 runC.sl.r_5 runC.sl.v159 runC.sl.v149 runC.sl.r_3 runC.sl.r_4 runC.sl.r runC.sl.r_12 runC.sl.v80 runC.sl.r_6 runC.sl.r_7 runC.sl.HS2_1 runC.sl.HS3_2 runC.sl.HS0_1 runC.sl.HS2_2 runC.sl.v70 runC.sl.r_9 runC.sl.v137 runC.sl.r_8 runC.sl.HS1_1 runC.sl.r_2 runC.sl.v51; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; refine (read_two _ _ _ _ _ _ _).trans ?_; unfold mNext scBelow fInit; simp only [half_two0, half_two1]; rfl
    isplitl [HS1]
    · iexists _; isplitr
      rotate_left
      · iexact HS1
      · ipureintro
        delta runC.sl.r_10 runC.sl.HS1_2 runC.sl.HS0_2 runC.sl.cst_18 runC.sl.v130 runC.sl.v58 runC.sl.r_11 runC.sl.r_1 runC.sl.r_5 runC.sl.v159 runC.sl.v149 runC.sl.r_3 runC.sl.r_4 runC.sl.r runC.sl.r_12 runC.sl.v80 runC.sl.r_6 runC.sl.r_7 runC.sl.HS2_1 runC.sl.HS3_2 runC.sl.HS0_1 runC.sl.HS2_2 runC.sl.v70 runC.sl.r_9 runC.sl.v137 runC.sl.r_8 runC.sl.HS1_1 runC.sl.r_2 runC.sl.v51; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; refine (read_two _ _ _ _ _ _ _).trans ?_; unfold lNext scBelow fInit; simp only [half_two0, half_two1]; rfl
    isplitl [HS2]
    · iexists _; isplitr
      rotate_left
      · iexact HS2
      · ipureintro
        delta runC.sl.r_10 runC.sl.HS1_2 runC.sl.HS0_2 runC.sl.cst_18 runC.sl.v130 runC.sl.v58 runC.sl.r_11 runC.sl.r_1 runC.sl.r_5 runC.sl.v159 runC.sl.v149 runC.sl.r_3 runC.sl.r_4 runC.sl.r runC.sl.r_12 runC.sl.v80 runC.sl.r_6 runC.sl.r_7 runC.sl.HS2_1 runC.sl.HS3_2 runC.sl.HS0_1 runC.sl.HS2_2 runC.sl.v70 runC.sl.r_9 runC.sl.v137 runC.sl.r_8 runC.sl.HS1_1 runC.sl.r_2 runC.sl.v51; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; refine (read_two _ _ _ _ _ _ _).trans ?_; unfold aNext scBelow fInit; simp only [half_two0, half_two1]; rfl
    iexists _; isplitr
    rotate_left
    · iexact HS3
    · ipureintro
      delta runC.sl.r_10 runC.sl.HS1_2 runC.sl.HS0_2 runC.sl.cst_18 runC.sl.v130 runC.sl.v58 runC.sl.r_11 runC.sl.r_1 runC.sl.r_5 runC.sl.v159 runC.sl.v149 runC.sl.r_3 runC.sl.r_4 runC.sl.r runC.sl.r_12 runC.sl.v80 runC.sl.r_6 runC.sl.r_7 runC.sl.HS2_1 runC.sl.HS3_2 runC.sl.HS0_1 runC.sl.HS2_2 runC.sl.v70 runC.sl.r_9 runC.sl.v137 runC.sl.r_8 runC.sl.HS1_1 runC.sl.r_2 runC.sl.v51; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; exact (read_two _ _ _ _ _ _ _).trans rfl

end Cert.KernelIdeal.Gen

end
-- ==== Proof.Attn.RunD.lean ====
/- The attention kernel's body at one kind of point: what it leaves in its buffers. -/
module

public import proofs.«01_k».proof.Proof.Attn.Block

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 1600000 in
/-- A later tile on the diagonal: one diagonal step, the quotient written. -/
theorem runD (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S1x8x512 .f32) (harg8 : arg8.IsWhole) (arg9 : Memref sig .tc .vmem S512x128 .bf16) (harg9 : arg9.IsWhole) (arg10 : Memref sig .tc .vmem S2x512x128 .f32) (harg10 : arg10.IsWhole) (arg11 : Memref sig .tc .vmem S2x512x128 .f32) (harg11 : arg11.IsWhole) (arg12 : Memref sig .tc .vmem S2x512x128 .f32) (harg12 : arg12.IsWhole) (arg13 : Memref sig .tc .vmem S2x512x128 .f32) (harg13 : arg13.IsWhole) (hc0 : ¬ cond0_0 i) (hc1 : ¬ cond0_1 i) (hc2 : cond0_2 i)
    (x0 : Vec F S512x128 .bf16) (x1 : Vec F S512x128 .bf16) (x2 : Vec F S512x128 .bf16) (x3 : Vec F S1x512x128 .f32) (x4 : Vec F S1x8x512 .f32) (xs0 : Vec F S2x512x128 .f32) (xs1 : Vec F S2x512x128 .f32) (xs2 : Vec F S2x512x128 .f32) (xs3 : Vec F S2x512x128 .f32)  (d : Vec F S512x128 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare d ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (outBlk (aNext (scDiag (i 1) x0 x1 x4 xs3) xs0 xs2 x2) (lNext (scDiag (i 1) x0 x1 x4 xs3) xs0 xs1)) ∗ owns (c : Thread nD τ) arg10 fullShare (mNext (scDiag (i 1) x0 x1 x4 xs3) xs0) ∗ owns (c : Thread nD τ) arg11 fullShare (lNext (scDiag (i 1) x0 x1 x4 xs3) xs0 xs1) ∗ owns (c : Thread nD τ) arg12 fullShare (aNext (scDiag (i 1) x0 x1 x4 xs3) xs0 xs2 x2) ∗ owns (c : Thread nD τ) arg13 fullShare xs3) -∗ K ⟨⟩))
          ⊢ wp frame (wpE (defs₀ (F := F)) Variants.none c none) E (cc0_fox_attention i arg4 harg4 arg5 harg5 arg6 harg6 arg7 harg7 arg8 harg8 arg9 harg9 arg10 harg10 arg11 harg11 arg12 harg12 arg13 harg13) K := by
    simp only [cc0_fox_attention_eq_skeleton]; unfold cc0_fox_attention_skel
    simp only [k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1; obtain rfl := harg12.eq_unread hfs2; obtain rfl := harg13.eq_unread hfs3
    sl_exec (disch := first | sl_exact hc0 | sl_exact hc1 | sl_exact hc2)
    sl_step
    iapply Hk
    isplitl [H0]
    · iexists _; isplitr
      · ipureintro; exact hf0
      · iexact H0
    isplitl [H1]
    · iexists _; isplitr
      · ipureintro; exact hf1
      · iexact H1
    isplitl [H2]
    · iexists _; isplitr
      · ipureintro; exact hf2
      · iexact H2
    isplitl [H3]
    · iexists _; isplitr
      · ipureintro; exact hf3
      · iexact H3
    isplitl [H4]
    · iexists _; isplitr
      · ipureintro; exact hf4
      · iexact H4
    isplitl [H5]
    · iexists _; isplitr
      rotate_left
      · iexact H5
      · ipureintro
        delta runD.sl.HS1_2 runD.sl.v185 runD.sl.r_10 runD.sl.v182 runD.sl.r_2 runD.sl.r_3 runD.sl.r_5 runD.sl.v166 runD.sl.v180 runD.sl.v128 runD.sl.v127 runD.sl.r_6 runD.sl.r_7 runD.sl.cst_37 runD.sl.r_8 runD.sl.r_4 runD.sl.r runD.sl.v187 runD.sl.HS2_2 runD.sl.r_9 runD.sl.v156 runD.sl.r_11 runD.sl.r_1 runD.sl.v144; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; refine (read_all _ _ _ _ _).trans ?_; unfold outBlk aNext lNext; simp only [half_two0, half_two1]; rfl
    isplitl [HS0]
    · iexists _; isplitr
      rotate_left
      · iexact HS0
      · ipureintro
        delta runD.sl.HS1_2 runD.sl.v185 runD.sl.r_10 runD.sl.v182 runD.sl.r_2 runD.sl.r_3 runD.sl.r_5 runD.sl.v166 runD.sl.v180 runD.sl.v128 runD.sl.v127 runD.sl.r_6 runD.sl.r_7 runD.sl.cst_37 runD.sl.r_8 runD.sl.r_4 runD.sl.r runD.sl.v187 runD.sl.HS2_2 runD.sl.r_9 runD.sl.v156 runD.sl.r_11 runD.sl.r_1 runD.sl.v144; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; exact (read_two _ _ _ _ _ _ _).trans rfl
    isplitl [HS1]
    · iexists _; isplitr
      rotate_left
      · iexact HS1
      · ipureintro
        delta runD.sl.HS1_2 runD.sl.v185 runD.sl.r_10 runD.sl.v182 runD.sl.r_2 runD.sl.r_3 runD.sl.r_5 runD.sl.v166 runD.sl.v180 runD.sl.v128 runD.sl.v127 runD.sl.r_6 runD.sl.r_7 runD.sl.cst_37 runD.sl.r_8 runD.sl.r_4 runD.sl.r runD.sl.v187 runD.sl.HS2_2 runD.sl.r_9 runD.sl.v156 runD.sl.r_11 runD.sl.r_1 runD.sl.v144; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; exact (read_two _ _ _ _ _ _ _).trans rfl
    isplitl [HS2]
    · iexists _; isplitr
      rotate_left
      · iexact HS2
      · ipureintro
        delta runD.sl.HS1_2 runD.sl.v185 runD.sl.r_10 runD.sl.v182 runD.sl.r_2 runD.sl.r_3 runD.sl.r_5 runD.sl.v166 runD.sl.v180 runD.sl.v128 runD.sl.v127 runD.sl.r_6 runD.sl.r_7 runD.sl.cst_37 runD.sl.r_8 runD.sl.r_4 runD.sl.r runD.sl.v187 runD.sl.HS2_2 runD.sl.r_9 runD.sl.v156 runD.sl.r_11 runD.sl.r_1 runD.sl.v144; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; exact (read_two _ _ _ _ _ _ _).trans rfl
    iexists _; isplitr
    rotate_left
    · iexact HS3
    · ipureintro
      exact hfs3

end Cert.KernelIdeal.Gen

end
-- ==== Proof.Attn.RunE.lean ====
/- The attention kernel's body at one kind of point: what it leaves in its buffers. -/
module

public import proofs.«01_k».proof.Proof.Attn.Block

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 1600000 in
/-- A later tile below the diagonal: one step. -/
theorem runE (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x512x128 .f32) (harg7 : arg7.IsWhole) (arg8 : Memref sig .tc .vmem S1x8x512 .f32) (harg8 : arg8.IsWhole) (arg9 : Memref sig .tc .vmem S512x128 .bf16) (harg9 : arg9.IsWhole) (arg10 : Memref sig .tc .vmem S2x512x128 .f32) (harg10 : arg10.IsWhole) (arg11 : Memref sig .tc .vmem S2x512x128 .f32) (harg11 : arg11.IsWhole) (arg12 : Memref sig .tc .vmem S2x512x128 .f32) (harg12 : arg12.IsWhole) (arg13 : Memref sig .tc .vmem S2x512x128 .f32) (harg13 : arg13.IsWhole) (hc0 : ¬ cond0_0 i) (hc1 : cond0_1 i) (hc2 : ¬ cond0_2 i)
    (x0 : Vec F S512x128 .bf16) (x1 : Vec F S512x128 .bf16) (x2 : Vec F S512x128 .bf16) (x3 : Vec F S1x512x128 .f32) (x4 : Vec F S1x8x512 .f32) (xs0 : Vec F S2x512x128 .f32) (xs1 : Vec F S2x512x128 .f32) (xs2 : Vec F S2x512x128 .f32) (xs3 : Vec F S2x512x128 .f32)  (d : Vec F S512x128 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare d ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare d ∗ owns (c : Thread nD τ) arg10 fullShare (mNext (scBelow (i 1) x0 x1 x4 xs3) xs0) ∗ owns (c : Thread nD τ) arg11 fullShare (lNext (scBelow (i 1) x0 x1 x4 xs3) xs0 xs1) ∗ owns (c : Thread nD τ) arg12 fullShare (aNext (scBelow (i 1) x0 x1 x4 xs3) xs0 xs2 x2) ∗ owns (c : Thread nD τ) arg13 fullShare xs3) -∗ K ⟨⟩))
          ⊢ wp frame (wpE (defs₀ (F := F)) Variants.none c none) E (cc0_fox_attention i arg4 harg4 arg5 harg5 arg6 harg6 arg7 harg7 arg8 harg8 arg9 harg9 arg10 harg10 arg11 harg11 arg12 harg12 arg13 harg13) K := by
    simp only [cc0_fox_attention_eq_skeleton]; unfold cc0_fox_attention_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hfs0; obtain rfl := harg11.eq_unread hfs1; obtain rfl := harg12.eq_unread hfs2; obtain rfl := harg13.eq_unread hfs3
    sl_exec (disch := first | sl_exact hc0 | sl_exact hc1 | sl_exact hc2)
    sl_step
    iapply Hk
    isplitl [H0]
    · iexists _; isplitr
      · ipureintro; exact hf0
      · iexact H0
    isplitl [H1]
    · iexists _; isplitr
      · ipureintro; exact hf1
      · iexact H1
    isplitl [H2]
    · iexists _; isplitr
      · ipureintro; exact hf2
      · iexact H2
    isplitl [H3]
    · iexists _; isplitr
      · ipureintro; exact hf3
      · iexact H3
    isplitl [H4]
    · iexists _; isplitr
      · ipureintro; exact hf4
      · iexact H4
    isplitl [H5]
    · iexists _; isplitr
      rotate_left
      · iexact H5
      · ipureintro
        exact hf5
    isplitl [HS0]
    · iexists _; isplitr
      rotate_left
      · iexact HS0
      · ipureintro
        delta runE.sl.r_9 runE.sl.r_7 runE.sl.cst_18 runE.sl.r_10 runE.sl.v137 runE.sl.r_3 runE.sl.v149 runE.sl.r_5 runE.sl.v159 runE.sl.r_11 runE.sl.r_1 runE.sl.r_6 runE.sl.r_2 runE.sl.r_8 runE.sl.r_4 runE.sl.r; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; exact (read_two _ _ _ _ _ _ _).trans rfl
    isplitl [HS1]
    · iexists _; isplitr
      rotate_left
      · iexact HS1
      · ipureintro
        delta runE.sl.r_9 runE.sl.r_7 runE.sl.cst_18 runE.sl.r_10 runE.sl.v137 runE.sl.r_3 runE.sl.v149 runE.sl.r_5 runE.sl.v159 runE.sl.r_11 runE.sl.r_1 runE.sl.r_6 runE.sl.r_2 runE.sl.r_8 runE.sl.r_4 runE.sl.r; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; exact (read_two _ _ _ _ _ _ _).trans rfl
    isplitl [HS2]
    · iexists _; isplitr
      rotate_left
      · iexact HS2
      · ipureintro
        delta runE.sl.r_9 runE.sl.r_7 runE.sl.cst_18 runE.sl.r_10 runE.sl.v137 runE.sl.r_3 runE.sl.v149 runE.sl.r_5 runE.sl.v159 runE.sl.r_11 runE.sl.r_1 runE.sl.r_6 runE.sl.r_2 runE.sl.r_8 runE.sl.r_4 runE.sl.r; simp only [load_half0, load_half1, load_all, load_gates, load_row _ _ _ _ _ (i 1) 0 (off1_0 i), load_row _ _ _ _ _ (i 1) 1 (off1_1 i), load_row _ _ _ _ _ (i 1) 0 (off2_0 i), load_row _ _ _ _ _ (i 1) 1 (off2_1 i), cov_two0, cov_two1, cov_init0, cov_init1, cov_skip]; exact (read_two _ _ _ _ _ _ _).trans rfl
    iexists _; isplitr
    rotate_left
    · iexact HS3
    · ipureintro
      exact hfs3

end Cert.KernelIdeal.Gen

end
-- ==== Proof.Attn.Body.lean ====
/- The attention kernel's run: the carried buffers named point by point, the output's block named from the diagonal on. -/
module

public import proofs.«01_k».proof.Proof.Attn.RunA
public import proofs.«01_k».proof.Proof.Attn.RunB
public import proofs.«01_k».proof.Proof.Attn.RunC
public import proofs.«01_k».proof.Proof.Attn.RunD
public import proofs.«01_k».proof.Proof.Attn.RunE
public import Idealize.ShloMosaic.Lib.Pipeline.DatRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The four carried buffers' contents: running maxima, sums of weights, weighted values, the queries' decays. -/
abbrev Carry (F : FTy → Type) : Type := Vec F S2x512x128 .f32 × Vec F S2x512x128 .f32 × Vec F S2x512x128 .f32 × Vec F S2x512x128 .f32

/-- What a point starts from: at the first tile of a row of points the buffers restart. -/
def startAt (c : Dev nD) (t : Fin cfg0.N) (s : Carry F) : Carry F :=
  if t.val % 8 = 0 then (mInit, zInit, zInit, fInit (grid0.coords t 1) (iblk m c 3 t)) else s

/-- One step from given contents with given scores. -/
def stepWith (sc : Fin 2 → FVec F S512x512 .f32) (v : Vec F S512x128 .bf16) (s : Carry F) : Carry F :=
  (mNext sc s.1, lNext sc s.1 s.2.1, aNext sc s.1 s.2.2.1 v, s.2.2.2)

/-- What a point leaves in the carried buffers. -/
def stepAt (c : Dev nD) (t : Fin cfg0.N) (s : Carry F) : Carry F :=
  if t.val / 8 % 8 < t.val % 8 then startAt m c t s
  else if t.val / 8 % 8 = t.val % 8 then
    stepWith (scDiag (grid0.coords t 1) (iblk m c 0 t) (iblk m c 1 t) (iblk m c 4 t) (startAt m c t s).2.2.2) (iblk m c 2 t) (startAt m c t s)
  else stepWith (scBelow (grid0.coords t 1) (iblk m c 0 t) (iblk m c 1 t) (iblk m c 4 t) (startAt m c t s).2.2.2) (iblk m c 2 t) (startAt m c t s)

/-- What a point leaves in the output's buffer. -/
def outAfter (c : Dev nD) (t : Fin cfg0.N) (s : Carry F) (d : Vec F S512x128 .bf16) : Vec F S512x128 .bf16 :=
  if t.val / 8 % 8 = t.val % 8 then outBlk (stepAt m c t s).2.2.1 (stepAt m c t s).2.1 else d

/-- The body at any point, from any contents of the carried buffers and of the output's. -/
theorem point (c : Dev nD) (t : Fin cfg0.N) (s : Carry F) (d : Vec F S512x128 .bf16) (E : Set ℕ) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare d ∗ owns (c : Thread nD τ) scM0_0 fullShare (s).1 ∗ owns (c : Thread nD τ) scM0_1 fullShare (s).2.1 ∗ owns (c : Thread nD τ) scM0_2 fullShare (s).2.2.1 ∗ owns (c : Thread nD τ) scM0_3 fullShare (s).2.2.2
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (outAfter m c t s d) ∗ owns (c : Thread nD τ) scM0_0 fullShare (stepAt m c t s).1 ∗ owns (c : Thread nD τ) scM0_1 fullShare (stepAt m c t s).2.1 ∗ owns (c : Thread nD τ) scM0_2 fullShare (stepAt m c t s).2.2.1 ∗ owns (c : Thread nD τ) scM0_3 fullShare (stepAt m c t s).2.2.2) -∗ K ⟨⟩))
      ⊢ wp frame (wpE (defs₀ (F := F)) Variants.none c none) E (bodyAt0 t) K := by
  unfold bodyAt0
  by_cases h0 : t.val % 8 = 0
  · by_cases h2 : t.val / 8 % 8 = t.val % 8
    · have h1 : ¬t.val % 8 + 1 ≤ t.val / 8 % 8 := by omega
      have e : stepAt m c t s = stepWith (scDiag (grid0.coords t 1) (iblk m c 0 t) (iblk m c 1 t) (iblk m c 4 t) (fInit (grid0.coords t 1) (iblk m c 3 t))) (iblk m c 2 t) (mInit, zInit, zInit, fInit (grid0.coords t 1) (iblk m c 3 t)) := by
        unfold stepAt startAt; rw [if_neg (by omega), if_pos h2, if_pos h0]
      unfold outAfter; rw [if_pos h2, e]
      exact runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) s.1 s.2.1 s.2.2.1 s.2.2.2 d E K
    · have h1 : t.val % 8 + 1 ≤ t.val / 8 % 8 := by omega
      have e : stepAt m c t s = stepWith (scBelow (grid0.coords t 1) (iblk m c 0 t) (iblk m c 1 t) (iblk m c 4 t) (fInit (grid0.coords t 1) (iblk m c 3 t))) (iblk m c 2 t) (mInit, zInit, zInit, fInit (grid0.coords t 1) (iblk m c 3 t)) := by
        unfold stepAt startAt; rw [if_neg (by omega), if_neg h2, if_pos h0]
      unfold outAfter; rw [if_neg h2, e]
      exact runC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) s.1 s.2.1 s.2.2.1 s.2.2.2 d E K
  · by_cases h2 : t.val / 8 % 8 = t.val % 8
    · have h1 : ¬t.val % 8 + 1 ≤ t.val / 8 % 8 := by omega
      have e : stepAt m c t s = stepWith (scDiag (grid0.coords t 1) (iblk m c 0 t) (iblk m c 1 t) (iblk m c 4 t) s.2.2.2) (iblk m c 2 t) s := by
        unfold stepAt startAt; rw [if_neg (by omega), if_pos h2, if_neg h0]
      unfold outAfter; rw [if_pos h2, e]
      exact runD c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) s.1 s.2.1 s.2.2.1 s.2.2.2 d E K
    · by_cases h1 : t.val % 8 + 1 ≤ t.val / 8 % 8
      · have e : stepAt m c t s = stepWith (scBelow (grid0.coords t 1) (iblk m c 0 t) (iblk m c 1 t) (iblk m c 4 t) s.2.2.2) (iblk m c 2 t) s := by
          unfold stepAt startAt; rw [if_neg (by omega), if_neg h2, if_neg h0]
        unfold outAfter; rw [if_neg h2, e]
        exact runE c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) s.1 s.2.1 s.2.2.1 s.2.2.2 d E K
      · have e : stepAt m c t s = s := by
          unfold stepAt startAt; rw [if_pos (by omega), if_neg h0]
        unfold outAfter; rw [if_neg h2, e]
        exact runB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) s.1 s.2.1 s.2.2.1 s.2.2.2 d E K

/-- What the carried buffers hold after the point at position `n`. -/
def carried (c : Dev nD) : (n : ℕ) → n < cfg0.N → Carry F
  | 0, hn => stepAt m c ⟨0, hn⟩ (mInit, zInit, zInit, mInit)
  | n + 1, hn => stepAt m c ⟨n + 1, hn⟩ (carried c n (Nat.lt_of_succ_lt hn))

/-- At the first tile of a row of points what came before does not matter. -/
theorem stepAt_first (c : Dev nD) (t : Fin cfg0.N) (h : t.val % 8 = 0) (s s' : Carry F) : stepAt m c t s = stepAt m c t s' := by
  have e : startAt m c t s = startAt m c t s' := by unfold startAt; rw [if_pos h, if_pos h]
  unfold stepAt; rw [e]

theorem carried_zero (c : Dev nD) (n : ℕ) (hn : n < cfg0.N) (hz : n = 0) (s : Carry F) : carried m c n hn = stepAt m c ⟨n, hn⟩ s := by
  subst hz; exact stepAt_first m c _ rfl _ _

theorem carried_pos (c : Dev nD) (n : ℕ) (hn : n < cfg0.N) (hz : n ≠ 0) : carried m c n hn = stepAt m c ⟨n, hn⟩ (carried m c (n - 1) (by omega)) := by
  cases n with
  | zero => exact absurd rfl hz
  | succ n => rfl

/-- The output block of a point at or past the diagonal: the quotient of what the buffers then hold. -/
def outAt (c : Dev nD) (t : Fin cfg0.N) : Vec F S512x128 .bf16 := outBlk (carried m c t.val t.isLt).2.2.1 (carried m c t.val t.isLt).2.1

/-- The invariant: before the first point the buffers hold anything, afterwards what the point before left. -/
def PhiC (c : Dev nD) : (n : ℕ) → n ≤ cfg0.N → sProp 𝕄
  | 0, _ => Pipeline.ΦA spec0 c
  | n + 1, hn => iprop((owns (c : Thread nD τ) scM0_0 fullShare (carried m c n hn).1 ∗ owns (c : Thread nD τ) scM0_1 fullShare (carried m c n hn).2.1 ∗ owns (c : Thread nD τ) scM0_2 fullShare (carried m c n hn).2.2.1 ∗ owns (c : Thread nD τ) scM0_3 fullShare (carried m c n hn).2.2.2) ∗ (∃ r, prngReg c r))

theorem PhiC_zero (c : Dev nD) (n : ℕ) (h : n ≤ cfg0.N) (hz : n = 0) : PhiC m c n h = Pipeline.ΦA spec0 c := by
  subst hz; rfl
theorem PhiC_pos (c : Dev nD) (n : ℕ) (h : n ≤ cfg0.N) (hz : n ≠ 0) :
    PhiC m c n h = iprop((owns (c : Thread nD τ) scM0_0 fullShare (carried m c (n - 1) (by omega)).1 ∗ owns (c : Thread nD τ) scM0_1 fullShare (carried m c (n - 1) (by omega)).2.1 ∗ owns (c : Thread nD τ) scM0_2 fullShare (carried m c (n - 1) (by omega)).2.2.1 ∗ owns (c : Thread nD τ) scM0_3 fullShare (carried m c (n - 1) (by omega)).2.2.2) ∗ (∃ r, prngReg c r)) := by
  cases n with
  | zero => exact absurd rfl hz
  | succ n => rfl

/-- The window whose contents are named only from the diagonal on. -/
def marked : Fin 6 → Bool := fun w => w.val == 5

/-- The proof data: inputs keep their blocks, the invariant names the carried buffers. -/
def datC (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiC m c t.val (Nat.le_of_lt_succ t.isLt)
  q w := Pipeline.shareOf spec0 w
  owed _ := 0

/-- What a point leaves in the output's buffer: from the diagonal on, the row's block. -/
def relC (c : Dev nD) (w : Fin cfg0.W) (t : Fin cfg0.N) (X : (cfg0.win w).block.Idx → Elt F (cfg0.win w).elt) : Prop :=
  match w, X with
  | ⟨5, _⟩, X => t.val / 8 % 8 ≤ t.val % 8 → X = outAt m c t
  | _, _ => True

theorem A_eqC (c : Dev nD) (w : Fin cfg0.W) : (datC m c).A w = V m c (Pipeline.arrRef spec0 w) := by
  dsimp only [datC]
theorem PhiC_castSucc (c : Dev nD) (t : Fin cfg0.N) : (datC m c).Φ t.castSucc = PhiC m c t.val (Nat.le_of_lt t.isLt) := by
  dsimp only [datC]; exact Pipeline.Dat.Φ_castSucc (PhiC m c) t
theorem afterC_0 (c : Dev nD) (t : Fin cfg0.N) : (datC m c).after 0 t = iblk m c 0 t := by dsimp only [datC]
theorem beforeC_0 (c : Dev nD) (t : Fin cfg0.N) (d) : (datC m c).before 0 t d = iblk m c 0 t :=
  before0_0_of m (datC m c) (A_eqC m c 0) (afterC_0 m c) t d
theorem afterC_1 (c : Dev nD) (t : Fin cfg0.N) : (datC m c).after 1 t = iblk m c 1 t := by dsimp only [datC]
theorem beforeC_1 (c : Dev nD) (t : Fin cfg0.N) (d) : (datC m c).before 1 t d = iblk m c 1 t :=
  before0_1_of m (datC m c) (A_eqC m c 1) (afterC_1 m c) t d
theorem afterC_2 (c : Dev nD) (t : Fin cfg0.N) : (datC m c).after 2 t = iblk m c 2 t := by dsimp only [datC]
theorem beforeC_2 (c : Dev nD) (t : Fin cfg0.N) (d) : (datC m c).before 2 t d = iblk m c 2 t :=
  before0_2_of m (datC m c) (A_eqC m c 2) (afterC_2 m c) t d
theorem afterC_3 (c : Dev nD) (t : Fin cfg0.N) : (datC m c).after 3 t = iblk m c 3 t := by dsimp only [datC]
theorem beforeC_3 (c : Dev nD) (t : Fin cfg0.N) (d) : (datC m c).before 3 t d = iblk m c 3 t :=
  before0_3_of m (datC m c) (A_eqC m c 3) (afterC_3 m c) t d
theorem afterC_4 (c : Dev nD) (t : Fin cfg0.N) : (datC m c).after 4 t = iblk m c 4 t := by dsimp only [datC]
theorem beforeC_4 (c : Dev nD) (t : Fin cfg0.N) (d) : (datC m c).before 4 t d = iblk m c 4 t :=
  before0_4_of m (datC m c) (A_eqC m c 4) (afterC_4 m c) t d

/-- What the output's buffer holds when a point past the diagonal begins: the row's block. -/
theorem finds_row (c : Dev nD) (t : Fin cfg0.N) (h : t.val / 8 % 8 < t.val % 8) (Y) (hY : ((datC m c).toRRel marked (relC m c)).Finds 5 t Y) :
    Y = outAt m c t := by
  have hz : t.val ≠ 0 := by omega
  rcases (((datC m c).toRRel marked (relC m c)).finds_of_pos (w := 5) (t := t) rfl hz Y).mp hY with hf | hl
  · exact absurd ((flush0_5 _).mp hf) (by show ¬(t.val - 1) % 8 = 7; omega)
  · have hr := (datC m c).toRRel_leaves (w := 5) (by rfl) hl
    have hr' : Y = outAt m c ⟨t.val - 1, Nat.lt_of_le_of_lt (Nat.sub_le _ _) t.isLt⟩ := hr (by show (t.val - 1) / 8 % 8 ≤ (t.val - 1) % 8; omega)
    rw [hr']
    have e : carried m c t.val t.isLt = carried m c (t.val - 1) (by omega) := by
      rw [carried_pos m c t.val t.isLt hz]; unfold stepAt startAt
      rw [if_pos h, if_neg (show ¬t.val % 8 = 0 by omega)]
    unfold outAt; rw [e]

/-- What the body is called with at point `t`, -/
def bodyPreC (c : Dev nD) (t : Fin cfg0.N) : sProp 𝕄 :=
  iprop((datC m c).Φ t.castSucc ∗ (datC m c).owesAt () t.castSucc
    ∗ (∃ d, owns (c : Thread nD τ) (ms0_0 t) fullShare ((datC m c).before 0 t d))
    ∗ (∃ d, owns (c : Thread nD τ) (ms0_1 t) fullShare ((datC m c).before 1 t d))
    ∗ (∃ d, owns (c : Thread nD τ) (ms0_2 t) fullShare ((datC m c).before 2 t d))
    ∗ (∃ d, owns (c : Thread nD τ) (ms0_3 t) fullShare ((datC m c).before 3 t d))
    ∗ (∃ d, owns (c : Thread nD τ) (ms0_4 t) fullShare ((datC m c).before 4 t d))
    ∗ (∃ Y, ⌜((datC m c).toRRel marked (relC m c)).Finds 5 t Y⌝ ∗ owns (c : Thread nD τ) (ms0_5 t) fullShare Y))

/-- and what it returns. -/
def bodyPostC (c : Dev nD) (t : Fin cfg0.N) : sProp 𝕄 :=
  iprop((datC m c).Φ t.succ ∗ (datC m c).owesAt () t.succ
    ∗ (datC m c).leavesExact 0 t
    ∗ (datC m c).leavesExact 1 t
    ∗ (datC m c).leavesExact 2 t
    ∗ (datC m c).leavesExact 3 t
    ∗ (datC m c).leavesExact 4 t
    ∗ (∃ X, ⌜relC m c 5 t X⌝ ∗ owns (c : Thread nD τ) (ms0_5 t) fullShare X))

/-- The body takes the one to the other, from the carried buffers at contents whose step is the point's. -/
theorem soundFrom (c : Dev nD) (t : Fin cfg0.N) (s : Carry F) (hs : carried m c t.val t.isLt = stepAt m c t s) :
    iprop(((owns (c : Thread nD τ) scM0_0 fullShare (s).1 ∗ owns (c : Thread nD τ) scM0_1 fullShare (s).2.1 ∗ owns (c : Thread nD τ) scM0_2 fullShare (s).2.2.1 ∗ owns (c : Thread nD τ) scM0_3 fullShare (s).2.2.2) ∗ (∃ r, prngReg c r)) ∗ (datC m c).owesAt () t.castSucc
    ∗ (∃ d, owns (c : Thread nD τ) (ms0_0 t) fullShare ((datC m c).before 0 t d))
    ∗ (∃ d, owns (c : Thread nD τ) (ms0_1 t) fullShare ((datC m c).before 1 t d))
    ∗ (∃ d, owns (c : Thread nD τ) (ms0_2 t) fullShare ((datC m c).before 2 t d))
    ∗ (∃ d, owns (c : Thread nD τ) (ms0_3 t) fullShare ((datC m c).before 3 t d))
    ∗ (∃ d, owns (c : Thread nD τ) (ms0_4 t) fullShare ((datC m c).before 4 t d))
    ∗ (∃ Y, ⌜((datC m c).toRRel marked (relC m c)).Finds 5 t Y⌝ ∗ owns (c : Thread nD τ) (ms0_5 t) fullShare Y))
     ⊢ wp frame (wpE (defs₀ (F := F)) Variants.none c none) Set.univ (bodyAt0 t) (fun _ => bodyPostC m c t) := by
  unfold bodyPostC
  simp only [beforeC_0, beforeC_1, beforeC_2, beforeC_3, beforeC_4]
  rw [show (datC m c).owesAt () t.succ = (datC m c).owesAt () t.castSucc from rfl]
  rw [show (datC m c).Φ t.succ = PhiC m c (t.val + 1) t.isLt from rfl, PhiC_pos m c _ _ (Nat.succ_ne_zero _)]
  rw [show (datC m c).leavesExact 0 t = owns (c : Thread nD τ) (ms0_0 t) fullShare ((datC m c).after 0 t) from by
    unfold Dat.leavesExact; rw [liveAt0_0 t], afterC_0]
  rw [show (datC m c).leavesExact 1 t = owns (c : Thread nD τ) (ms0_1 t) fullShare ((datC m c).after 1 t) from by
    unfold Dat.leavesExact; rw [liveAt0_1 t], afterC_1]
  rw [show (datC m c).leavesExact 2 t = owns (c : Thread nD τ) (ms0_2 t) fullShare ((datC m c).after 2 t) from by
    unfold Dat.leavesExact; rw [liveAt0_2 t], afterC_2]
  rw [show (datC m c).leavesExact 3 t = owns (c : Thread nD τ) (ms0_3 t) fullShare ((datC m c).after 3 t) from by
    unfold Dat.leavesExact; rw [liveAt0_3 t], afterC_3]
  rw [show (datC m c).leavesExact 4 t = owns (c : Thread nD τ) (ms0_4 t) fullShare ((datC m c).after 4 t) from by
    unfold Dat.leavesExact; rw [liveAt0_4 t], afterC_4]
  have hs' : carried m c (t.val + 1 - 1) (by omega) = stepAt m c t s := hs
  simp only [hs']
  iintro ⟨⟨⟨HS0, HS1, HS2, HS3⟩, Hg⟩, Ho, ⟨%d0, H0⟩, ⟨%d1, H1⟩, ⟨%d2, H2⟩, ⟨%d3, H3⟩, ⟨%d4, H4⟩, ⟨%Y, %hY, H5⟩⟩
  iapply (point m c t s Y Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexists _; isplitr
  rotate_left
  · iexact H5
  · ipureintro
    intro hle
    unfold outAfter
    by_cases h2 : t.val / 8 % 8 = t.val % 8
    · rw [if_pos h2]; unfold outAt; rw [hs]
    · rw [if_neg h2]; exact finds_row m c t (by omega) Y hY

/-- The body at any point. -/
theorem sound_bodyC (c : Dev nD) (t : Fin cfg0.N) :
    bodyPreC m c t ⊢ wp frame (wpE (defs₀ (F := F)) Variants.none c none) Set.univ (bodyAt0 t) (fun _ => bodyPostC m c t) := by
  unfold bodyPreC
  by_cases hz : t.val = 0
  · rw [PhiC_castSucc m c t, PhiC_zero m c _ _ hz, PhiA0_eq]
    iintro ⟨⟨⟨⟨%e0, HS0⟩, ⟨%e1, HS1⟩, ⟨%e2, HS2⟩, ⟨%e3, HS3⟩⟩, Hg⟩, HR⟩
    iapply (soundFrom m c t (e0, e1, e2, e3) (carried_zero m c _ _ hz _))
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    iexact HR
  · rw [PhiC_castSucc m c t, PhiC_pos m c _ _ hz]
    exact soundFrom m c t _ (carried_pos m c _ _ hz)

/-- The body table's row at a point is the body. -/
theorem defs_rowC (t : Fin cfg0.N) : defs₀ (F := F) .tc cfg0.body (cfg0.bodyArgs t (cfg0.slots t)) = bodyAt0 t := by
  unfold defs₀; rw [Defs.onTc_tc]

/-- The pipeline's obligation on the body. -/
theorem obligationC (c : Dev nD) : Pipeline.BodyObligationRel (datC (F := F) m c) (defs₀ (F := F)) Variants.none () Set.univ marked (relC m c) := fun t => by
  rw [bigSep_W0, bigSep_W0, defs_rowC]
  exact triple_restated (sound_bodyC m c t) rfl .rfl fun _ => .rfl

theorem hinC (c : Dev nD) : Pipeline.ΦA spec0 c ⊢ (datC m c).Φ 0 := by
  rw [show (datC m c).Φ 0 = PhiC m c 0 (Nat.zero_le _) from rfl, PhiC_zero m c 0 _ rfl]
  try exact Idealize.SL.BI.Entails.refl _

theorem houtC (c : Dev nD) : (datC m c).Φ (Fin.last cfg0.N) ⊢ Pipeline.ΦA spec0 c := by
  rw [show (datC m c).Φ (Fin.last cfg0.N) = PhiC m c cfg0.N le_rfl from rfl, PhiC_pos m c _ _ (by have : cfg0.N = 2048 := N_0; omega), PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
/-- The launch: every fair run ends, its inputs unchanged, its output flushed from named blocks, every counter at zero. -/
theorem run_mainC : θ_run defs (onTc (τ := τ) (main (F := F))) (s₀ m ρ) (fun r => (Pipeline.RDat.FramePost (cfgs 0) (fun c => (datC m c).toRRel marked (relC m c)) (V m)) r ∧ r.2.sem = fun _ => 0) :=
  Pipeline.RDat.θ_run_frame_track_shared (Q' := _) cfgs (0 : Fin 1) launch₀0 defs₀ Variants.none (fun c => (datC m c).toRRel marked (relC m c)) m ρ main
    (hbody := fun c => (obligationC m c).toRRel) (hq := fun _ _ _ => rfl)
    (howed := fun _ _ => rfl) (V := V m) (hmain := hmain m Variants.none) (hA := A_eqC m) (hin := hinC m) (hout := houtC m)

end Cert.KernelIdeal.Gen

end
-- ==== Proof.Attn.Pt.lean ====
/- The attention body's operations read at an index, on the extended reals. -/
module

public import proofs.«01_k».proof.Proof.Attn.Block
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

theorem headMask_at (j : Fin 2) (l : Fin 128) : headMask (hw j) (ix2 0 l) = if l.val / 64 = j.val then 1#1 else 0#1 := by
  revert l; revert j; decide +kernel

theorem qHead_at (j : Fin 2) (q : Vec Ideal S512x128 .bf16) (r : Fin 512) (l : Fin 128) :
    qHead (hw j) q (ix2 r l) = if l.val / 64 = j.val then q (ix2 r l) else 0 := by
  unfold qHead
  have e : select (broadcastTo S512x128 (shapeCast S1x128 (headMask (hw j)) shapeCasts_S1x128_S1x128) broadcasts_S1x128_S512x128) q
    (broadcast S512x128 (Scalar.ofBits .bf16 0x0000#16 : Ideal .bf16)) (ix2 r l) = Scalar.select (headMask (hw j) (ix2 0 l)) (q (ix2 r l)) 0 := by
    pointwise
  rw [e, headMask_at]
  by_cases h : l.val / 64 = j.val
  · rw [if_pos h, if_pos h]; rfl
  · rw [if_neg h, if_neg h]; rfl

theorem eighth : Ideal.ofBits .f32 0x3E000000#32 = (((1 : ℝ) / 8 : ℝ) : EReal) := by
  simp [Ideal.ofBits, Ideal.ieee]
  rw [← EReal.coe_mul]; norm_num

theorem negInf : Ideal.ofBits .f32 0xFF800000#32 = ⊥ := by simp [Ideal.ofBits, Ideal.ieee]

theorem scoreBlk_at (j : Fin 2) (q k : Vec Ideal S512x128 .bf16) (fk : Vec Ideal S1x1x512 .f32) (fq : Vec Ideal S1x512x128 .f32) (r c : Fin 512) :
    scoreBlk (hw j) q k fk fq (ix2 r c) = (∑ l : Fin 128, qHead (hw j) q (ix2 r l) * k (ix2 c l)) * (((1 : ℝ) / 8 : ℝ) : EReal)
      + (fq (ix3 0 r 0) - fk (ix3 0 0 c)) := by
  rw [← eighth]
  unfold scoreBlk
  pointwise

theorem maxBlk_at (s : FVec Ideal S512x512 .f32) (mp : Vec Ideal S1x512x128 .f32) (r : Fin 512) (l : Fin 128) :
    maxBlk s mp (ix2 r l) = max (mp (ix3 0 r l)) (Finset.univ.sup fun c : Fin 512 => s (ix2 r c)) := by
  unfold maxBlk
  pointwise
  rw [negInf]; rfl

theorem lStep_at (s : FVec Ideal S512x512 .f32) (mp lp : Vec Ideal S1x512x128 .f32) (r : Fin 512) (l : Fin 128) :
    lStep s mp lp (ix3 0 r l) = Ideal.exp (mp (ix3 0 r l) - maxBlk s mp (ix2 r l)) * lp (ix3 0 r l) + ∑ c : Fin 512, Ideal.exp (s (ix2 r c) - maxBlk s mp (ix2 r 0)) := by
  unfold lStep alphaBlk probBlk
  pointwise

theorem accStep_at (s : FVec Ideal S512x512 .f32) (mp ap : Vec Ideal S1x512x128 .f32) (v : Vec Ideal S512x128 .bf16) (r : Fin 512) (l : Fin 128) :
    accStep s mp ap v (ix3 0 r l) = Ideal.exp (mp (ix3 0 r l) - maxBlk s mp (ix2 r l)) * ap (ix3 0 r l) + ∑ c : Fin 512, Ideal.exp (s (ix2 r c) - maxBlk s mp (ix2 r 0)) * v (ix2 c l) := by
  unfold accStep alphaBlk probBlk
  pointwise

theorem mStep_at (s : FVec Ideal S512x512 .f32) (mp : Vec Ideal S1x512x128 .f32) (r : Fin 512) (l : Fin 128) :
    mStep s mp (ix3 0 r l) = maxBlk s mp (ix2 r l) := by
  unfold mStep
  pointwise

theorem scoreDiag_at (j : Fin 2) (q k : Vec Ideal S512x128 .bf16) (fk : Vec Ideal S1x1x512 .f32) (fq : Vec Ideal S1x512x128 .f32) (r c : Fin 512) :
    scoreDiag (hw j) q k fk fq (ix2 r c) = if c.val ≤ r.val then scoreBlk (hw j) q k fk fq (ix2 r c) else ⊥ := by
  unfold scoreDiag
  pointwise
  have e : IntOp.cmpi CmpIPredicate.sle (BitVec.ofNat 32 c.val) (BitVec.ofNat 32 r.val) = if c.val ≤ r.val then 1#1 else 0#1 := by
    have hc := c.isLt; have hr := r.isLt
    simp only [IntOp.cmpi, BitVec.sle, BitVec.toInt_eq_toNat_cond, BitVec.toNat_ofNat]
    rw [Nat.mod_eq_of_lt (by omega), Nat.mod_eq_of_lt (by omega), if_pos (by omega), if_pos (by omega)]
    by_cases h : c.val ≤ r.val
    · rw [if_pos h, decide_eq_true (by exact_mod_cast h)]; rfl
    · rw [if_neg h, decide_eq_false (by exact_mod_cast h)]; rfl
  rw [e]
  by_cases h : c.val ≤ r.val
  · rw [if_pos h, if_pos h]; rfl
  · rw [if_neg h, if_neg h]; rfl

theorem lane_at (p : Fin 4) (j : Fin 2) (x : Fin 128) :
    IntOp.cmpi CmpIPredicate.eq (BitVec.ofNat 32 x.val) (Scalar.addi (Scalar.muli (2#32) (BitVec.ofNat 32 p.val)) (hw j)) = if x = ⟨2 * p.val + j.val, by omega⟩ then 1#1 else 0#1 := by
  revert x; revert j; revert p; decide +kernel

theorem fqInit_at (p : Fin 4) (j : Fin 2) (f : Vec Ideal S1x512x128 .f32) (r : Fin 512) (l : Fin 128) :
    fqInit (BitVec.ofNat 32 p.val) (hw j) f (ix3 0 r l) = f (ix3 0 r ⟨2 * p.val + j.val, by omega⟩) := by
  unfold fqInit
  pointwise
  simp only [lane_at]
  rw [Finset.sum_eq_single (⟨2 * p.val + j.val, by omega⟩ : Fin 128)]
  · rw [if_pos rfl]; rfl
  · intro x _ hx; rw [if_neg hx]; rfl
  · intro h; exact absurd (Finset.mem_univ _) h

theorem mInit_at (i : S2x512x128.Idx) : (mInit : FVec Ideal S2x512x128 .f32) i = ⊥ := by
  unfold mInit
  pointwise
  rfl

theorem zInit_at (i : S2x512x128.Idx) : (zInit : FVec Ideal S2x512x128 .f32) i = 0 := by
  unfold zInit
  pointwise

theorem outBlk_at (A L : Vec Ideal S2x512x128 .f32) (r : Fin 512) (l : Fin 128) :
    outBlk A L (ix2 r l) = if l.val < 64 then Ideal.div (A (ix3 0 r l)) (L (ix3 0 r l)) else Ideal.div (A (ix3 1 r l)) (L (ix3 1 r l)) := by
  unfold outBlk half
  pointwise
  have e : ∀ l : Fin 128, IntOp.cmpi CmpIPredicate.slt (BitVec.ofNat 32 l.val) 64#32 = if l.val < 64 then 1#1 else 0#1 := by decide +kernel
  rw [e]
  by_cases h : l.val < 64
  · rw [if_pos h, if_pos h]; rfl
  · rw [if_neg h, if_neg h]; rfl

end Cert.KernelIdeal.Gen

end
-- ==== Proof.Attn.Reads.lean ====
/- The attention call's blocks read at an index of its arrays. -/
module

public import proofs.«01_k».proof.Proof.Attn.Base
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable (m : (ℓ : Loc nD τ sig) → Buf (Elt Ideal) ℓ)

theorem coord1 : ∀ t : Fin grid0.N, (grid0.coords t 1).val = t.val / 64 % 4 := by decide +kernel
theorem idx0_0 : ∀ t : Fin grid0.N, win0_0.index t 0 = t.val / 256 * 8 + t.val / 8 % 8 := by decide +kernel
theorem idx0_1 : ∀ t : Fin grid0.N, win0_0.index t 1 = t.val / 64 % 4 := by decide +kernel
theorem idx1_0 : ∀ t : Fin grid0.N, win0_1.index t 0 = t.val / 256 * 8 + min (t.val % 8) (t.val / 8 % 8) := by decide +kernel
theorem idx1_1 : ∀ t : Fin grid0.N, win0_1.index t 1 = 4 + t.val / 64 % 4 := by decide +kernel
theorem idx2_0 : ∀ t : Fin grid0.N, win0_2.index t 0 = t.val / 256 * 8 + min (t.val % 8) (t.val / 8 % 8) := by decide +kernel
theorem idx2_1 : ∀ t : Fin grid0.N, win0_2.index t 1 = 8 + t.val / 64 % 4 := by decide +kernel
theorem idx3_0 : ∀ t : Fin grid0.N, win0_3.index t 0 = t.val / 256 := by decide +kernel
theorem idx3_1 : ∀ t : Fin grid0.N, win0_3.index t 1 = t.val / 8 % 8 := by decide +kernel
theorem idx3_2 : ∀ t : Fin grid0.N, win0_3.index t 2 = 0 := by decide +kernel
theorem idx4_0 : ∀ t : Fin grid0.N, win0_4.index t 0 = t.val / 256 := by decide +kernel
theorem idx4_1 : ∀ t : Fin grid0.N, win0_4.index t 1 = 0 := by decide +kernel
theorem idx4_2 : ∀ t : Fin grid0.N, win0_4.index t 2 = min (t.val % 8) (t.val / 8 % 8) := by decide +kernel
theorem idx5_0 : ∀ t : Fin grid0.N, win0_5.index t 0 = t.val / 256 * 8 + t.val / 8 % 8 := by decide +kernel
theorem idx5_1 : ∀ t : Fin grid0.N, win0_5.index t 1 = t.val / 64 % 4 := by decide +kernel

theorem lt_points (t : Fin cfg0.N) : t.val < 2048 := N_0 ▸ t.isLt

theorem blk0_at (c : Dev nD) (t : Fin cfg0.N) (r : Fin 512) (l : Fin 128) :
    (iblk m c 0 t : Vec Ideal S512x128 .bf16) (ix2 r l) = (m ((c.tc : Thread nD τ).loc main_arg0) : S32768x1536.Idx → EReal)
      (ix2 ⟨t.val / 256 * 4096 + (512 * (t.val / 8 % 8) + r.val), by have := lt_points t; omega⟩ ⟨128 * (t.val / 64 % 4) + l.val, by omega⟩) := by
  blk_ext [iblk, V, idx0_0 t, idx0_1 t]
theorem blk1_at (c : Dev nD) (t : Fin cfg0.N) (hk : t.val % 8 ≤ t.val / 8 % 8) (r : Fin 512) (l : Fin 128) :
    (iblk m c 1 t : Vec Ideal S512x128 .bf16) (ix2 r l) = (m ((c.tc : Thread nD τ).loc main_arg0) : S32768x1536.Idx → EReal)
      (ix2 ⟨t.val / 256 * 4096 + (512 * (t.val % 8) + r.val), by have := lt_points t; omega⟩ ⟨512 + (128 * (t.val / 64 % 4) + l.val), by omega⟩) := by
  blk_ext [iblk, V, idx1_0 t, idx1_1 t]
theorem blk2_at (c : Dev nD) (t : Fin cfg0.N) (hk : t.val % 8 ≤ t.val / 8 % 8) (r : Fin 512) (l : Fin 128) :
    (iblk m c 2 t : Vec Ideal S512x128 .bf16) (ix2 r l) = (m ((c.tc : Thread nD τ).loc main_arg0) : S32768x1536.Idx → EReal)
      (ix2 ⟨t.val / 256 * 4096 + (512 * (t.val % 8) + r.val), by have := lt_points t; omega⟩ ⟨1024 + (128 * (t.val / 64 % 4) + l.val), by omega⟩) := by
  blk_ext [iblk, V, idx2_0 t, idx2_1 t]
theorem blk3_at (c : Dev nD) (t : Fin cfg0.N) (r : Fin 512) (l : Fin 128) :
    (iblk m c 3 t : Vec Ideal S1x512x128 .f32) (ix3 0 r l) = (m ((c.tc : Thread nD τ).loc main_arg1) : S8x4096x128.Idx → EReal)
      (ix3 ⟨t.val / 256, by have := lt_points t; omega⟩ ⟨512 * (t.val / 8 % 8) + r.val, by omega⟩ l) := by
  blk_ext [iblk, V, idx3_0 t, idx3_1 t, idx3_2 t]
theorem blk4_at (c : Dev nD) (t : Fin cfg0.N) (hk : t.val % 8 ≤ t.val / 8 % 8) (h : Fin 8) (k : Fin 512) :
    (iblk m c 4 t : Vec Ideal S1x8x512 .f32) (ix3 0 h k) = (m ((c.tc : Thread nD τ).loc main_arg2) : S8x8x4096.Idx → EReal)
      (ix3 ⟨t.val / 256, by have := lt_points t; omega⟩ h ⟨512 * (t.val % 8) + k.val, by omega⟩) := by
  blk_ext [iblk, V, idx4_0 t, idx4_1 t, idx4_2 t]

end Cert.KernelIdeal.Gen

end
-- ==== Proof.Attn.Math.lean ====
/- The mathematics of a softmax taken tile by tile, on the extended reals. -/
module

public import Idealize.ShloMosaic.Lib.Pointwise

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-- A finite sum of reals, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- `a` is the weight of the score `σ`: its exponential, a masked score weighing nothing. -/
def Weighs (σ : EReal) (a : ℝ) : Prop := (∃ x : ℝ, σ = (x : EReal) ∧ a = Real.exp x) ∨ (σ = ⊥ ∧ a = 0)

theorem exp_coe (x : ℝ) : Ideal.exp (x : EReal) = ((Real.exp x : ℝ) : EReal) := rfl

/-- A score's exponential relative to any real reference is its weight rescaled. -/
theorem Weighs.exp {σ : EReal} {a : ℝ} (h : Weighs σ a) (μ : ℝ) : Ideal.exp (σ - (μ : EReal)) = ((a * Real.exp (-μ) : ℝ) : EReal) := by
  rcases h with ⟨x, rfl, rfl⟩ | ⟨rfl, rfl⟩
  · rw [← EReal.coe_sub, exp_coe, sub_eq_add_neg, Real.exp_add]
  · rw [sub_eq_add_neg, EReal.bot_add, zero_mul]; rfl

theorem Weighs.ne_top {σ : EReal} {a : ℝ} (h : Weighs σ a) : σ < ⊤ := by
  rcases h with ⟨x, rfl, -⟩ | ⟨rfl, -⟩
  · exact EReal.coe_lt_top x
  · exact bot_lt_top

theorem Weighs.nonneg {σ : EReal} {a : ℝ} (h : Weighs σ a) : 0 ≤ a := by
  rcases h with ⟨x, -, rfl⟩ | ⟨-, rfl⟩
  · exact (Real.exp_pos x).le
  · exact le_rfl

/-- The largest of finitely many scores, one of them real, is real. -/
theorem sup_real {n : ℕ} (σ : Fin n → EReal) (a : Fin n → ℝ) (h : ∀ i, Weighs (σ i) (a i)) (i₀ : Fin n) (h₀ : 0 < a i₀) :
    ∃ μ : ℝ, (Finset.univ.sup σ) = (μ : EReal) := by
  have ht : Finset.univ.sup σ < ⊤ := (Finset.sup_lt_iff bot_lt_top).mpr fun i _ => (h i).ne_top
  have hb : ⊥ < Finset.univ.sup σ := by
    refine lt_of_lt_of_le ?_ (Finset.le_sup (Finset.mem_univ i₀))
    rcases h i₀ with ⟨x, e, -⟩ | ⟨-, e⟩
    · rw [e]; exact EReal.bot_lt_coe x
    · rw [e] at h₀; exact absurd h₀ (lt_irrefl _)
  exact ⟨_, (EReal.coe_toReal ht.ne hb.ne').symm⟩

/-- A running maximum that is real or at the mask, against a real one, is real. -/
theorem max_real {M : EReal} (hM : M = ⊥ ∨ ∃ μ : ℝ, M = (μ : EReal)) (ν : ℝ) : ∃ μ : ℝ, max M (ν : EReal) = (μ : EReal) := by
  rcases hM with rfl | ⟨μ, rfl⟩
  · exact ⟨ν, max_eq_right bot_le⟩
  · rcases le_total μ ν with h | h
    · exact ⟨ν, max_eq_right (EReal.coe_le_coe_iff.mpr h)⟩
    · exact ⟨μ, max_eq_left (EReal.coe_le_coe_iff.mpr h)⟩

/-- One step of a running sum kept relative to a running reference. -/
theorem step_sum {M L : EReal} {S : ℝ} (h : (M = ⊥ ∧ L = 0 ∧ S = 0) ∨ ∃ μ : ℝ, M = (μ : EReal) ∧ L = ((S * Real.exp (-μ) : ℝ) : EReal)) (ν T : ℝ) :
    Ideal.exp (M - (ν : EReal)) * L + ((T * Real.exp (-ν) : ℝ) : EReal) = (((S + T) * Real.exp (-ν) : ℝ) : EReal) := by
  rcases h with ⟨rfl, rfl, rfl⟩ | ⟨μ, rfl, rfl⟩
  · rw [mul_zero, zero_add, zero_add]
  · rw [← EReal.coe_sub, exp_coe, ← EReal.coe_mul, ← EReal.coe_add]
    congr 1
    have e : Real.exp (μ - ν) * (S * Real.exp (-μ)) = S * Real.exp (-ν) := by
      rw [sub_eq_add_neg, Real.exp_add, Real.exp_neg μ]; have := Real.exp_ne_zero μ; field_simp
    rw [e]; ring

/-- The quotient of two sums kept relative to one reference does not see the reference. -/
theorem quot_real (A S μ : ℝ) (hS : 0 < S) : Ideal.div ((A * Real.exp (-μ) : ℝ) : EReal) ((S * Real.exp (-μ) : ℝ) : EReal) = ((A / S : ℝ) : EReal) := by
  have hne : S * Real.exp (-μ) ≠ 0 := (mul_pos hS (Real.exp_pos _)).ne'
  unfold Ideal.div
  rw [if_neg (by exact_mod_cast hne), ← EReal.coe_inv, ← EReal.coe_mul]
  congr 1
  have := Real.exp_ne_zero (-μ); have := hS.ne'; field_simp

/-- A sum over the first tiles' keys with the next tile's keys. -/
theorem sum_tiles (f : ℕ → ℝ) (n : ℕ) : ∑ κ ∈ Finset.range (512 * (n + 1)), f κ = ∑ κ ∈ Finset.range (512 * n), f κ + ∑ k : Fin 512, f (512 * n + k.val) := by
  rw [Nat.mul_succ, Finset.sum_range_add, Fin.sum_univ_eq_sum_range (fun k => f (512 * n + k)) 512]

end Cert.Attn

end
-- ==== Proof.Attn.Spec.lean ====
/- The attention on real numbers: scores, weights, weighted means. -/
module

public import proofs.«01_k».proof.Proof.Attn.Math

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-- An entry of the projections as a real number. -/
def rx (x : (⟨2, ![32768, 1536]⟩ : Shape).Idx → EReal) (r c : ℕ) : ℝ := if h : r < 32768 ∧ c < 1536 then (x (ix2 ⟨r, h.1⟩ ⟨c, h.2⟩)).toReal else 0
/-- A query's summed log decay of a head as a real number. -/
def ry (y : (⟨3, ![8, 4096, 128]⟩ : Shape).Idx → EReal) (b s h : ℕ) : ℝ := if g : b < 8 ∧ s < 4096 ∧ h < 128 then (y (ix3 ⟨b, g.1⟩ ⟨s, g.2.1⟩ ⟨h, g.2.2⟩)).toReal else 0
/-- A key's summed log decay of a head as a real number. -/
def rz (z : (⟨3, ![8, 8, 4096]⟩ : Shape).Idx → EReal) (b h s : ℕ) : ℝ := if g : b < 8 ∧ h < 8 ∧ s < 4096 then (z (ix3 ⟨b, g.1⟩ ⟨h, g.2.1⟩ ⟨s, g.2.2⟩)).toReal else 0

/-- The three arrays are finite where the attention reads them. -/
structure Finite (x : (⟨2, ![32768, 1536]⟩ : Shape).Idx → EReal) (y : (⟨3, ![8, 4096, 128]⟩ : Shape).Idx → EReal) (z : (⟨3, ![8, 8, 4096]⟩ : Shape).Idx → EReal) : Prop where
  fx : ∀ i, x i ≠ ⊤ ∧ x i ≠ ⊥
  fy : ∀ (b : Fin 8) (s : Fin 4096) (h : Fin 128), h.val < 8 → y (ix3 b s h) ≠ ⊤ ∧ y (ix3 b s h) ≠ ⊥
  fz : ∀ i, z i ≠ ⊤ ∧ z i ≠ ⊥

variable {x : (⟨2, ![32768, 1536]⟩ : Shape).Idx → EReal} {y : (⟨3, ![8, 4096, 128]⟩ : Shape).Idx → EReal} {z : (⟨3, ![8, 8, 4096]⟩ : Shape).Idx → EReal}

theorem Finite.x_eq (f : Finite x y z) (r : Fin 32768) (c : Fin 1536) : x (ix2 r c) = ((rx x r.val c.val : ℝ) : EReal) := by
  unfold rx; rw [dif_pos ⟨r.isLt, c.isLt⟩, EReal.coe_toReal (f.fx _).1 (f.fx _).2]
theorem Finite.y_eq (f : Finite x y z) (b : Fin 8) (s : Fin 4096) (h : Fin 128) (hh : h.val < 8) : y (ix3 b s h) = ((ry y b.val s.val h.val : ℝ) : EReal) := by
  unfold ry; rw [dif_pos ⟨b.isLt, s.isLt, h.isLt⟩, EReal.coe_toReal (f.fy _ _ _ hh).1 (f.fy _ _ _ hh).2]
theorem Finite.z_eq (f : Finite x y z) (b : Fin 8) (h : Fin 8) (s : Fin 4096) : z (ix3 b h s) = ((rz z b.val h.val s.val : ℝ) : EReal) := by
  unfold rz; rw [dif_pos ⟨b.isLt, h.isLt, s.isLt⟩, EReal.coe_toReal (f.fz _).1 (f.fz _).2]

variable (x y z)

/-- The score of key `κ` for query `q`: the scaled product of head `h`'s lanes, and the log decay between the two. -/
def score (b h q κ : ℕ) : ℝ := (∑ d : Fin 64, rx x (b * 4096 + q) (64 * h + d.val) * rx x (b * 4096 + κ) (512 + (64 * h + d.val))) * (1 / 8) + (ry y b q h - rz z b h κ)
/-- Its weight, not yet divided: later keys weigh nothing. -/
def wt (b h q κ : ℕ) : ℝ := if κ ≤ q then Real.exp (score x y z b h q κ) else 0
/-- The attention of query `q` of head `h` at lane `d`: the weighted mean of the values. -/
def attn (b h q d : ℕ) : ℝ := (∑ κ ∈ Finset.range 4096, wt x y z b h q κ * rx x (b * 4096 + κ) (1024 + (64 * h + d))) / ∑ κ ∈ Finset.range 4096, wt x y z b h q κ
/-- The whole output: row `4096 b + q`, column `64 h + d`. -/
def out : (⟨2, ![32768, 512]⟩ : Shape).Idx → EReal := fun i => ((attn x y z ((i 0).val / 4096) ((i 1).val / 64) ((i 0).val % 4096) ((i 1).val % 64) : ℝ) : EReal)

theorem wt_nonneg (b h q κ : ℕ) : 0 ≤ wt x y z b h q κ := by
  unfold wt; split
  · exact (Real.exp_pos _).le
  · exact le_rfl
theorem wt_pos (b h q κ : ℕ) (hk : κ ≤ q) : 0 < wt x y z b h q κ := by
  unfold wt; rw [if_pos hk]; exact Real.exp_pos _

/-- Keys past the query's add nothing to a weighted sum. -/
theorem sum_upto (b h q n : ℕ) (hq : q < n) (hn : n ≤ 4096) (g : ℕ → ℝ) :
    ∑ κ ∈ Finset.range n, wt x y z b h q κ * g κ = ∑ κ ∈ Finset.range 4096, wt x y z b h q κ * g κ := by
  refine Finset.sum_subset (fun a ha => Finset.mem_range.mpr (by have := Finset.mem_range.mp ha; omega)) fun κ _ hκ => ?_
  have : ¬κ ≤ q := by have := mt Finset.mem_range.mpr hκ; omega
  unfold wt; rw [if_neg this, zero_mul]

theorem sum_pos (b h q n : ℕ) (hn : 0 < n) : 0 < ∑ κ ∈ Finset.range n, wt x y z b h q κ :=
  Finset.sum_pos' (fun κ _ => wt_nonneg x y z b h q κ) ⟨0, Finset.mem_range.mpr hn, wt_pos x y z b h q 0 (Nat.zero_le _)⟩

/-- A product over 128 lanes of which one head's 64 count is the product over those. -/
theorem head_sum (j : Fin 2) (f g : ℕ → ℝ) :
    (∑ l : Fin 128, (if l.val / 64 = j.val then ((f l.val : ℝ) : EReal) else 0) * ((g l.val : ℝ) : EReal)) = ((∑ d : Fin 64, f (64 * j.val + d.val) * g (64 * j.val + d.val) : ℝ) : EReal) := by
  have e : ∀ l : Fin 128, (if l.val / 64 = j.val then ((f l.val : ℝ) : EReal) else 0) * ((g l.val : ℝ) : EReal) = (((if l.val / 64 = j.val then f l.val * g l.val else 0 : ℝ)) : EReal) := fun l => by
    split
    · rw [EReal.coe_mul]
    · rw [zero_mul]; rfl
  simp only [e]
  rw [coe_sum]
  congr 1
  rw [Fin.sum_univ_eq_sum_range (fun l => if l / 64 = j.val then f l * g l else 0) 128, Fin.sum_univ_eq_sum_range (fun d => f (64 * j.val + d) * g (64 * j.val + d)) 64,
    show (128 : ℕ) = 64 + 64 from rfl, Finset.sum_range_add]
  match j with
  | ⟨0, _⟩ =>
    rw [Finset.sum_eq_zero (s := Finset.range 64) (f := fun k => if (64 + k) / 64 = _ then _ else _) (fun k hk => by have := Finset.mem_range.mp hk; rw [if_neg]; show ¬(64 + k) / 64 = 0; omega), add_zero]
    refine Finset.sum_congr rfl fun k hk => ?_
    have := Finset.mem_range.mp hk
    rw [if_pos (show k / 64 = 0 by omega)]
    show _ = f (64 * 0 + k) * g (64 * 0 + k)
    rw [Nat.mul_zero, Nat.zero_add]
  | ⟨1, _⟩ =>
    rw [Finset.sum_eq_zero (s := Finset.range 64) (f := fun k => if k / 64 = _ then _ else _) (fun k hk => by have := Finset.mem_range.mp hk; rw [if_neg]; show ¬k / 64 = 1; omega), zero_add]
    refine Finset.sum_congr rfl fun k hk => ?_
    have := Finset.mem_range.mp hk
    rw [if_pos (show (64 + k) / 64 = 1 by omega)]
    show _ = f (64 * 1 + k) * g (64 * 1 + k)
    rw [Nat.mul_one]

end Cert.Attn

end
-- ==== Proof.Attn.Inv.lean ====
/- What the attention's carried buffers hold, and that its output block is the attention. -/
module

public import proofs.«01_k».proof.Proof.Attn.Body
public import proofs.«01_k».proof.Proof.Attn.Pt
public import proofs.«01_k».proof.Proof.Attn.Reads
public import proofs.«01_k».proof.Proof.Attn.Spec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Cert.Attn (Weighs Finite rx ry rz score wt attn)

theorem half_at (j : Fin 2) (X : Vec Ideal S2x512x128 .f32) (r : Fin 512) (l : Fin 128) : half j X (ix3 0 r l) = X (ix3 j r l) := rfl
theorem two_at (j : Fin 2) (f : Fin 2 → Vec Ideal S1x512x128 .f32) (r : Fin 512) (l : Fin 128) : two (f 0) (f 1) (ix3 j r l) = f j (ix3 0 r l) := by
  match j with | ⟨0, _⟩ => rfl | ⟨1, _⟩ => rfl
theorem mNext_at (s : Fin 2 → FVec Ideal S512x512 .f32) (M : Vec Ideal S2x512x128 .f32) (j : Fin 2) (r : Fin 512) (l : Fin 128) :
    mNext s M (ix3 j r l) = mStep (s j) (half j M) (ix3 0 r l) := two_at j (fun j => mStep (s j) (half j M)) r l
theorem lNext_at (s : Fin 2 → FVec Ideal S512x512 .f32) (M L : Vec Ideal S2x512x128 .f32) (j : Fin 2) (r : Fin 512) (l : Fin 128) :
    lNext s M L (ix3 j r l) = lStep (s j) (half j M) (half j L) (ix3 0 r l) := two_at j (fun j => lStep (s j) (half j M) (half j L)) r l
theorem aNext_at (s : Fin 2 → FVec Ideal S512x512 .f32) (M A : Vec Ideal S2x512x128 .f32) (v : Vec Ideal S512x128 .bf16) (j : Fin 2) (r : Fin 512) (l : Fin 128) :
    aNext s M A v (ix3 j r l) = accStep (s j) (half j M) (half j A) v (ix3 0 r l) := two_at j (fun j => accStep (s j) (half j M) (half j A) v) r l

/-- The carried buffers after `n` tiles: the weights' sum and the weighted values' sums over the tiles' keys, relative to one real number. -/
def Holds (W : Fin 2 → Fin 512 → ℕ → ℝ) (Z : ℕ → Fin 128 → ℝ) (n : ℕ) (M L A : Vec Ideal S2x512x128 .f32) : Prop :=
  ∀ (j : Fin 2) (r : Fin 512), (n = 0 ∧ ∀ l : Fin 128, M (ix3 j r l) = ⊥ ∧ L (ix3 j r l) = 0 ∧ A (ix3 j r l) = 0)
    ∨ ∃ μ : ℝ, ∀ l : Fin 128, M (ix3 j r l) = (μ : EReal)
      ∧ L (ix3 j r l) = (((∑ κ ∈ Finset.range (512 * n), W j r κ) * Real.exp (-μ) : ℝ) : EReal)
      ∧ A (ix3 j r l) = (((∑ κ ∈ Finset.range (512 * n), W j r κ * Z κ l) * Real.exp (-μ) : ℝ) : EReal)

theorem startAt_zero (m : (ℓ : Loc nD τ sig) → Buf (Elt Ideal) ℓ) (c : Dev nD) (t : Fin cfg0.N) (s : Carry Ideal) (h : t.val % 8 = 0) : startAt m c t s = ((mInit : FVec Ideal S2x512x128 .f32), (zInit : FVec Ideal S2x512x128 .f32), (zInit : FVec Ideal S2x512x128 .f32), fInit (grid0.coords t 1) (iblk m c 3 t)) := if_pos h
theorem startAt_rest (m : (ℓ : Loc nD τ sig) → Buf (Elt Ideal) ℓ) (c : Dev nD) (t : Fin cfg0.N) (s : Carry Ideal) (h : ¬t.val % 8 = 0) : startAt m c t s = s := if_neg h

theorem holds_init (W : Fin 2 → Fin 512 → ℕ → ℝ) (Z : ℕ → Fin 128 → ℝ) : Holds W Z 0 (mInit : FVec Ideal S2x512x128 .f32) (zInit : FVec Ideal S2x512x128 .f32) (zInit : FVec Ideal S2x512x128 .f32) :=
  fun j r => .inl ⟨rfl, fun l => ⟨mInit_at _, zInit_at _, zInit_at _⟩⟩

/-- One tile more. -/
theorem holds_step (W : Fin 2 → Fin 512 → ℕ → ℝ) (Z : ℕ → Fin 128 → ℝ) (n : ℕ) (M L A : Vec Ideal S2x512x128 .f32)
    (sc : Fin 2 → FVec Ideal S512x512 .f32) (v : Vec Ideal S512x128 .bf16)
    (hsc : ∀ (j : Fin 2) (r c : Fin 512), Weighs (sc j (ix2 r c)) (W j r (512 * n + c.val)))
    (h0 : ∀ (j : Fin 2) (r : Fin 512), 0 < W j r (512 * n))
    (hv : ∀ (c : Fin 512) (l : Fin 128), v (ix2 c l) = ((Z (512 * n + c.val) l : ℝ) : EReal))
    (h : Holds W Z n M L A) : Holds W Z (n + 1) (mNext sc M) (lNext sc M L) (aNext sc M A v) := by
  intro j r
  right
  obtain ⟨ν, hν⟩ := Cert.Attn.sup_real (fun c : Fin 512 => sc j (ix2 r c)) (fun c => W j r (512 * n + c.val)) (hsc j r) 0 (h0 j r)
  have hM : ∀ l : Fin 128, M (ix3 j r l) = M (ix3 j r 0) ∧ (M (ix3 j r l) = ⊥ ∨ ∃ μ : ℝ, M (ix3 j r l) = (μ : EReal)) := fun l => by
    rcases h j r with ⟨-, h⟩ | ⟨μ, h⟩
    · exact ⟨(h l).1.trans (h 0).1.symm, .inl (h l).1⟩
    · exact ⟨(h l).1.trans (h 0).1.symm, .inr ⟨μ, (h l).1⟩⟩
  obtain ⟨ρ, hρ⟩ := Cert.Attn.max_real (hM 0).2 ν
  have hmax : ∀ l : Fin 128, maxBlk (sc j) (half j M) (ix2 r l) = (ρ : EReal) := fun l => by
    rw [maxBlk_at, half_at, hν, (hM l).1, hρ]
  refine ⟨ρ, fun l => ⟨?_, ?_, ?_⟩⟩
  · rw [mNext_at, mStep_at, hmax]
  · rw [lNext_at, lStep_at, hmax, hmax, half_at, half_at, Finset.sum_congr rfl fun c _ => (hsc j r c).exp ρ, Cert.Attn.coe_sum, ← Finset.sum_mul, Cert.Attn.sum_tiles]
    refine Cert.Attn.step_sum ?_ ρ _
    rcases h j r with ⟨hn, h⟩ | ⟨μ, h⟩
    · exact .inl ⟨(h l).1, (h l).2.1, by rw [hn]; rfl⟩
    · exact .inr ⟨μ, (h l).1, (h l).2.1⟩
  · rw [aNext_at, accStep_at, hmax, hmax, half_at, half_at,
      Finset.sum_congr rfl (fun c _ => show _ = (((W j r (512 * n + c.val) * Z (512 * n + c.val) l) * Real.exp (-ρ) : ℝ) : EReal) by
        rw [(hsc j r c).exp ρ, hv, ← EReal.coe_mul]; congr 1; ring), Cert.Attn.coe_sum, ← Finset.sum_mul, Cert.Attn.sum_tiles (fun κ => W j r κ * Z κ l)]
    refine Cert.Attn.step_sum ?_ ρ _
    rcases h j r with ⟨hn, h⟩ | ⟨μ, h⟩
    · exact .inl ⟨(h l).1, (h l).2.2, by rw [hn]; rfl⟩
    · exact .inr ⟨μ, (h l).1, (h l).2.2⟩

variable (m : (ℓ : Loc nD τ sig) → Buf (Elt Ideal) ℓ) (c : Dev nD)

/-- The projections, the queries' decays and the keys' decays as the call finds them. -/
def ax : (⟨2, ![32768, 1536]⟩ : Shape).Idx → EReal := m ((c.tc : Thread nD τ).loc main_arg0)
def ay : (⟨3, ![8, 4096, 128]⟩ : Shape).Idx → EReal := m ((c.tc : Thread nD τ).loc main_arg1)
def az : (⟨3, ![8, 8, 4096]⟩ : Shape).Idx → EReal := m ((c.tc : Thread nD τ).loc main_arg2)

/-- The weights of a point's queries: query row `r` of tile `t / 8 % 8`, head `j` of pair `t / 64 % 4`. -/
def Wt (t : ℕ) (j : Fin 2) (r : Fin 512) (κ : ℕ) : ℝ := wt (ax m c) (ay m c) (az m c) (t / 256) (2 * (t / 64 % 4) + j.val) (512 * (t / 8 % 8) + r.val) κ
/-- The values of a point's pair of heads. -/
def Zt (t : ℕ) (κ : ℕ) (l : Fin 128) : ℝ := rx (ax m c) (t / 256 * 4096 + κ) (1024 + (128 * (t / 64 % 4) + l.val))
/-- The queries' decays of a point in a carried buffer. -/
def Decays (t : ℕ) (FQ : Vec Ideal S2x512x128 .f32) : Prop :=
  ∀ (j : Fin 2) (r : Fin 512) (l : Fin 128), FQ (ix3 j r l) = ((ry (ay m c) (t / 256) (512 * (t / 8 % 8) + r.val) (2 * (t / 64 % 4) + j.val) : ℝ) : EReal)

variable {m c}

theorem decays_init (f : Finite (ax m c) (ay m c) (az m c)) (t : Fin cfg0.N) : Decays m c t.val (fInit (grid0.coords t 1) (iblk m c 3 t)) := by
  intro j r l
  have hp := coord1 t
  have e : fInit (grid0.coords t 1) (iblk m c 3 t) (ix3 j r l) = fqInit (BitVec.ofNat 32 (grid0.coords t 1).val) (hw j) (iblk m c 3 t) (ix3 0 r l) := by
    unfold fInit
    exact two_at j (fun j => fqInit (BitVec.ofNat 32 (grid0.coords t 1).val) (hw j) (iblk m c 3 t)) r l
  rw [e, fqInit_at (grid0.coords t 1) j, blk3_at]
  refine (f.y_eq _ _ _ (by show 2 * (grid0.coords t 1).val + j.val < 8; omega)).trans ?_
  show ((ry _ _ _ (2 * (grid0.coords t 1).val + j.val) : ℝ) : EReal) = _
  rw [hp]

/-- A tile's scores, unmasked, are the real scores. -/
theorem score_at (f : Finite (ax m c) (ay m c) (az m c)) (t : Fin cfg0.N) (hk : t.val % 8 ≤ t.val / 8 % 8) (FQ : Vec Ideal S2x512x128 .f32) (hF : Decays m c t.val FQ)
    (j : Fin 2) (r k : Fin 512) :
    scoreBlk (hw j) (iblk m c 0 t) (iblk m c 1 t) (fkRow (grid0.coords t 1) j (iblk m c 4 t)) (half j FQ) (ix2 r k)
      = ((score (ax m c) (ay m c) (az m c) (t.val / 256) (2 * (t.val / 64 % 4) + j.val) (512 * (t.val / 8 % 8) + r.val) (512 * (t.val % 8) + k.val) : ℝ) : EReal) := by
  have hp := coord1 t
  have ek : fkRow (grid0.coords t 1) j (iblk m c 4 t) (ix3 0 0 k) = ((rz (az m c) (t.val / 256) (2 * (t.val / 64 % 4) + j.val) (512 * (t.val % 8) + k.val) : ℝ) : EReal) := by
    have e : fkRow (grid0.coords t 1) j (iblk m c 4 t) (ix3 0 0 k) = (iblk m c 4 t : Vec Ideal S1x8x512 .f32) (ix3 0 ⟨2 * (t.val / 64 % 4) + j.val, by omega⟩ k) := by
      show (iblk m c 4 t : Vec Ideal S1x8x512 .f32) (ix3 0 ⟨2 * (grid0.coords t 1).val + j.val, _⟩ k) = _
      simp only [hp]
    rw [e, blk4_at m c t hk]
    exact f.z_eq _ _ _
  rw [scoreBlk_at, half_at, hF, ek]
  have eq : ∀ l : Fin 128, qHead (hw j) (iblk m c 0 t) (ix2 r l) * (iblk m c 1 t : Vec Ideal S512x128 .bf16) (ix2 k l)
      = (if l.val / 64 = j.val then ((rx (ax m c) (t.val / 256 * 4096 + (512 * (t.val / 8 % 8) + r.val)) (128 * (t.val / 64 % 4) + l.val) : ℝ) : EReal) else 0)
        * ((rx (ax m c) (t.val / 256 * 4096 + (512 * (t.val % 8) + k.val)) (512 + (128 * (t.val / 64 % 4) + l.val)) : ℝ) : EReal) := fun l => by
    rw [qHead_at, blk0_at, blk1_at m c t hk]
    exact congrArg₂ (· * ·) (by split; exacts [f.x_eq _ _, rfl]) (f.x_eq _ _)
  rw [Finset.sum_congr rfl fun l _ => eq l,
    Cert.Attn.head_sum j (fun l => rx (ax m c) (t.val / 256 * 4096 + (512 * (t.val / 8 % 8) + r.val)) (128 * (t.val / 64 % 4) + l)) (fun l => rx (ax m c) (t.val / 256 * 4096 + (512 * (t.val % 8) + k.val)) (512 + (128 * (t.val / 64 % 4) + l))),
    ← EReal.coe_mul, ← EReal.coe_sub, ← EReal.coe_add]
  unfold score
  have e : ∀ d, 128 * (t.val / 64 % 4) + (64 * j.val + d) = 64 * (2 * (t.val / 64 % 4) + j.val) + d := fun d => by ring
  simp only [e]

/-- A tile's scores weigh what the point's keys weigh. -/
theorem scores_weigh (f : Finite (ax m c) (ay m c) (az m c)) (t : Fin cfg0.N) (FQ : Vec Ideal S2x512x128 .f32) (hF : Decays m c t.val FQ)
    (j : Fin 2) (r k : Fin 512) :
    (t.val % 8 < t.val / 8 % 8 → Weighs (scBelow (grid0.coords t 1) (iblk m c 0 t) (iblk m c 1 t) (iblk m c 4 t) FQ j (ix2 r k)) (Wt m c t.val j r (512 * (t.val % 8) + k.val)))
    ∧ (t.val % 8 = t.val / 8 % 8 → Weighs (scDiag (grid0.coords t 1) (iblk m c 0 t) (iblk m c 1 t) (iblk m c 4 t) FQ j (ix2 r k)) (Wt m c t.val j r (512 * (t.val % 8) + k.val))) := by
  constructor
  · intro h
    refine .inl ⟨_, score_at f t h.le FQ hF j r k, ?_⟩
    unfold Wt wt; rw [if_pos (by omega)]
  · intro h
    unfold scDiag Wt wt
    rw [scoreDiag_at]
    by_cases hkr : k.val ≤ r.val
    · rw [if_pos hkr, if_pos (by omega)]
      exact .inl ⟨_, score_at f t h.le FQ hF j r k, rfl⟩
    · rw [if_neg hkr, if_neg (by omega)]
      exact .inr ⟨rfl, rfl⟩

/-- The carried buffers after a point up to the diagonal. -/
def Inv (m : (ℓ : Loc nD τ sig) → Buf (Elt Ideal) ℓ) (c : Dev nD) (t : ℕ) (s : Carry Ideal) : Prop :=
  Holds (Wt m c t) (Zt m c t) (t % 8 + 1) s.1 s.2.1 s.2.2.1 ∧ Decays m c t s.2.2.2

theorem inv_step (f : Finite (ax m c) (ay m c) (az m c)) (t : Fin cfg0.N) (hk : t.val % 8 ≤ t.val / 8 % 8) (s : Carry Ideal)
    (h : Holds (Wt m c t.val) (Zt m c t.val) (t.val % 8) s.1 s.2.1 s.2.2.1) (hF : Decays m c t.val s.2.2.2) (sc : Fin 2 → FVec Ideal S512x512 .f32)
    (hsc : ∀ (j : Fin 2) (r k : Fin 512), Weighs (sc j (ix2 r k)) (Wt m c t.val j r (512 * (t.val % 8) + k.val))) :
    Inv m c t.val (stepWith sc (iblk m c 2 t) s) :=
  ⟨holds_step _ _ _ _ _ _ sc (iblk m c 2 t) hsc (fun j r => Cert.Attn.wt_pos _ _ _ _ _ _ _ (by omega))
    (fun k l => by rw [blk2_at m c t hk]; exact f.x_eq _ _) h, hF⟩

theorem inv_point (f : Finite (ax m c) (ay m c) (az m c)) (t : Fin cfg0.N) (hk : t.val % 8 ≤ t.val / 8 % 8) (s : Carry Ideal)
    (h : Holds (Wt m c t.val) (Zt m c t.val) (t.val % 8) (startAt m c t s).1 (startAt m c t s).2.1 (startAt m c t s).2.2.1) (hF : Decays m c t.val (startAt m c t s).2.2.2) :
    Inv m c t.val (stepAt m c t s) := by
  unfold stepAt
  rw [if_neg (by omega)]
  by_cases hd : t.val / 8 % 8 = t.val % 8
  · rw [if_pos hd]
    exact inv_step f t hk _ h hF _ fun j r k => (scores_weigh f t _ hF j r k).2 hd.symm
  · rw [if_neg hd]
    exact inv_step f t hk _ h hF _ fun j r k => (scores_weigh f t _ hF j r k).1 (by omega)

theorem inv_carried (f : Finite (ax m c) (ay m c) (az m c)) (n : ℕ) : ∀ hn : n < cfg0.N, n % 8 ≤ n / 8 % 8 → Inv m c n (carried m c n hn) := by
  induction n with
  | zero =>
    intro hn hk
    refine inv_point f ⟨0, hn⟩ hk _ ?_ ?_
    · rw [startAt_zero _ _ _ _ rfl]; exact holds_init _ _
    · rw [startAt_zero _ _ _ _ rfl]; exact decays_init f ⟨0, hn⟩
  | succ n ih =>
    intro hn hk
    refine inv_point f ⟨n + 1, hn⟩ hk _ ?_ ?_
    · by_cases h0 : (n + 1) % 8 = 0
      · rw [startAt_zero _ _ _ _ h0]; show Holds _ _ ((n + 1) % 8) _ _ _; rw [h0]; exact holds_init _ _
      · rw [startAt_rest _ _ _ _ h0]
        have hp := (ih (Nat.lt_of_succ_lt hn) (by omega)).1
        have e8 : (n + 1) / 8 = n / 8 := by omega
        have eW : Wt m c (n + 1) = Wt m c n := by
          unfold Wt; rw [e8, show (n + 1) / 256 = n / 256 by omega, show (n + 1) / 64 = n / 64 by omega]
        have eZ : Zt m c (n + 1) = Zt m c n := by
          unfold Zt; rw [show (n + 1) / 256 = n / 256 by omega, show (n + 1) / 64 = n / 64 by omega]
        show Holds (Wt m c (n + 1)) (Zt m c (n + 1)) ((n + 1) % 8) _ _ _
        rw [eW, eZ, show (n + 1) % 8 = n % 8 + 1 by omega]; exact hp
    · by_cases h0 : (n + 1) % 8 = 0
      · rw [startAt_zero _ _ _ _ h0]; exact decays_init f ⟨n + 1, hn⟩
      · rw [startAt_rest _ _ _ _ h0]
        intro j r l
        rw [(ih (Nat.lt_of_succ_lt hn) (by omega)).2 j r l]
        show _ = ((ry _ ((n + 1) / 256) (512 * ((n + 1) / 8 % 8) + r.val) (2 * ((n + 1) / 64 % 4) + j.val) : ℝ) : EReal)
        rw [show (n + 1) / 8 = n / 8 by omega, show (n + 1) / 256 = n / 256 by omega, show (n + 1) / 64 = n / 64 by omega]

/-- Past the diagonal a row's buffers stay. -/
theorem carried_past (n : ℕ) (hn : n + 1 < cfg0.N) (h : (n + 1) / 8 % 8 < (n + 1) % 8) : carried m c (n + 1) hn = carried m c n (Nat.lt_of_succ_lt hn) := by
  show stepAt m c ⟨n + 1, hn⟩ _ = _
  unfold stepAt startAt
  rw [if_pos h, if_neg (show ¬(n + 1) % 8 = 0 by omega)]

/-- The buffers at a row's last tile are those at its diagonal. -/
theorem carried_diag (n : ℕ) (k : ℕ) (hn : n + k < cfg0.N) (hd : n % 8 = n / 8 % 8) (hk : n % 8 + k < 8) : carried m c (n + k) hn = carried m c n (by omega) := by
  induction k with
  | zero => rfl
  | succ k ih => exact (carried_past (n + k) hn (by omega)).trans (ih (by omega) (by omega))

/-- The output block of a row of points is the attention's. -/
theorem outAt_at (f : Finite (ax m c) (ay m c) (az m c)) (t : Fin cfg0.N) (h7 : t.val % 8 = 7) (r : Fin 512) (l : Fin 128) :
    outAt m c t (ix2 r l) = ((attn (ax m c) (ay m c) (az m c) (t.val / 256) (2 * (t.val / 64 % 4) + l.val / 64) (512 * (t.val / 8 % 8) + r.val) (l.val % 64) : ℝ) : EReal) := by
  have hN := lt_points t
  have hC : cfg0.N = 2048 := N_0
  obtain ⟨n, hnd⟩ : ∃ n, n = t.val / 8 * 8 + t.val / 8 % 8 := ⟨_, rfl⟩
  have h8 : n / 8 = t.val / 8 ∧ n % 8 = t.val / 8 % 8 := by
    have hb : t.val / 8 % 8 < 8 := Nat.mod_lt _ (by decide)
    generalize t.val / 8 % 8 = b at *
    generalize t.val / 8 = a at *
    constructor <;> omega
  have h64 : n / 64 = t.val / 64 := (Nat.div_div_eq_div_mul n 8 8).symm.trans ((congrArg (· / 8) h8.1).trans (Nat.div_div_eq_div_mul t.val 8 8))
  have h256 : n / 256 = t.val / 256 := (Nat.div_div_eq_div_mul n 8 32).symm.trans ((congrArg (· / 32) h8.1).trans (Nat.div_div_eq_div_mul t.val 8 32))
  have e : carried m c t.val t.isLt = carried m c n (by have := t.isLt; omega) := by
    have := carried_diag (m := m) (c := c) n (7 - n % 8) (by omega) (by omega) (by omega)
    rw [← this]; congr 1; omega
  have hi := (inv_carried f n (by have := t.isLt; omega) (by omega)).1
  rw [← e] at hi
  unfold outAt
  rw [outBlk_at]
  have key : ∀ j : Fin 2, j.val = l.val / 64 → Ideal.div ((carried m c t.val t.isLt).2.2.1 (ix3 j r l)) ((carried m c t.val t.isLt).2.1 (ix3 j r l))
      = ((attn (ax m c) (ay m c) (az m c) (t.val / 256) (2 * (t.val / 64 % 4) + l.val / 64) (512 * (t.val / 8 % 8) + r.val) (l.val % 64) : ℝ) : EReal) := fun j hj => by
    rcases hi j r with ⟨h, -⟩ | ⟨μ, h⟩
    · exact absurd h (Nat.succ_ne_zero _)
    · rw [(h l).2.1, (h l).2.2]
      have eW : Wt m c n j r = wt (ax m c) (ay m c) (az m c) (t.val / 256) (2 * (t.val / 64 % 4) + l.val / 64) (512 * (t.val / 8 % 8) + r.val) := by
        unfold Wt; rw [hj, h256, h64, h8.1]
      have eZ : ∀ κ, Zt m c n κ l = rx (ax m c) (t.val / 256 * 4096 + κ) (1024 + (64 * (2 * (t.val / 64 % 4) + l.val / 64) + l.val % 64)) := fun κ => by
        unfold Zt; rw [h256, h64, show 128 * (t.val / 64 % 4) + l.val = 64 * (2 * (t.val / 64 % 4) + l.val / 64) + l.val % 64 by omega]
      simp only [eW, eZ]
      rw [Cert.Attn.quot_real _ _ _ (Cert.Attn.sum_pos _ _ _ _ _ _ _ (by omega))]
      unfold attn
      rw [Cert.Attn.sum_upto _ _ _ _ _ _ (512 * (n % 8 + 1)) (by omega) (by omega)]
      have e1 := Cert.Attn.sum_upto (ax m c) (ay m c) (az m c) (t.val / 256) (2 * (t.val / 64 % 4) + l.val / 64) (512 * (t.val / 8 % 8) + r.val) (512 * (n % 8 + 1)) (by omega) (by omega) (fun _ => 1)
      simp only [mul_one] at e1
      rw [e1]
  by_cases hl : l.val < 64
  · rw [if_pos hl]; exact key 0 (by show 0 = _; omega)
  · rw [if_neg hl]; exact key 1 (by show 1 = _; omega)

end Cert.KernelIdeal.Gen

end
-- ==== Proof.Attn.Arr.lean ====
/- The attention call's output array, and its frame. -/
module

public import proofs.«01_k».proof.Proof.Attn.Inv
public import Idealize.ShloMosaic.Lib.Pipeline.ArrRel
public import Idealize.ShloMosaic.Lib.Pipeline.Covers

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

section Frame

variable {F : FTy → Type} [FloatOps F] [Named F] (m : (ℓ : Loc nD τ sig) → Buf (Elt F) ℓ) (ρ : Dev nD → PrngReg)

/-- The call leaves its arguments as it found them. -/
theorem args_kept (r : PUnit × MemSt nD τ sig (Elt F)) (h : Pipeline.RDat.FramePost (cfgs 0) (fun c => (datC m c).toRRel marked (relC m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(Pipeline.RDat.FramePost.arr_in h c 2 rfl).trans ((A_eqC m c 2).trans (V_main_arg0 m c)),
    (Pipeline.RDat.FramePost.arr_in h c 3 rfl).trans ((A_eqC m c 3).trans (V_main_arg1 m c)),
    (Pipeline.RDat.FramePost.arr_in h c 4 rfl).trans ((A_eqC m c 4).trans (V_main_arg2 m c))⟩

/-- Every fair run of the attention's program ends with its arguments unchanged and every counter at zero. -/
theorem frameC : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨args_kept m r h.1, h.2⟩) (run_mainC m ρ)

end Frame

variable {m : (ℓ : Loc nD τ sig) → Buf (Elt Ideal) ℓ} {c : Dev nD}

theorem covers5 : (cfg0.win 5).Covers := by decide +kernel

/-- The output array a run ends with is the attention's. -/
theorem array_out (f : Cert.Attn.Finite (ax m c) (ay m c) (az m c)) (r : PUnit × MemSt nD τ sig (Elt Ideal))
    (h : Pipeline.RDat.FramePost (cfgs 0) (fun c => (datC m c).toRRel marked (relC m c)) (V m) r) :
    r.2.mem ((c.tc : Thread nD τ).loc main_v0) = Cert.Attn.out (ax m c) (ay m c) (az m c) := by
  obtain ⟨after, hL, hA⟩ := Pipeline.RDat.FramePost.exists_exact h c
  refine (hA 5).trans ?_
  refine Pipeline.Dat.arrAt_eq_of_covers (dat := (((datC m c).toRRel marked (relC m c)).withAfter after)) 5 _ covers5 fun t hf y => ?_
  have h7 := (flush0_5 t).mp hf
  have hX : after 5 t = outAt m c t := (datC m c).toRRel_leaves (w := 5) (by rfl) (hL 5 t hf) (by omega)
  have hN := lt_points t
  rw [Pipeline.RDat.withAfter_after, hX]
  blk_simp
  obtain ⟨a, b, rfl⟩ : ∃ (a : Fin 512) (b : Fin 128), y = ix2 a b := ⟨y 0, y 1, by funext i; match i with | ⟨0, _⟩ => rfl | ⟨1, _⟩ => rfl⟩
  rw [outAt_at f t h7 a b]
  unfold Cert.Attn.out
  have e0 : ((((win0_5.blk t).view.emb (ix2 a b)) 0 : Fin _) : ℕ) = 512 * (t.val / 256 * 8 + t.val / 8 % 8) + a.val := by
    blk_simp [idx5_0 t]
    omega
  have e1 : ((((win0_5.blk t).view.emb (ix2 a b)) 1 : Fin _) : ℕ) = 128 * (t.val / 64 % 4) + b.val := by
    blk_simp [idx5_1 t]
    omega
  rw [e0, e1, show (512 * (t.val / 256 * 8 + t.val / 8 % 8) + a.val) / 4096 = t.val / 256 by omega,
    show (512 * (t.val / 256 * 8 + t.val / 8 % 8) + a.val) % 4096 = 512 * (t.val / 8 % 8) + a.val by omega,
    show (128 * (t.val / 64 % 4) + b.val) / 64 = 2 * (t.val / 64 % 4) + b.val / 64 by omega,
    show (128 * (t.val / 64 % 4) + b.val) % 64 = b.val % 64 by omega]

/-- Every fair run of the attention's program ends with the attention in its result and its arguments unchanged. -/
theorem valueC (m : (ℓ : Loc nD τ sig) → Buf (Elt Ideal) ℓ) (ρ : Dev nD → PrngReg) (f : ∀ c, Cert.Attn.Finite (ax m c) (ay m c) (az m c)) :
    θ_run defs (onTc (τ := τ) (main (F := Ideal))) ⟨m, fun _ => 0, ρ⟩ (fun r => ∀ c : Dev nD,
      r.2.mem ((c.tc : Thread nD τ).loc main_v0) = Cert.Attn.out (ax m c) (ay m c) (az m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨array_out (f c) r h.1, args_kept m r h.1 c⟩) (run_mainC m ρ)

end Cert.KernelIdeal.Gen

end
-- ==== Proof.Attn.Plain.lean ====
/- The frame of the program as printed, from that of its idealization read at machine numbers. -/
module

public import proofs.«01_k».proof.Proof.Attn.Arr
public import proofs.«01_k».proof.Proof.Gen.Kernel

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-- A named constant as the machine number it stands for. -/
@[reducible] def plain (F : FTy → Type) [FloatOps F] : Named F := ⟨fun _ _ {φ} b => Scalar.ofBits φ b⟩

attribute [local instance] plain

section
variable {F : FTy → Type} [FloatOps F]

/-- The two programs differ only in their named constants. -/
theorem defs₀_same : @Cert.Kernel.defs₀ F _ _ = @Cert.KernelIdeal.defs₀ F _ _ _ := by
  unfold Cert.Kernel.defs₀ Cert.KernelIdeal.defs₀
  refine congrArg Defs.onTc (funext fun l => funext fun x => ?_)
  match l, x with
  | ⟨0, _⟩, (t, s) => rfl
  | ⟨n + 1, h⟩, _ => exact absurd h (Nat.not_lt.2 (Nat.le_add_left _ _))
theorem defs_same : @Cert.Kernel.defs F _ _ = @Cert.KernelIdeal.defs F _ _ _ := congrArg (fun d => Pipeline.defs (Cert.Kernel.pcfgs (F := F)) d) defs₀_same

end

/-- The printed program's runs end with its arguments unchanged and every counter at zero. -/
theorem frame_bits (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)) ∧ r.2.sem = fun _ => 0) :=
  (congrArg (fun d => θ_run d (onTc (τ := Cert.Kernel.τ) (Cert.Kernel.main (F := Bits))) ⟨m, fun _ => 0, g⟩ _) defs_same).mpr (Cert.KernelIdeal.Gen.frameC (F := Bits) m g)

end Cert.Attn

end
-- ==== Proof.Attn.Rows.lean ====
/- A maximum along an array's last axis. -/
module

public import proofs.«01_k».proof.Proof.Attn.Spec
public import proofs.«01_k».proof.Proof.Attn.Pt
public import Idealize.ShloMosaic.Lib.Pointwise

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A maximum over the last of four axes, from minus infinity. -/
theorem rows_max {n₀ n₁ n₂ n₃ : ℕ} (s : FVec Ideal ⟨4, ![n₀, n₁, n₂, n₃]⟩ .f32) (u : FVec Ideal ⟨0, ![]⟩ .f32) (hc : ∀ i, u i = ⊥)
    (h : (⟨4, ![n₀, n₁, n₂, n₃]⟩ : Shape).ReducesTo [3] ⟨3, ![n₀, n₁, n₂]⟩) (hu : 0 < (⟨0, ![]⟩ : Shape).numel) (a : Fin n₀) (b : Fin n₁) (q : Fin n₂) :
    Host.reduce FloatOps.maximumf s u h hu (ix3 a b q) = Finset.univ.sup fun k : Fin n₃ => s (ix4 a b q k) := by
  rw [Host.reduce_eq_fold, hc, Shape.ReducesTo.fold_fiber_r4_a3]
  rfl

/-- The larger of two arrays at an index. -/
theorem larger_at {s : Shape} (a b : FVec Ideal s .f32) (i : s.Idx) : maximumf a b i = max (a i) (b i) := rfl
/-- Such a maximum, once more against minus infinity. -/
theorem rows_top {n₀ n₁ n₂ n₃ : ℕ} (s : FVec Ideal ⟨4, ![n₀, n₁, n₂, n₃]⟩ .f32) (u : FVec Ideal ⟨0, ![]⟩ .f32) (hc : ∀ i, u i = ⊥)
    (g : FVec Ideal ⟨3, ![n₀, n₁, n₂]⟩ .f32) (hg : ∀ i, g i = ⊥)
    (h : (⟨4, ![n₀, n₁, n₂, n₃]⟩ : Shape).ReducesTo [3] ⟨3, ![n₀, n₁, n₂]⟩) (hu : 0 < (⟨0, ![]⟩ : Shape).numel) (a : Fin n₀) (b : Fin n₁) (q : Fin n₂) :
    maximumf g (Host.reduce FloatOps.maximumf s u h hu) (ix3 a b q) = Finset.univ.sup fun k : Fin n₃ => s (ix4 a b q k) := by
  rw [larger_at, hg, max_bot_left]
  exact rows_max s u hc h hu a b q
/-- The single entry of minus infinity. -/
theorem low_at (i : (⟨0, ![]⟩ : Shape).Idx) : (constant ⟨0, ![]⟩ .f32 0xFF800000#32 : FVec Ideal ⟨0, ![]⟩ .f32) i = ⊥ := Cert.KernelIdeal.Gen.negInf
/-- Minus infinity spread over an array. -/
theorem low_bcast {t : Shape} (h) (i : t.Idx) : (broadcastInDim t ![] h (constant ⟨0, ![]⟩ .f32 0xFF800000#32 : FVec Ideal ⟨0, ![]⟩ .f32)) i = ⊥ := Cert.KernelIdeal.Gen.negInf

end Cert.Attn

end
-- ==== Proof.Attn.Ref.lean ====
/- The plain attention, entry by entry. -/
module

public import proofs.«01_k».proof.Proof.Gen.ReferenceIdeal.Run
public import proofs.«01_k».proof.Proof.Attn.Rows

@[expose] public section

set_option maxRecDepth 16384

noncomputable section

namespace Cert.ReferenceIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen Idealize.ShloMosaic.StableHlo

/-- The queries, keys or values: batch, head, position, lane. -/
def third (k : Fin 3) (x : FVec Ideal S32768x1536 .bf16) : FVec Ideal S8x8x4096x64 .f32 :=
  let a : FVec Ideal S8x4096x3x8x64 .f32 := shapeCast _ (extf .f32 x bitsLt_bf16_f32) shapeCasts_S32768x1536_S8x4096x3x8x64
  let b : FVec Ideal S8x4096x1x8x64 .f32 := match k with
    | 0 => extractStridedSlice S8x4096x1x8x64 ![0, 0, 0, 0, 0] a slices_S8x4096x3x8x64_S8x4096x1x8x64_0_0_0_0_0
    | 1 => extractStridedSlice S8x4096x1x8x64 ![0, 0, 1, 0, 0] a slices_S8x4096x3x8x64_S8x4096x1x8x64_0_0_1_0_0
    | 2 => extractStridedSlice S8x4096x1x8x64 ![0, 0, 2, 0, 0] a slices_S8x4096x3x8x64_S8x4096x1x8x64_0_0_2_0_0
  transpose S8x8x4096x64 [0, 2, 1, 3] (shapeCast S8x4096x8x64 b shapeCasts_S8x4096x1x8x64_S8x4096x8x64) transposes_S8x4096x8x64_S8x8x4096x64_0_2_1_3
/-- The scores. -/
def scores (x : FVec Ideal S32768x1536 .bf16) (y : FVec Ideal S8x4096x128 .f32) (z : FVec Ideal S8x8x4096 .f32) : FVec Ideal S8x8x4096x4096 .f32 :=
  addf (mulf (Host.dotGeneral dot_S8x8x4096x64_S8x8x4096x64_S8x8x4096x4096_3_3_2_2_01_01 none (third 0 x) (third 1 x)) (broadcastInDim S8x8x4096x4096 ![] bcast_S_S8x8x4096x4096 (constant S_ .f32 0x3E000000#32)))
    (subf (broadcastInDim S8x8x4096x4096 ![0, 1, 2, 3] bcast_S8x8x4096x1_S8x8x4096x4096_0_1_2_3 (broadcastInDim S8x8x4096x1 ![0, 1, 2] bcast_S8x8x4096_S8x8x4096x1_0_1_2 (transpose S8x8x4096 [0, 2, 1] (extractStridedSlice S8x4096x8 ![0, 0, 0] y slices_S8x4096x128_S8x4096x8_0_0_0) transposes_S8x4096x8_S8x8x4096_0_2_1)))
      (broadcastInDim S8x8x4096x4096 ![0, 1, 2, 3] bcast_S8x8x1x4096_S8x8x4096x4096_0_1_2_3 (broadcastInDim S8x8x1x4096 ![0, 1, 3] bcast_S8x8x4096_S8x8x1x4096_0_1_3 z)))
/-- Which keys a query sees. -/
def sees : IVec S8x8x4096x4096 1 :=
  broadcastInDim S8x8x4096x4096 ![2, 3] bcast_S4096x4096_S8x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))
/-- Scores that the query does not see are minus infinity. -/
def masked (s : FVec Ideal S8x8x4096x4096 .f32) : FVec Ideal S8x8x4096x4096 .f32 :=
  select sees s (broadcastInDim S8x8x4096x4096 ![] bcast_S_S8x8x4096x4096 (id (constant S_ .f32 0xFF800000#32)))
/-- A row's largest score. -/
def top (s : FVec Ideal S8x8x4096x4096 .f32) : FVec Ideal S8x8x4096 .f32 :=
  maximumf (broadcastInDim S8x8x4096 ![] bcast_S_S8x8x4096 (constant S_ .f32 0xFF800000#32)) (Host.reduce FloatOps.maximumf s (constant S_ .f32 0xFF800000#32) reducesTo_S8x8x4096x4096_S8x8x4096_d3 h_S_)
/-- A row's value spread over the keys. -/
def spread (t : FVec Ideal S8x8x4096 .f32) : FVec Ideal S8x8x4096x4096 .f32 :=
  broadcastInDim S8x8x4096x4096 ![0, 1, 2, 3] bcast_S8x8x4096x1_S8x8x4096x4096_0_1_2_3 (broadcastInDim S8x8x4096x1 ![0, 1, 2] bcast_S8x8x4096_S8x8x4096x1_0_1_2 t)
/-- The weights before the division. -/
def expo (s : FVec Ideal S8x8x4096x4096 .f32) : FVec Ideal S8x8x4096x4096 .f32 := Host.exp (subf s (spread (top s)))
/-- The weights' sum. -/
def total (p : FVec Ideal S8x8x4096x4096 .f32) : FVec Ideal S8x8x4096 .f32 := Host.reduceAdd p (constant S_ .f32 0x00000000#32) reducesTo_S8x8x4096x4096_S8x8x4096_d3 h_S_
/-- The weighted values. -/
def mean (p : FVec Ideal S8x8x4096x4096 .f32) (v : FVec Ideal S8x8x4096x64 .f32) : FVec Ideal S8x8x4096x64 .f32 :=
  Host.dotGeneral dot_S8x8x4096x4096_S8x8x4096x64_S8x8x4096x64_3_2_2_3_01_01 none (Host.divf p (spread (total p))) v
/-- Heads back side by side. -/
def joined (o : FVec Ideal S8x8x4096x64 .f32) : FVec Ideal S32768x512 .bf16 :=
  truncf .bf16 (shapeCast S32768x512 (transpose S8x4096x8x64 [0, 2, 1, 3] o transposes_S8x8x4096x64_S8x4096x8x64_0_2_1_3) shapeCasts_S8x4096x8x64_S32768x512) bitsLt_bf16_f32

theorem result_eq (m : (ℓ : Loc nD τ sig) → Buf (Elt Ideal) ℓ) (c : Dev nD) : res_main_v43 m c
    = joined (mean (expo (masked (scores (m ((c.tc : Thread nD τ).loc main_arg0)) (m ((c.tc : Thread nD τ).loc main_arg1)) (m ((c.tc : Thread nD τ).loc main_arg2))))) (third 2 (m ((c.tc : Thread nD τ).loc main_arg0)))) := rfl

theorem third_at (k : Fin 3) (x : FVec Ideal S32768x1536 .bf16) (b : Fin 8) (h : Fin 8) (q : Fin 4096) (d : Fin 64) :
    third k x (ix4 b h q d) = x (ix2 ⟨b.val * 4096 + q.val, by omega⟩ ⟨512 * k.val + (64 * h.val + d.val), by omega⟩) := by
  match k with
  | 0 => unfold third; pointwise; congr 2; simp; omega
  | 1 => unfold third; pointwise; congr 2; simp; omega
  | 2 => unfold third; pointwise; congr 2; simp; omega
theorem scores_at (x : FVec Ideal S32768x1536 .bf16) (y : FVec Ideal S8x4096x128 .f32) (z : FVec Ideal S8x8x4096 .f32) (b h : Fin 8) (q k : Fin 4096) :
    scores x y z (ix4 b h q k) = (∑ d : Fin 64, third 0 x (ix4 b h q d) * third 1 x (ix4 b h k d)) * (((1 : ℝ) / 8 : ℝ) : EReal) + (y (ix3 b q ⟨h.val, by omega⟩) - z (ix3 b h k)) := by
  rw [← Cert.KernelIdeal.Gen.eighth]
  unfold scores
  pointwise
theorem masked_at (s : FVec Ideal S8x8x4096x4096 .f32) (b h : Fin 8) (q k : Fin 4096) : masked s (ix4 b h q k) = if k.val ≤ q.val then s (ix4 b h q k) else ⊥ := by
  unfold masked sees
  pointwise
  have hk := k.isLt
  have hq := q.isLt
  have e : IntOp.cmpi CmpIPredicate.sle (BitVec.ofNat 32 k.val) (BitVec.ofNat 32 q.val) = BitVec.ofBool (decide (k.val ≤ q.val)) := by
    unfold IntOp.cmpi
    simp only [BitVec.sle_eq_decide, BitVec.toInt_eq_toNat_cond, BitVec.toNat_ofNat]
    rw [Nat.mod_eq_of_lt (by omega), Nat.mod_eq_of_lt (by omega), if_pos (by omega), if_pos (by omega)]
    simp
  rw [e]
  by_cases h : k.val ≤ q.val
  · rw [if_pos h, decide_eq_true h]; rfl
  · rw [if_neg h, decide_eq_false h]; exact Cert.KernelIdeal.Gen.negInf
theorem expo_at (s : FVec Ideal S8x8x4096x4096 .f32) (b h : Fin 8) (q k : Fin 4096) : expo s (ix4 b h q k) = Ideal.exp (s (ix4 b h q k) - top s (ix3 b h q)) := by
  unfold expo spread
  pointwise
theorem total_at (p : FVec Ideal S8x8x4096x4096 .f32) (b h : Fin 8) (q : Fin 4096) : total p (ix3 b h q) = ∑ k : Fin 4096, p (ix4 b h q k) := by
  unfold total
  pointwise
theorem mean_at (p : FVec Ideal S8x8x4096x4096 .f32) (v : FVec Ideal S8x8x4096x64 .f32) (b h : Fin 8) (q : Fin 4096) (d : Fin 64) :
    mean p v (ix4 b h q d) = ∑ k : Fin 4096, Ideal.div (p (ix4 b h q k)) (total p (ix3 b h q)) * v (ix4 b h k d) := by
  unfold mean spread
  pointwise
theorem joined_at (o : FVec Ideal S8x8x4096x64 .f32) (r : Fin 32768) (l : Fin 512) :
    joined o (ix2 r l) = o (ix4 ⟨r.val / 4096, by omega⟩ ⟨l.val / 64, by omega⟩ ⟨r.val % 4096, by omega⟩ ⟨l.val % 64, by omega⟩) := by
  unfold joined
  pointwise

end Cert.ReferenceIdeal.Value

end
-- ==== Proof.Attn.Top.lean ====
/- The plain attention: a row's largest score. -/
module

public import proofs.«01_k».proof.Proof.Attn.Ref
public import proofs.«01_k».proof.Proof.Attn.Rows

@[expose] public section

set_option maxRecDepth 16384

noncomputable section

namespace Cert.ReferenceIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen Idealize.ShloMosaic.StableHlo

theorem top_at (s : FVec Ideal S8x8x4096x4096 .f32) (b h : Fin 8) (q : Fin 4096) : top s (ix3 b h q) = Finset.univ.sup fun k : Fin 4096 => s (ix4 b h q k) := by
  unfold top
  exact Cert.Attn.rows_top s _ Cert.Attn.low_at _ (Cert.Attn.low_bcast _) reducesTo_S8x8x4096x4096_S8x8x4096_d3 h_S_ b h q
end Cert.ReferenceIdeal.Value

end
-- ==== Proof.Attn.RefValue.lean ====
/- The plain attention's result is the attention on real numbers. -/
module

public import proofs.«01_k».proof.Proof.Attn.Top

@[expose] public section

set_option maxRecDepth 16384

noncomputable section

namespace Cert.ReferenceIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen Idealize.ShloMosaic.StableHlo

variable {x : FVec Ideal S32768x1536 .bf16} {y : FVec Ideal S8x4096x128 .f32} {z : FVec Ideal S8x8x4096 .f32}

theorem scores_real (f : Cert.Attn.Finite x y z) (b h : Fin 8) (q k : Fin 4096) :
    scores x y z (ix4 b h q k) = ((Cert.Attn.score x y z b.val h.val q.val k.val : ℝ) : EReal) := by
  rw [scores_at, f.y_eq b q ⟨h.val, by omega⟩ h.isLt, f.z_eq b h k, ← EReal.coe_sub]
  have e : ∀ d : Fin 64, third 0 x (ix4 b h q d) * third 1 x (ix4 b h k d)
      = ((Cert.Attn.rx x (b.val * 4096 + q.val) (64 * h.val + d.val) * Cert.Attn.rx x (b.val * 4096 + k.val) (512 + (64 * h.val + d.val)) : ℝ) : EReal) := fun d => by
    rw [third_at, third_at, f.x_eq, f.x_eq, ← EReal.coe_mul]
    show ((Cert.Attn.rx x _ (512 * 0 + _) * Cert.Attn.rx x _ (512 * 1 + _) : ℝ) : EReal) = _
    rw [Nat.mul_zero, Nat.zero_add, Nat.mul_one]
  rw [Finset.sum_congr rfl fun d _ => e d, Cert.Attn.coe_sum, ← EReal.coe_mul, ← EReal.coe_add]
  rfl
theorem masked_weighs (f : Cert.Attn.Finite x y z) (b h : Fin 8) (q k : Fin 4096) :
    Cert.Attn.Weighs (masked (scores x y z) (ix4 b h q k)) (Cert.Attn.wt x y z b.val h.val q.val k.val) := by
  rw [masked_at, scores_real f]
  unfold Cert.Attn.wt
  by_cases hk : k.val ≤ q.val
  · rw [if_pos hk, if_pos hk]; exact Or.inl ⟨_, rfl, rfl⟩
  · rw [if_neg hk, if_neg hk]; exact Or.inr ⟨rfl, rfl⟩
theorem top_real (f : Cert.Attn.Finite x y z) (b h : Fin 8) (q : Fin 4096) : ∃ μ : ℝ, top (masked (scores x y z)) (ix3 b h q) = (μ : EReal) := by
  rw [top_at]
  exact Cert.Attn.sup_real _ (fun k : Fin 4096 => Cert.Attn.wt x y z b.val h.val q.val k.val) (fun k => masked_weighs f b h q k) ⟨0, by omega⟩
    (Cert.Attn.wt_pos x y z _ _ _ _ (Nat.zero_le _))
theorem quot_at (f : Cert.Attn.Finite x y z) (b h : Fin 8) (q k : Fin 4096) :
    Ideal.div (expo (masked (scores x y z)) (ix4 b h q k)) (total (expo (masked (scores x y z))) (ix3 b h q))
      = ((Cert.Attn.wt x y z b.val h.val q.val k.val / ∑ κ ∈ Finset.range 4096, Cert.Attn.wt x y z b.val h.val q.val κ : ℝ) : EReal) := by
  obtain ⟨μ, hμ⟩ := top_real f b h q
  have e : ∀ k : Fin 4096, expo (masked (scores x y z)) (ix4 b h q k) = ((Cert.Attn.wt x y z b.val h.val q.val k.val * Real.exp (-μ) : ℝ) : EReal) := fun k => by
    rw [expo_at, hμ]; exact (masked_weighs f b h q k).exp μ
  rw [total_at, e, Finset.sum_congr rfl fun k _ => e k, Cert.Attn.coe_sum, ← Finset.sum_mul,
    Fin.sum_univ_eq_sum_range (fun κ => Cert.Attn.wt x y z b.val h.val q.val κ) 4096]
  exact Cert.Attn.quot_real _ _ _ (Cert.Attn.sum_pos x y z _ _ _ _ (by norm_num))
theorem mean_real (f : Cert.Attn.Finite x y z) (b h : Fin 8) (q : Fin 4096) (d : Fin 64) :
    mean (expo (masked (scores x y z))) (third 2 x) (ix4 b h q d) = ((Cert.Attn.attn x y z b.val h.val q.val d.val : ℝ) : EReal) := by
  rw [mean_at]
  have e : ∀ k : Fin 4096, Ideal.div (expo (masked (scores x y z)) (ix4 b h q k)) (total (expo (masked (scores x y z))) (ix3 b h q)) * third 2 x (ix4 b h k d)
      = ((Cert.Attn.wt x y z b.val h.val q.val k.val * Cert.Attn.rx x (b.val * 4096 + k.val) (1024 + (64 * h.val + d.val))
        / ∑ κ ∈ Finset.range 4096, Cert.Attn.wt x y z b.val h.val q.val κ : ℝ) : EReal) := fun k => by
    rw [quot_at f, third_at, f.x_eq, ← EReal.coe_mul, div_mul_eq_mul_div]
    rfl
  rw [Finset.sum_congr rfl fun k _ => e k, Cert.Attn.coe_sum, ← Finset.sum_div,
    Fin.sum_univ_eq_sum_range (fun κ => Cert.Attn.wt x y z b.val h.val q.val κ * Cert.Attn.rx x (b.val * 4096 + κ) (1024 + (64 * h.val + d.val))) 4096]
  rfl

/-- The plain attention's result, on finite arrays, is the attention on real numbers. -/
theorem plain_value (f : Cert.Attn.Finite x y z) :
    joined (mean (expo (masked (scores x y z))) (third 2 x)) = Cert.Attn.out x y z := by
  funext i
  obtain ⟨r, l, rfl⟩ : ∃ (r : Fin 32768) (l : Fin 512), i = ix2 r l := ⟨i 0, i 1, by funext a; fin_cases a <;> rfl⟩
  rw [joined_at, mean_real f]
  rfl

end Cert.ReferenceIdeal.Value

end
-- ==== Proof.Attn.Claims.lean ====
/- The attention's claims. -/
module

public import proofs.«01_k».proof.Defs
public import proofs.«01_k».proof.Proof.Attn.Plain
public import proofs.«01_k».proof.Proof.Attn.RefValue
public import Idealize.ShloMosaic.Lib.Quiescent

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-- The side conditions of the precondition's operations. -/
theorem pre_facts : Cert.Pre_finite.Facts where
  bcast_S_S32768x1536 := by decide +kernel
  slices_S8x4096x128_S8x4096x8_0_0_0 := by decide +kernel
  bcast_S_S8x4096x8 := by decide +kernel
  bcast_S_S8x8x4096 := by decide +kernel

theorem inf16 : Ideal.ofBits .bf16 0x7F80#16 = ⊤ := by simp [Ideal.ofBits, Ideal.ieee]
theorem inf32 : Ideal.ofBits .f32 0x7F800000#32 = ⊤ := by simp [Ideal.ofBits, Ideal.ieee]

/-- A number whose absolute value is below infinity is neither infinity. -/
theorem real_of_abs {v : EReal} (h : Ideal.cmp .olt (max v (-v)) ⊤ = 1#1) : v ≠ ⊤ ∧ v ≠ ⊥ := by
  refine ⟨fun e => ?_, fun e => ?_⟩ <;> subst e <;> revert h <;> simp [Ideal.cmp]

section
attribute [local instance] pre_facts

theorem pre_x (x : FVec Ideal ⟨2, ![32768, 1536]⟩ .bf16) (y : FVec Ideal ⟨3, ![8, 4096, 128]⟩ .f32) (z : FVec Ideal ⟨3, ![8, 8, 4096]⟩ .f32) (i) :
    (Cert.Pre_finite.fn (F := Ideal) x y z).1 i = Ideal.cmp .olt (max (x i) (-(x i))) (Ideal.ofBits .bf16 0x7F80#16) := rfl
theorem pre_y (x : FVec Ideal ⟨2, ![32768, 1536]⟩ .bf16) (y : FVec Ideal ⟨3, ![8, 4096, 128]⟩ .f32) (z : FVec Ideal ⟨3, ![8, 8, 4096]⟩ .f32)
    (b : Fin 8) (s : Fin 4096) (h : Fin 8) :
    (Cert.Pre_finite.fn (F := Ideal) x y z).2.1 (ix3 b s h) = Ideal.cmp .olt (max (y (ix3 b s ⟨h.val, by omega⟩)) (-(y (ix3 b s ⟨h.val, by omega⟩)))) (Ideal.ofBits .f32 0x7F800000#32) := by
  have e : extractStridedSlice Cert.Pre_finite.S8x4096x8 ![0, 0, 0] y Cert.Pre_finite.Facts.slices_S8x4096x128_S8x4096x8_0_0_0 (ix3 b s h) = y (ix3 b s ⟨h.val, by omega⟩) := by
    pointwise
  rw [← e]
  rfl
theorem pre_z (x : FVec Ideal ⟨2, ![32768, 1536]⟩ .bf16) (y : FVec Ideal ⟨3, ![8, 4096, 128]⟩ .f32) (z : FVec Ideal ⟨3, ![8, 8, 4096]⟩ .f32) (i) :
    (Cert.Pre_finite.fn (F := Ideal) x y z).2.2 i = Ideal.cmp .olt (max (z i) (-(z i))) (Ideal.ofBits .f32 0x7F800000#32) := rfl

/-- What the precondition says of the three arrays. -/
theorem pre_finite {m : (ℓ : Loc Cert.KernelIdeal.nD Cert.KernelIdeal.τ Cert.KernelIdeal.sig) → Buf (Elt Ideal) ℓ} (h : Cert.Pre_KernelIdeal_finite m)
    (c : Dev Cert.KernelIdeal.nD) : Finite (Cert.KernelIdeal.Gen.ax m c) (Cert.KernelIdeal.Gen.ay m c) (Cert.KernelIdeal.Gen.az m c) := by
  obtain ⟨hx, hy, hz⟩ := h c
  refine ⟨fun i => real_of_abs ?_, fun b s k hk => real_of_abs ?_, fun i => real_of_abs ?_⟩
  · rw [← inf16]; exact (pre_x _ _ _ i).symm.trans (congrFun hx i)
  · rw [← inf32]; exact (pre_y _ _ _ b s ⟨k.val, hk⟩).symm.trans (congrFun hy _)
  · rw [← inf32]; exact (pre_z _ _ _ i).symm.trans (congrFun hz i)

/-- The plain attention runs, changes no argument and leaves no semaphore raised. -/
theorem plain_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) _⟩) (Cert.ReferenceIdeal.Value.run (F := Ideal) m g)

theorem same_value : Cert.algebraic_KernelIdeal_ReferenceIdeal_pre_finite := by
  intro m g m' g' hp ha
  refine ⟨fun c => out (Cert.KernelIdeal.Gen.ax m c) (Cert.KernelIdeal.Gen.ay m c) (Cert.KernelIdeal.Gen.az m c), Cert.KernelIdeal.Gen.valueC m g fun c => pre_finite hp c,
    (θ_run _ _ _).mono (fun r h c => ⟨(h c).1.trans ?_, (h c).2⟩) (Cert.ReferenceIdeal.Value.run (F := Ideal) m' g')⟩
  rw [Cert.ReferenceIdeal.Value.result_eq, (ha c).1, (ha c).2.1, (ha c).2.2]
  exact Cert.ReferenceIdeal.Value.plain_value (pre_finite hp c)

theorem frame_plain : Cert.quiescent_Kernel := fun m g _ => frame_bits m g
theorem frame_ideal : Cert.quiescent_KernelIdeal := fun m g _ => Cert.KernelIdeal.Gen.frameC m g
theorem frame_ideal_pre : Cert.quiescent_KernelIdeal_pre_finite := fun m g _ => Cert.KernelIdeal.Gen.frameC m g
theorem frame_reference : Cert.quiescent_ReferenceIdeal := fun m g _ => plain_frame m g
theorem frame_reference_pre : Cert.quiescent_ReferenceIdeal_pre_finite := fun m g _ => plain_frame m g
theorem mask_kept : Cert.preserves_Kernel_KernelIdeal := IdealRules.named_const.statement _ _ _ _ _ rfl

end

end Cert.Attn

end
-- ==== Proof.Rest.Block2.lean ====
/- The grouped layer's block of 512 rows, as functions of blocks. -/
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
public import Idealize.ShloMosaic.Lib.WholeRead
public import Idealize.ShloMosaic.Lib.WritesUnit
public import Idealize.ShloMosaic.Lib.ValueIdx
public import Idealize.ShloMosaic.Lib.ValueLayout

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx

variable {F : FTy → Type} [FloatOps F]

/-- What one chunk of 256 inner columns adds to the block's result. -/
def tile (h : FVec F S512x1024 .bf16) (a b : Vec F S1024x256 .bf16) (c : Vec F S256x1024 .bf16) : FVec F S512x1024 .f32 :=
  let u := matmul dot_S512x1024_S1024x256_S512x256_1_0_0_1_n_n none h a (constant S512x256 .f32 0x00000000#32)
  let v := matmul dot_S512x1024_S1024x256_S512x256_1_0_0_1_n_n none h b (constant S512x256 .f32 0x00000000#32)
  let one : FVec F S512x256 .f32 := broadcast S512x256 (Scalar.ofBits .f32 0x3F800000#32)
  let e := exp (subf (broadcast S512x256 (Scalar.ofBits .f32 0x00000000#32)) u)
  matmul dot_S512x256_S256x1024_S512x1024_1_0_0_1_n_n none (truncf .bf16 (mulf (mulf u (divf one (addf one e))) v) bitsLt_bf16_f32) c
    (constant S512x1024 .f32 0x00000000#32)

/-- The columns from `256 n` of an expert's block. -/
def colsOf (x : Vec F S1x1024x2816 .bf16) (n : Fin 11) : Vec F S1024x256 .bf16 :=
  fun y => x (ix3 (0 : Fin 1) (y 0 : Fin 1024) (⟨256 * n.val + (y 1).val, by have h : (y 1).val < 256 := (y 1).isLt; have := n.isLt; omega⟩ : Fin 2816))

/-- The rows from `256 n` of an expert's block. -/
def rowsOf (x : Vec F S1x2816x1024 .bf16) (n : Fin 11) : Vec F S256x1024 .bf16 :=
  fun y => x (ix3 (0 : Fin 1) (⟨256 * n.val + (y 0).val, by have h : (y 0).val < 256 := (y 0).isLt; have := n.isLt; omega⟩ : Fin 2816) (y 1 : Fin 1024))

/-- The chunk `n` of a block's result. -/
def tileN (x0 : Vec F S512x1024 .f32) (x1 x2 : Vec F S1x1024x2816 .bf16) (x3 : Vec F S1x2816x1024 .bf16) (n : Fin 11) : FVec F S512x1024 .f32 :=
  tile (truncf .bf16 x0 bitsLt_bf16_f32) (colsOf x1 n) (colsOf x2 n) (rowsOf x3 n)

/-- The result of a block in use: its eleven chunks, added in order. -/
def onBlk (x0 : Vec F S512x1024 .f32) (x1 x2 : Vec F S1x1024x2816 .bf16) (x3 : Vec F S1x2816x1024 .bf16) : FVec F S512x1024 .f32 :=
  let f := tileN x0 x1 x2 x3
  addf (addf (addf (addf (addf (addf (addf (addf (addf (addf (f 0) (f 1)) (f 2)) (f 3)) (f 4)) (f 5)) (f 6)) (f 7)) (f 8)) (f 9)) (f 10)

/-- A block not in use: zeros. -/
def offBlk : FVec F S512x1024 .f32 := broadcast S512x1024 (Scalar.ofBits .f32 0x00000000#32 : F .f32)

/-- A load of a whole block is the block. -/
theorem ld_all (m : Memref sig .tc .vmem S512x1024 .f32) (hm : m.IsWhole) (x : Vec F S512x1024 .f32) (h) :
    View.readAt (Elt F) m.view (Rect.unit (s := S512x1024) ![0, 0] S512x1024.size h).toLoadRect (hm.unread x) = x := by
  funext y
  refine (hm.readAt_unread x _ y).trans (congrArg x ?_)
  funext a; refine Fin.ext ?_
  match a with
  | ⟨0, _⟩ => exact (Nat.zero_add _).trans (Nat.one_mul _)
  | ⟨1, _⟩ => exact (Nat.zero_add _).trans (Nat.one_mul _)

/-- A load of 256 columns of an expert's block. -/
theorem ld_cols (m : Memref sig .tc .vmem S1x1024x2816 .bf16) (hm : m.IsWhole) (x : Vec F S1x1024x2816 .bf16) (n : Fin 11) (o : ℕ) (ho : o = 256 * n.val) (h0 hn h) :
    View.readAt (Elt F) ((m.view.slice (Rect.unit (s := S1x1024x2816) ![0, 0, 0] S1x1024x2816.size h0)).reshape S1024x2816 hn)
      (Rect.unit (s := S1024x2816) ![0, o] S1024x256.size h).toLoadRect (hm.unread x) = colsOf x n := by
  subst ho
  funext y
  refine (hm.readAt_slice_reshape_unread x _ hn _ y).trans (congrArg x ?_)
  have e : (Rect.unit (s := S1024x2816) ![0, 256 * n.val] S1024x256.size h).toLoadRect.idx y = ix2 (y 0 : Fin 1024) (⟨256 * n.val + (y 1).val, by have h : (y 1).val < 256 := (y 1).isLt; have := n.isLt; omega⟩ : Fin 2816) := by
    funext a; refine Fin.ext ?_
    match a with
    | ⟨0, _⟩ => exact (Nat.zero_add _).trans (Nat.one_mul _)
    | ⟨1, _⟩ => exact congrArg (256 * n.val + ·) (Nat.one_mul _)
  refine (congrArg (fun z => (Rect.unit (s := S1x1024x2816) ![0, 0, 0] S1x1024x2816.size h0).emb (Shape.reshapeEquiv hn z)) e).trans ?_
  refine (congrArg (Rect.unit (s := S1x1024x2816) ![0, 0, 0] S1x1024x2816.size h0).emb (reshapeEquiv_ix2_1ab hn _ _)).trans ?_
  funext a; refine Fin.ext ?_
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- A load of 256 rows of an expert's block. -/
theorem ld_rows (m : Memref sig .tc .vmem S1x2816x1024 .bf16) (hm : m.IsWhole) (x : Vec F S1x2816x1024 .bf16) (n : Fin 11) (o : ℕ) (ho : o = 256 * n.val) (h0 hn h) :
    View.readAt (Elt F) ((m.view.slice (Rect.unit (s := S1x2816x1024) ![0, 0, 0] S1x2816x1024.size h0)).reshape S2816x1024 hn)
      (Rect.unit (s := S2816x1024) ![o, 0] S256x1024.size h).toLoadRect (hm.unread x) = rowsOf x n := by
  subst ho
  funext y
  refine (hm.readAt_slice_reshape_unread x _ hn _ y).trans (congrArg x ?_)
  have e : (Rect.unit (s := S2816x1024) ![256 * n.val, 0] S256x1024.size h).toLoadRect.idx y = ix2 (⟨256 * n.val + (y 0).val, by have h : (y 0).val < 256 := (y 0).isLt; have := n.isLt; omega⟩ : Fin 2816) (y 1 : Fin 1024) := by
    funext a; refine Fin.ext ?_
    match a with
    | ⟨0, _⟩ => exact congrArg (256 * n.val + ·) (Nat.one_mul _)
    | ⟨1, _⟩ => exact (Nat.zero_add _).trans (Nat.one_mul _)
  refine (congrArg (fun z => (Rect.unit (s := S1x2816x1024) ![0, 0, 0] S1x2816x1024.size h0).emb (Shape.reshapeEquiv hn z)) e).trans ?_
  refine (congrArg (Rect.unit (s := S1x2816x1024) ![0, 0, 0] S1x2816x1024.size h0).emb (reshapeEquiv_ix2_1ab hn _ _)).trans ?_
  funext a; refine Fin.ext ?_
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- A store of a whole block leaves what was stored. -/
theorem st_all (v : View sig .tc .vmem S512x1024 .f32) (f) (p : Vec F S512x1024 .f32) (h) :
    v.read (Elt F) (v.writes (Elt F) f [⟨Rect.unit (s := S512x1024) ![0, 0] S512x1024.size h, p⟩]) = p := by
  funext y
  exact View.read_writes_cons_unit_of_mem v f h p [] y y rfl
    (fun c => match c with | ⟨0, _⟩ => (Nat.zero_add _).symm | ⟨1, _⟩ => (Nat.zero_add _).symm)

end Cert.Kernel2Ideal.Gen

end
-- ==== Proof.Rest.Off2.lean ====
/- The grouped layer's body on one block of rows. -/
module

public import proofs.«01_k».proof.Proof.Rest.Block2

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The two tables the body reads, whole. -/
abbrev tbM0_0 : Memref sig .tc .smem S136 .i32 := Memref.whole main_arg0
abbrev tbM0_1 : Memref sig .tc .smem S136 .i32 := Memref.whole main_arg1

/-- The word of the second table the body decides by. -/
abbrev word (T1 : Vec F S136 .i32) (i : grid0.Coords) : BitVec 32 :=
  View.readAt (Elt F) (tbM0_1).view (Rect.unit (s := S136) (k0_off1 i) S1.size (k0_off1_inb i)).toLoadRect T1 (Shape.Idx.first (numel1_S1.symm ▸ Nat.one_pos))

set_option maxHeartbeats 4000000 in
/-- A block not in use is filled with zeros. -/
theorem run_off (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (T0 T1 : Vec F S136 .i32)
    (x0 : Vec F S512x1024 .f32) (x1 x2 : Vec F S1x1024x2816 .bf16) (x3 : Vec F S1x2816x1024 .bf16) (d : Vec F S512x1024 .f32) (E : Set ℕ) (K : PUnit → sProp 𝕄)
    (h1 : ¬(k0_cond1 (word T1 i) = 1#1)) (h2 : k0_cond2 (word T1 i) = 1#1) :
    iprop(owns (c : Thread nD τ) arg3 fullShare x0 ∗ owns (c : Thread nD τ) arg4 fullShare x1 ∗ owns (c : Thread nD τ) arg5 fullShare x2 ∗ owns (c : Thread nD τ) arg6 fullShare x3 ∗ (tbM0_0.view.loc (c : Thread nD τ) ↦{fullShare.right} T0) ∗ (tbM0_1.view.loc (c : Thread nD τ) ↦{fullShare.right} T1) ∗ owns (c : Thread nD τ) arg7 fullShare (d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (tbM0_0.view.loc (c : Thread nD τ) ↦{fullShare.right} T0) ∗ (tbM0_1.view.loc (c : Thread nD τ) ↦{fullShare.right} T1) ∗ owns (c : Thread nD τ) arg7 fullShare (offBlk)) -∗ K ⟨⟩))
          ⊢ wp frame (wpE (defs₀ (F := F)) Variants.none c none) E (cc0_moe_group_ffn i tbM0_0 (Memref.isWhole_whole _) tbM0_1 (Memref.isWhole_whole _) arg3 harg3 arg4 harg4 arg5 harg5 arg6 harg6 arg7 harg7) K := by
  rw [cc0_moe_group_ffn_eq_skeleton]; unfold cc0_moe_group_ffn_skel
  unfold owns
  iintro ⟨⟨%f0, %hf0, H0⟩, ⟨%f1, %hf1, H1⟩, ⟨%f2, %hf2, H2⟩, ⟨%f3, %hf3, H3⟩, HT0, HT1, ⟨%f4, %hf4, H4⟩, Hk⟩
  obtain rfl := harg3.eq_unread hf0; obtain rfl := harg4.eq_unread hf1; obtain rfl := harg5.eq_unread hf2; obtain rfl := harg6.eq_unread hf3; obtain rfl := harg7.eq_unread hf4
  have hT0 : tbM0_0.IsWhole := Memref.isWhole_whole _
  have hT1 : tbM0_1.IsWhole := Memref.isWhole_whole _
  sl_exec! (disch := first | (guard_target = ¬(k0_cond1 _ = _); exact h1) | (guard_target = k0_cond2 _ = _; exact h2))
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [HT0]; · iexact HT0
  isplitl [HT1]; · iexact HT1
  iexists _; isplitr
  rotate_left
  · iexact H4
  · ipureintro
    exact (st_all _ _ _ _).trans rfl

end Cert.Kernel2Ideal.Gen

end
-- ==== Proof.Rest.On2.lean ====
/- The grouped layer's body on one block of rows in use. -/
module

public import proofs.«01_k».proof.Proof.Rest.Off2

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- A block in use gets the sum of its chunks. -/
theorem run_on (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (T0 T1 : Vec F S136 .i32)
    (x0 : Vec F S512x1024 .f32) (x1 x2 : Vec F S1x1024x2816 .bf16) (x3 : Vec F S1x2816x1024 .bf16) (d : Vec F S512x1024 .f32) (E : Set ℕ) (K : PUnit → sProp 𝕄)
    (h1 : k0_cond1 (word T1 i) = 1#1) (h2 : ¬(k0_cond2 (word T1 i) = 1#1)) :
    iprop(owns (c : Thread nD τ) arg3 fullShare x0 ∗ owns (c : Thread nD τ) arg4 fullShare x1 ∗ owns (c : Thread nD τ) arg5 fullShare x2 ∗ owns (c : Thread nD τ) arg6 fullShare x3 ∗ (tbM0_0.view.loc (c : Thread nD τ) ↦{fullShare.right} T0) ∗ (tbM0_1.view.loc (c : Thread nD τ) ↦{fullShare.right} T1) ∗ owns (c : Thread nD τ) arg7 fullShare (d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (tbM0_0.view.loc (c : Thread nD τ) ↦{fullShare.right} T0) ∗ (tbM0_1.view.loc (c : Thread nD τ) ↦{fullShare.right} T1) ∗ owns (c : Thread nD τ) arg7 fullShare (onBlk x0 x1 x2 x3)) -∗ K ⟨⟩))
          ⊢ wp frame (wpE (defs₀ (F := F)) Variants.none c none) E (cc0_moe_group_ffn i tbM0_0 (Memref.isWhole_whole _) tbM0_1 (Memref.isWhole_whole _) arg3 harg3 arg4 harg4 arg5 harg5 arg6 harg6 arg7 harg7) K := by
  rw [cc0_moe_group_ffn_eq_skeleton]; unfold cc0_moe_group_ffn_skel
  unfold owns
  iintro ⟨⟨%f0, %hf0, H0⟩, ⟨%f1, %hf1, H1⟩, ⟨%f2, %hf2, H2⟩, ⟨%f3, %hf3, H3⟩, HT0, HT1, ⟨%f4, %hf4, H4⟩, Hk⟩
  obtain rfl := harg3.eq_unread hf0; obtain rfl := harg4.eq_unread hf1; obtain rfl := harg5.eq_unread hf2; obtain rfl := harg6.eq_unread hf3; obtain rfl := harg7.eq_unread hf4
  have hT0 : tbM0_0.IsWhole := Memref.isWhole_whole _
  have hT1 : tbM0_1.IsWhole := Memref.isWhole_whole _
  sl_exec! (disch := first | (guard_target = k0_cond1 _ = _; exact h1) | (guard_target = ¬(k0_cond2 _ = _); exact h2))
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [HT0]; · iexact HT0
  isplitl [HT1]; · iexact HT1
  iexists _; isplitr
  rotate_left
  · iexact H4
  · ipureintro
    delta run_on.sl.H4_1
    refine (st_all _ _ _ _).trans ?_
    delta run_on.sl.r_18 run_on.sl.r_17 run_on.sl.r_16 run_on.sl.r_15 run_on.sl.r_14 run_on.sl.r_13 run_on.sl.r_12 run_on.sl.r_11 run_on.sl.r_10 run_on.sl.r_9 run_on.sl.r_8 run_on.sl.r_7 run_on.sl.r_6 run_on.sl.r_5 run_on.sl.r_4 run_on.sl.r_3 run_on.sl.r_2 run_on.sl.r_1 run_on.sl.r run_on.sl.cst_193
    rw [ld_all]
    simp only [show run_on.sl.v12 c arg4 harg4 x1 = colsOf x1 0 from ld_cols _ _ _ 0 _ rfl _ _ _,
      show run_on.sl.v16 c arg5 harg5 x2 = colsOf x2 0 from ld_cols _ _ _ 0 _ rfl _ _ _,
      show run_on.sl.v30 c arg6 harg6 x3 = rowsOf x3 0 from ld_rows _ _ _ 0 _ rfl _ _ _,
      show run_on.sl.v34 c arg4 harg4 x1 = colsOf x1 1 from ld_cols _ _ _ 1 _ rfl _ _ _,
      show run_on.sl.v38 c arg5 harg5 x2 = colsOf x2 1 from ld_cols _ _ _ 1 _ rfl _ _ _,
      show run_on.sl.v52 c arg6 harg6 x3 = rowsOf x3 1 from ld_rows _ _ _ 1 _ rfl _ _ _,
      show run_on.sl.v57 c arg4 harg4 x1 = colsOf x1 2 from ld_cols _ _ _ 2 _ rfl _ _ _,
      show run_on.sl.v61 c arg5 harg5 x2 = colsOf x2 2 from ld_cols _ _ _ 2 _ rfl _ _ _,
      show run_on.sl.v75 c arg6 harg6 x3 = rowsOf x3 2 from ld_rows _ _ _ 2 _ rfl _ _ _,
      show run_on.sl.v80 c arg4 harg4 x1 = colsOf x1 3 from ld_cols _ _ _ 3 _ rfl _ _ _,
      show run_on.sl.v84 c arg5 harg5 x2 = colsOf x2 3 from ld_cols _ _ _ 3 _ rfl _ _ _,
      show run_on.sl.v98 c arg6 harg6 x3 = rowsOf x3 3 from ld_rows _ _ _ 3 _ rfl _ _ _,
      show run_on.sl.v103 c arg4 harg4 x1 = colsOf x1 4 from ld_cols _ _ _ 4 _ rfl _ _ _,
      show run_on.sl.v107 c arg5 harg5 x2 = colsOf x2 4 from ld_cols _ _ _ 4 _ rfl _ _ _,
      show run_on.sl.v121 c arg6 harg6 x3 = rowsOf x3 4 from ld_rows _ _ _ 4 _ rfl _ _ _,
      show run_on.sl.v126 c arg4 harg4 x1 = colsOf x1 5 from ld_cols _ _ _ 5 _ rfl _ _ _,
      show run_on.sl.v130 c arg5 harg5 x2 = colsOf x2 5 from ld_cols _ _ _ 5 _ rfl _ _ _,
      show run_on.sl.v144 c arg6 harg6 x3 = rowsOf x3 5 from ld_rows _ _ _ 5 _ rfl _ _ _,
      show run_on.sl.v149 c arg4 harg4 x1 = colsOf x1 6 from ld_cols _ _ _ 6 _ rfl _ _ _,
      show run_on.sl.v153 c arg5 harg5 x2 = colsOf x2 6 from ld_cols _ _ _ 6 _ rfl _ _ _,
      show run_on.sl.v167 c arg6 harg6 x3 = rowsOf x3 6 from ld_rows _ _ _ 6 _ rfl _ _ _,
      show run_on.sl.v172 c arg4 harg4 x1 = colsOf x1 7 from ld_cols _ _ _ 7 _ rfl _ _ _,
      show run_on.sl.v176 c arg5 harg5 x2 = colsOf x2 7 from ld_cols _ _ _ 7 _ rfl _ _ _,
      show run_on.sl.v190 c arg6 harg6 x3 = rowsOf x3 7 from ld_rows _ _ _ 7 _ rfl _ _ _,
      show run_on.sl.v195 c arg4 harg4 x1 = colsOf x1 8 from ld_cols _ _ _ 8 _ rfl _ _ _,
      show run_on.sl.v199 c arg5 harg5 x2 = colsOf x2 8 from ld_cols _ _ _ 8 _ rfl _ _ _,
      show run_on.sl.v213 c arg6 harg6 x3 = rowsOf x3 8 from ld_rows _ _ _ 8 _ rfl _ _ _,
      show run_on.sl.v218 c arg4 harg4 x1 = colsOf x1 9 from ld_cols _ _ _ 9 _ rfl _ _ _,
      show run_on.sl.v222 c arg5 harg5 x2 = colsOf x2 9 from ld_cols _ _ _ 9 _ rfl _ _ _,
      show run_on.sl.v236 c arg6 harg6 x3 = rowsOf x3 9 from ld_rows _ _ _ 9 _ rfl _ _ _,
      show run_on.sl.v241 c arg4 harg4 x1 = colsOf x1 10 from ld_cols _ _ _ 10 _ rfl _ _ _,
      show run_on.sl.v245 c arg5 harg5 x2 = colsOf x2 10 from ld_cols _ _ _ 10 _ rfl _ _ _,
      show run_on.sl.v259 c arg6 harg6 x3 = rowsOf x3 10 from ld_rows _ _ _ 10 _ rfl _ _ _]
    rfl

end Cert.Kernel2Ideal.Gen

end
-- ==== Proof.Rest.Top2.lean ====
/- The grouped layer's program run: what its arrays hold at the end. -/
module

public import proofs.«01_k».proof.Proof.Rest.On2

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) (MT nD τ sig Unit (Elt F) ℕ (UR sig nD τ) ℕ) := emb₁

/-- A block is in use or it is not. -/
theorem cond_not (v : BitVec 32) : k0_cond2 v = 1#1 ↔ ¬ k0_cond1 v = 1#1 := by
  unfold k0_cond1 k0_cond2
  by_cases h : v = 1#32
  · subst h; decide
  · have e : Scalar.cmpi .eq v 1#32 = 0#1 := by
      show BitVec.ofBool (v == 1#32) = 0#1
      rw [beq_false_of_ne h]; rfl
    simp only [e]; decide

/-- A block is in use exactly if its word is one. -/
theorem cond_iff (v : BitVec 32) : k0_cond1 v = 1#1 ↔ v = 1#32 := by
  unfold k0_cond1
  by_cases h : v = 1#32
  · subst h; decide
  · have e : Scalar.cmpi .eq v 1#32 = 0#1 := by
      show BitVec.ofBool (v == 1#32) = 0#1
      rw [beq_false_of_ne h]; rfl
    simp only [e, h]; decide

variable (a : (pcfg0 (F := F)).Adm)

abbrev cfgA : Pipeline.Cfg sig Λ₀ := cfg0 (F := F) a
abbrev pcs : Fin 1 → Pipeline.Cfg sig Λ₀ := Pipeline.pin (pcfgs (F := F)) fun _ => a

variable (m : (ℓ : Loc nD τ sig) → Buf (Elt F) ℓ) (ρ : Dev nD → PrngReg)

/-- The launch memory holds the tables the pipeline runs at. -/
def Tables (a : (pcfg0 (F := F)).Adm) (m : (ℓ : Loc nD τ sig) → Buf (Elt F) ℓ) : Prop :=
  ∀ (c : Dev nD) (j : Fin 2), m ((c : Thread nD τ).loc (pre0.ref j)) = a.1 j

/-- The tables, at their types. -/
abbrev tE : Vec F S136 .i32 := a.1 (0 : Fin 2)
abbrev tA : Vec F S136 .i32 := a.1 (1 : Fin 2)

/-- Point `t`'s coordinates. -/
abbrev crd (t : Fin (cfgA a).N) : (cfgA a).grid.Coords := (cfgA a).grid.coords t

abbrev ms0_0 (t : Fin (cfgA a).N) : Memref sig .tc .vmem S512x1024 .f32 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x1024x2816 .bf16 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x1024x2816 .bf16 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x2816x1024 .bf16 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S512x1024 .f32 := spec0_4.stage ((cfgA a).slots t (4 : Fin 5))
abbrev hs0_4 (t : Fin (cfgA a).N) : (ms0_4 a t).IsWhole := hstage0_4 (((cfgA a).slots t (4 : Fin 5)).cast nbuf0_4)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- What a point leaves in the result's block. -/
def outAt (c : Dev nD) (t : Fin (cfgA a).N) : Vec F S512x1024 .f32 :=
  if k0_cond1 (word (tA a) (crd a t)) = 1#1 then onBlk (iblk a m ρ c (0 : Fin 5) t) (iblk a m ρ c (1 : Fin 5) t) (iblk a m ρ c (2 : Fin 5) t) (iblk a m ρ c (3 : Fin 5) t) else offBlk

/-- The body's halves of the tables. -/
def Phi (c : Dev nD) : sProp 𝕄 :=
  iprop((tbM0_0.view.loc (c : Thread nD τ) ↦{fullShare.right} tE a) ∗ (tbM0_1.view.loc (c : Thread nD τ) ↦{fullShare.right} tA a))

/-- The proof data of the one pipeline on core `c`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => outAt a m ρ c t
  Φ t := Phi a c
  q _ := fullShare
  owed _ := 0

theorem after0_0 (c : Dev nD) (t : Fin (cfgA a).N) : (dats a m ρ 0 c).after (0 : Fin 5) t = iblk a m ρ c (0 : Fin 5) t := rfl
theorem after0_1 (c : Dev nD) (t : Fin (cfgA a).N) : (dats a m ρ 0 c).after (1 : Fin 5) t = iblk a m ρ c (1 : Fin 5) t := rfl
theorem after0_2 (c : Dev nD) (t : Fin (cfgA a).N) : (dats a m ρ 0 c).after (2 : Fin 5) t = iblk a m ρ c (2 : Fin 5) t := rfl
theorem after0_3 (c : Dev nD) (t : Fin (cfgA a).N) : (dats a m ρ 0 c).after (3 : Fin 5) t = iblk a m ρ c (3 : Fin 5) t := rfl
theorem after0_4 (c : Dev nD) (t : Fin (cfgA a).N) : (dats a m ρ 0 c).after (4 : Fin 5) t = outAt a m ρ c t := rfl

/-- Input window 0 holds its block, fetched there or not. -/
theorem before0_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The result's window is idle nowhere. -/
theorem idle4 (t : Fin (cfgA a).N) : (cfgA a).idle (4 : Fin 5) ((cfgA a).grid.coords t) = false := by
  show (!(k0_cond1 (a.1.atD 1 (k0_off1 ((cfgA a).grid.coords t))) == 1#1) && !(k0_cond2 (a.1.atD 1 (k0_off1 ((cfgA a).grid.coords t))) == 1#1)) = false
  generalize a.1.atD 1 (k0_off1 ((cfgA a).grid.coords t)) = v
  by_cases h : k0_cond1 v = 1#1
  · rw [h]; rfl
  · rw [(cond_not v).mpr h]; exact Bool.and_false _

/-- The body at point `t` on its staging memrefs, as the pipeline calls it. -/
abbrev bodyAt0 (t : Fin (cfgA a).N) : Prog (TpuEff nD τ sig (Elt F) Λ₀ .tc) PUnit :=
  cc0_moe_group_ffn (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t)

set_option maxHeartbeats 4000000 in
/-- The body at point `t`: from its blocks and the tables to what it leaves. -/
theorem sound_body (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
      ⊢ wp frame (wpE (defs₀ (F := F)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [idle4 a t]
  simp only [before0_0, before0_1, before0_2, before0_3, after0_0, after0_1, after0_2, after0_3, after0_4]
  rewrite [show (dats a m ρ 0 c).Φ t.succ = Phi a c from rfl, show (dats a m ρ 0 c).Φ t.castSucc = Phi a c from rfl,
    show (dats a m ρ 0 c).owesAt () t.succ = (dats a m ρ 0 c).owesAt () t.castSucc from rfl]
  unfold Phi outAt
  iintro ⟨⟨HT0, HT1⟩, Ho, ⟨%d0, H0⟩, ⟨%d1, H1⟩, ⟨%d2, H2⟩, ⟨%d3, H3⟩, ⟨%d4, H4⟩⟩
  by_cases h1 : k0_cond1 (word (tA a) (crd a t)) = 1#1
  · rw [if_pos h1]
    iapply (run_on c (crd a t) (ms0_0 a t) (hs0_0 a t) (ms0_1 a t) (hs0_1 a t) (ms0_2 a t) (hs0_2 a t) (ms0_3 a t) (hs0_3 a t) (ms0_4 a t) (hs0_4 a t) (tE a) (tA a) (iblk a m ρ c (0 : Fin 5) t) (iblk a m ρ c (1 : Fin 5) t) (iblk a m ρ c (2 : Fin 5) t) (iblk a m ρ c (3 : Fin 5) t) _ Set.univ _ h1 (fun h => (cond_not _).mp h h1))
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    iintro ⟨H0, H1, H2, H3, HT0, HT1, H4⟩
    isplitl [HT0 HT1]
    · isplitl [HT0]
      · iexact HT0
      iexact HT1
    isplitl [Ho]; · iexact Ho
    isplitl [H0]; · iexact H0
    isplitl [H1]; · iexact H1
    isplitl [H2]; · iexact H2
    isplitl [H3]; · iexact H3
    iexact H4
  · rw [if_neg h1]
    iapply (run_off c (crd a t) (ms0_0 a t) (hs0_0 a t) (ms0_1 a t) (hs0_1 a t) (ms0_2 a t) (hs0_2 a t) (ms0_3 a t) (hs0_3 a t) (ms0_4 a t) (hs0_4 a t) (tE a) (tA a) (iblk a m ρ c (0 : Fin 5) t) (iblk a m ρ c (1 : Fin 5) t) (iblk a m ρ c (2 : Fin 5) t) (iblk a m ρ c (3 : Fin 5) t) _ Set.univ _ h1 ((cond_not _).mpr h1))
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    iintro ⟨H0, H1, H2, H3, HT0, HT1, H4⟩
    isplitl [HT0 HT1]
    · isplitl [HT0]
      · iexact HT0
      iexact HT1
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats a m ρ 0 c) (defs₀ (F := F)) Variants.none () Set.univ := fun t => by
  rw [bigSep_W0]
  exact sound_body a m ρ c t

/-- The rounds library's launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables; -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c from rfl]
  unfold Phi
  iintro ⟨-, ⟨HT0, HT1⟩, -⟩
  isplitl [HT0]
  · iexact HT0
  iexact HT1

/-- at the last point the tables are let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a c from rfl]
  unfold Phi
  iintro ⟨-, -⟩
  isplitr; · iempintro
  iempintro

/-- What a run ends with: every array at what the library computes, every table as it was. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- Every fair run ends with the arrays at the computed contents and every counter at zero. -/
theorem run_main2 (hp : Tables a m) : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- A run leaves its arguments as it found them. -/
theorem args_kept (hp : Tables a m) (r : PUnit × MemSt nD τ sig (Elt F)) (h : QC a m ρ r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (hp c 0).symm, ((h c).2 1).trans (hp c 1).symm, ((h c).1 (0 : Fin 5)).trans ((dats a m ρ 0 c).arrAt_in (0 : Fin 5) rfl _), ((h c).1 (1 : Fin 5)).trans ((dats a m ρ 0 c).arrAt_in (1 : Fin 5) rfl _), ((h c).1 (2 : Fin 5)).trans ((dats a m ρ 0 c).arrAt_in (2 : Fin 5) rfl _), ((h c).1 (3 : Fin 5)).trans ((dats a m ρ 0 c).arrAt_in (3 : Fin 5) rfl _)⟩

end Cert.Kernel2Ideal.Gen

end
-- ==== Proof.Rest.Math2.lean ====
/- The grouped layer's block over the extended reals: its chunks are one sum. -/
module

public import proofs.«01_k».proof.Proof.Rest.Block2
public import Idealize.ShloMosaic.Lib.Pointwise
public import Idealize.ShloMosaic.PureOps.Ideal

@[expose] public section

set_option maxRecDepth 16384

noncomputable section

namespace Cert.Kernel2Ideal.Gen

open Idealize.ShloMosaic

/-- The two columns' product, the first through the logistic gate. -/
def mix (u v : EReal) : EReal := u * Ideal.div 1 (1 + Ideal.exp (0 - u)) * v

/-- Eleven terms added in order are their sum. -/
theorem sum11 (f : Fin 11 → EReal) : f 0 + f 1 + f 2 + f 3 + f 4 + f 5 + f 6 + f 7 + f 8 + f 9 + f 10 = ∑ n, f n := by
  simp only [Fin.sum_univ_castSucc, Finset.univ_eq_empty, Finset.sum_empty, zero_add]
  rfl

/-- A sum over 2816 columns, 256 by 256. -/
theorem sum_chunks (g : Fin 2816 → EReal) :
    ∑ n : Fin 11, ∑ j : Fin 256, g ⟨256 * n.val + j.val, by have := n.isLt; have := j.isLt; omega⟩ = ∑ f, g f := by
  rw [← Fintype.sum_prod_type' (f := fun (n : Fin 11) (j : Fin 256) => g ⟨256 * n.val + j.val, by have := n.isLt; have := j.isLt; omega⟩)]
  refine Fintype.sum_equiv (finProdFinEquiv (m := 11) (n := 256)) _ _ fun x => congrArg g (Fin.ext ?_)
  exact Nat.add_comm _ _

/-- A chunk at a position. -/
theorem tile_at (h : FVec Ideal S512x1024 .bf16) (a b : Vec Ideal S1024x256 .bf16) (c : Vec Ideal S256x1024 .bf16) (r : Fin 512) (d : Fin 1024) :
    tile h a b c (ix2 r d) = ∑ j : Fin 256, mix (∑ k : Fin 1024, h (ix2 r k) * a (ix2 k j)) (∑ k : Fin 1024, h (ix2 r k) * b (ix2 k j)) * c (ix2 j d) := by
  unfold tile
  pointwise
  rfl

/-- A block in use at a position: one sum over the inner columns. -/
theorem onBlk_at (x0 : Vec Ideal S512x1024 .f32) (x1 x2 : Vec Ideal S1x1024x2816 .bf16) (x3 : Vec Ideal S1x2816x1024 .bf16) (r : Fin 512) (d : Fin 1024) :
    (onBlk x0 x1 x2 x3 (ix2 r d) : EReal) = ∑ f : Fin 2816, mix (∑ k : Fin 1024, x0 (ix2 r k) * x1 (ix3 0 k f)) (∑ k : Fin 1024, x0 (ix2 r k) * x2 (ix3 0 k f)) * x3 (ix3 0 f d) := by
  have e : ∀ n : Fin 11, tileN x0 x1 x2 x3 n (ix2 r d) = ∑ j : Fin 256, (fun f : Fin 2816 => mix (∑ k : Fin 1024, x0 (ix2 r k) * x1 (ix3 0 k f)) (∑ k : Fin 1024, x0 (ix2 r k) * x2 (ix3 0 k f)) * x3 (ix3 0 f d)) ⟨256 * n.val + j.val, by have := n.isLt; have := j.isLt; omega⟩ :=
    fun n => tile_at _ _ _ _ r d
  refine ((sum11 fun n => tileN x0 x1 x2 x3 n (ix2 r d)).trans ?_)
  rw [← sum_chunks]
  exact Finset.sum_congr rfl fun n _ => e n

/-- A block not in use at a position. -/
theorem offBlk_at (r : Fin 512) (d : Fin 1024) : offBlk (F := Ideal) (ix2 r d) = (0 : EReal) := by
  unfold offBlk
  pointwise

end Cert.Kernel2Ideal.Gen

end
-- ==== Proof.Rest.Val2.lean ====
/- The grouped layer's blocks, as parts of the arrays they are read from. -/
module

public import proofs.«01_k».proof.Proof.Rest.Top2
public import proofs.«01_k».proof.Proof.Rest.Math2
public import Idealize.ShloMosaic.Lib.Pointwise
public import Idealize.ShloMosaic.Lib.Pipeline.ValueKit

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

section
variable {F : FTy → Type} [FloatOps F] (m : (ℓ : Loc nD τ sig) → Buf (Elt F) ℓ) (ρ : Dev nD → PrngReg)

/-- The two tables in the launch memory. -/
def tabs : pre0.Contents (Elt F) := fun j => m (((0 : Dev nD) : Thread nD τ).loc (pre0.ref j))

/-- Every block's expert is one of the eight. -/
def InRange : Prop := ∀ i : S136.Idx, ((tabs m (0 : Fin 2) : Vec F S136 .i32) i : BitVec 32).toNat < 8

/-- With such tables every block lies inside its array. -/
theorem tabs_ok (h : InRange m) : ok0 (tabs m) := by
  refine ⟨fun i => ⟨fun a => ?_, .inr (Affine.block_words_dvd (s := S8x1024x2816) (p := EltTy.packing .bf16) (by decide) (by decide))⟩,
    fun i => ⟨fun a => ?_, .inr (Affine.block_words_dvd (s := S8x1024x2816) (p := EltTy.packing .bf16) (by decide) (by decide))⟩,
    fun i => ⟨fun a => ?_, .inr (Affine.block_words_dvd (s := S8x2816x1024) (p := EltTy.packing .bf16) (by decide) (by decide))⟩⟩
  all_goals
    match a with
    | ⟨0, _⟩ => exact (Nat.mul_one _).le.trans (Nat.succ_le_of_lt (h _))
    | ⟨1, _⟩ => exact (Nat.one_mul _).le
    | ⟨2, _⟩ => exact (Nat.one_mul _).le

/-- The tables with that fact. -/
def adm (h : InRange m) : (pcfg0 (F := F)).Adm := ⟨tabs m, tabs_ok m h⟩

theorem tables_adm (h : InRange m) : Tables (adm m h) m := fun c j => by
  obtain rfl : c = 0 := Subsingleton.elim _ _
  rfl

/-- Every fair run ends with the arguments unchanged and every counter at zero. -/
theorem frame2 (h : InRange m) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r hr => ⟨args_kept (adm m h) m ρ (tables_adm m h) r hr.1, hr.2⟩) (run_main2 (adm m h) m ρ (tables_adm m h))

theorem crd_val : ∀ t : Fin grid0.N, (grid0.coords t 0).val = t.val := by decide +kernel

theorem lt136 (t : Fin grid0.N) : t.val < 136 := N_0 ▸ t.isLt

/-- A table's element at a point's number. -/
theorem entry_eq (t : Fin grid0.N) (off : Fin 1 → ℕ) (ho : off = ![t.val]) (hb : ∀ a, off a + S1.size a ≤ S136.size a) (hn : 0 < S1.numel) :
    (Rect.unit (s := S136) off S1.size hb).emb (Shape.Idx.first hn) = ix1 ⟨t.val, lt136 t⟩ := by
  subst ho
  refine funext fun a => ?_
  match a with
  | ⟨0, _⟩ => exact Fin.ext (by simp [Rect.unit, Rect.emb, Shape.Idx.first, ix1])

theorem off_eq (t : Fin grid0.N) : k0_off1 (grid0.coords t) = ![t.val] := by rw [k0_off1_eq, crd_val]

variable (a : (pcfg0 (F := F)).Adm)

/-- The word the body decides by is the point's own. -/
theorem word_at (t : Fin grid0.N) : word (tA a) (grid0.coords t) = tA a (ix1 ⟨t.val, lt136 t⟩) :=
  congrArg (tA a) (entry_eq t _ (off_eq t) _ _)

theorem idxE (t : Fin grid0.N) : (a.1.at (0 : Fin 2) (Rect.unit (s := S136) (k0_off1 (grid0.coords t)) S1.size (k0_off1_inb (grid0.coords t))) numel1_S1 : BitVec 32) = tE a (ix1 ⟨t.val, lt136 t⟩) :=
  congrArg (tE a) (entry_eq t _ (off_eq t) _ _)

theorem idx1_0 (t : Fin grid0.N) : ((cfgA a).win (1 : Fin 5)).index t 0 = (tE a (ix1 ⟨t.val, lt136 t⟩) : BitVec 32).toNat := congrArg BitVec.toNat (idxE a t)
theorem idx1_1 (t : Fin grid0.N) : ((cfgA a).win (1 : Fin 5)).index t 1 = 0 := rfl
theorem idx1_2 (t : Fin grid0.N) : ((cfgA a).win (1 : Fin 5)).index t 2 = 0 := rfl
theorem idx2_0 (t : Fin grid0.N) : ((cfgA a).win (2 : Fin 5)).index t 0 = (tE a (ix1 ⟨t.val, lt136 t⟩) : BitVec 32).toNat := congrArg BitVec.toNat (idxE a t)
theorem idx2_1 (t : Fin grid0.N) : ((cfgA a).win (2 : Fin 5)).index t 1 = 0 := rfl
theorem idx2_2 (t : Fin grid0.N) : ((cfgA a).win (2 : Fin 5)).index t 2 = 0 := rfl
theorem idx3_0 (t : Fin grid0.N) : ((cfgA a).win (3 : Fin 5)).index t 0 = (tE a (ix1 ⟨t.val, lt136 t⟩) : BitVec 32).toNat := congrArg BitVec.toNat (idxE a t)
theorem idx3_1 (t : Fin grid0.N) : ((cfgA a).win (3 : Fin 5)).index t 1 = 0 := rfl
theorem idx3_2 (t : Fin grid0.N) : ((cfgA a).win (3 : Fin 5)).index t 2 = 0 := rfl
theorem num_eq : ∀ t : Fin grid0.N, (BitVec.ofNat 32 (grid0.coords t 0).val).toNat = t.val := by decide +kernel
theorem idx0_0 (t : Fin grid0.N) : ((cfgA a).win (0 : Fin 5)).index t 0 = t.val := num_eq t
theorem idx0_1 (t : Fin grid0.N) : ((cfgA a).win (0 : Fin 5)).index t 1 = 0 := rfl
theorem idx4_0 (t : Fin grid0.N) : ((cfgA a).win (4 : Fin 5)).index t 0 = t.val := num_eq t
theorem idx4_1 (t : Fin grid0.N) : ((cfgA a).win (4 : Fin 5)).index t 1 = 0 := rfl
theorem blk0_at (c : Dev nD) (t : Fin grid0.N) (r : Fin 512) (k : Fin 1024) :
    (iblk a m ρ c (0 : Fin 5) t : Vec F S512x1024 .f32) (ix2 r k) = (m ((c.tc : Thread nD τ).loc main_arg2) : Vec F S69632x1024 .f32) (ix2 ⟨512 * t.val + r.val, by have := lt136 t; omega⟩ k) := by
  blk_ext [iblk, idx0_0 a t, idx0_1 a t]
theorem blk1_at (c : Dev nD) (t : Fin grid0.N) (h : (tE a (ix1 ⟨t.val, lt136 t⟩) : BitVec 32).toNat < 8) (k : Fin 1024) (f : Fin 2816) :
    (iblk a m ρ c (1 : Fin 5) t : Vec F S1x1024x2816 .bf16) (ix3 0 k f) = (m ((c.tc : Thread nD τ).loc main_arg3) : Vec F S8x1024x2816 .bf16) (ix3 ⟨_, h⟩ k f) := by
  blk_ext [iblk, idx1_0 a t, idx1_1 a t, idx1_2 a t]
theorem blk2_at (c : Dev nD) (t : Fin grid0.N) (h : (tE a (ix1 ⟨t.val, lt136 t⟩) : BitVec 32).toNat < 8) (k : Fin 1024) (f : Fin 2816) :
    (iblk a m ρ c (2 : Fin 5) t : Vec F S1x1024x2816 .bf16) (ix3 0 k f) = (m ((c.tc : Thread nD τ).loc main_arg4) : Vec F S8x1024x2816 .bf16) (ix3 ⟨_, h⟩ k f) := by
  blk_ext [iblk, idx2_0 a t, idx2_1 a t, idx2_2 a t]
theorem blk3_at (c : Dev nD) (t : Fin grid0.N) (h : (tE a (ix1 ⟨t.val, lt136 t⟩) : BitVec 32).toNat < 8) (f : Fin 2816) (d : Fin 1024) :
    (iblk a m ρ c (3 : Fin 5) t : Vec F S1x2816x1024 .bf16) (ix3 0 f d) = (m ((c.tc : Thread nD τ).loc main_arg5) : Vec F S8x2816x1024 .bf16) (ix3 ⟨_, h⟩ f d) := by
  blk_ext [iblk, idx3_0 a t, idx3_1 a t, idx3_2 a t]
end

/-- Tables of zeros. -/
def zeros : pre0.Contents (Elt Ideal) := fun j => match j with
  | ⟨0, _⟩ => fun _ => 0#32
  | ⟨1, _⟩ => fun _ => 0#32
theorem zeros_ok : ok0 zeros := by
  refine ⟨fun i => ⟨fun a => ?_, .inr (Affine.block_words_dvd (s := S8x1024x2816) (p := EltTy.packing .bf16) (by decide) (by decide))⟩,
    fun i => ⟨fun a => ?_, .inr (Affine.block_words_dvd (s := S8x1024x2816) (p := EltTy.packing .bf16) (by decide) (by decide))⟩,
    fun i => ⟨fun a => ?_, .inr (Affine.block_words_dvd (s := S8x2816x1024) (p := EltTy.packing .bf16) (by decide) (by decide))⟩⟩
  all_goals
    match a with
    | ⟨0, _⟩ => exact (by decide : (0 + 1) * 1 ≤ 8)
    | ⟨1, _⟩ => exact (Nat.one_mul _).le
    | ⟨2, _⟩ => exact (Nat.one_mul _).le
theorem covers_zeros : ((cfgA (⟨zeros, zeros_ok⟩ : (pcfg0 (F := Ideal)).Adm)).win (4 : Fin 5)).Covers := by decide +kernel
/-- The result's blocks cover it, whatever the tables: its blocks do not depend on them. -/
theorem covers4 (a : (pcfg0 (F := Ideal)).Adm) : ((cfgA a).win (4 : Fin 5)).Covers := covers_zeros

section
variable (te ta : IVec S136 32) (xs : FVec Ideal S69632x1024 .f32) (w1 w3 : FVec Ideal S8x1024x2816 .bf16) (w2 : FVec Ideal S8x2816x1024 .bf16)

/-- One expert's layer at a row and a column. -/
def expert (e : Fin 8) (r : Fin 69632) (d : Fin 1024) : EReal :=
  ∑ f : Fin 2816, mix (∑ k : Fin 1024, xs (ix2 r k) * w1 (ix3 e k f)) (∑ k : Fin 1024, xs (ix2 r k) * w3 (ix3 e k f)) * w2 (ix3 e f d)

/-- The grouped layer: every block of 512 rows through its own expert, or nothing. -/
def grouped (h : ∀ i : S136.Idx, (te i).toNat < 8) : FVec Ideal S69632x1024 .f32 := fun y =>
  if ta (ix1 ⟨(y 0).val / 512, by have := (y 0).isLt; simp at this; omega⟩) = 1#32 then expert xs w1 w3 w2 ⟨_, h (ix1 ⟨(y 0).val / 512, by have := (y 0).isLt; simp at this; omega⟩)⟩ (y 0) (y 1) else 0

theorem grouped_at (h : ∀ i : S136.Idx, (te i).toNat < 8) (t : Fin 136) (r : Fin 512) (d : Fin 1024) (y : S69632x1024.Idx)
    (h0 : (y 0).val = 512 * t.val + r.val) (h1 : (y 1).val = d.val) :
    grouped te ta xs w1 w3 w2 h y = if ta (ix1 t) = 1#32 then expert xs w1 w3 w2 ⟨_, h (ix1 t)⟩ ⟨512 * t.val + r.val, by omega⟩ d else 0 := by
  have hb : 512 * t.val + r.val < 69632 := by clear h0 h1; omega
  obtain rfl : y = ix2 (⟨512 * t.val + r.val, hb⟩ : Fin 69632) d := by
    refine funext fun i => ?_
    match i with
    | ⟨0, _⟩ => exact Fin.ext h0
    | ⟨1, _⟩ => exact Fin.ext h1
  have e : ∀ s : Fin 136, s = t → (if ta (ix1 s) = 1#32 then expert xs w1 w3 w2 ⟨_, h (ix1 s)⟩ ⟨512 * t.val + r.val, by omega⟩ d else 0)
      = if ta (ix1 t) = 1#32 then expert xs w1 w3 w2 ⟨_, h (ix1 t)⟩ ⟨512 * t.val + r.val, by omega⟩ d else 0 := by
    rintro _ rfl; rfl
  exact e _ (Fin.ext (by show (512 * t.val + r.val) / 512 = t.val; omega))
end

variable (m : (ℓ : Loc nD τ sig) → Buf (Elt Ideal) ℓ) (ρ : Dev nD → PrngReg)

/-- The result array a run ends with. -/
theorem array2 (h : InRange m) (c : Dev nD) : (dats (adm m h) m ρ 0 c).arrAt (4 : Fin 5) (cfgA (adm m h)).N
    = grouped (tabs m (0 : Fin 2)) (tabs m (1 : Fin 2)) (m ((c.tc : Thread nD τ).loc main_arg2)) (m ((c.tc : Thread nD τ).loc main_arg3)) (m ((c.tc : Thread nD τ).loc main_arg4)) (m ((c.tc : Thread nD τ).loc main_arg5)) h := by
  refine Pipeline.Dat.arrAt_eq_of_covers (dat := dats (adm m h) m ρ 0 c) (4 : Fin 5) _ (covers4 (adm m h)) fun t hf y => ?_
  have hN := lt136 t
  rw [after0_4]
  obtain ⟨r, d, rfl⟩ : ∃ (r : Fin 512) (d : Fin 1024), y = ix2 r d := ⟨y 0, y 1, by funext i; match i with | ⟨0, _⟩ => rfl | ⟨1, _⟩ => rfl⟩
  have e0 : (((((cfgA (adm m h)).win (4 : Fin 5)).blk t).view.emb (ix2 r d)) 0 : ℕ) = 512 * t.val + r.val := by
    blk_simp [idx4_0 (adm m h) t]
    omega
  have e1 : (((((cfgA (adm m h)).win (4 : Fin 5)).blk t).view.emb (ix2 r d)) 1 : ℕ) = d.val := by
    blk_simp [idx4_1 (adm m h) t]
  have hT : (tE (adm m h) (ix1 ⟨t.val, hN⟩) : BitVec 32).toNat < 8 := h _
  refine Eq.trans ?_ (grouped_at _ _ _ _ _ _ h ⟨t.val, hN⟩ r d _ e0 e1).symm
  show outAt (adm m h) m ρ c t (ix2 r d) = _
  unfold outAt
  rw [word_at]
  by_cases hA : tA (adm m h) (ix1 ⟨t.val, hN⟩) = 1#32
  · rw [if_pos ((cond_iff _).mpr hA)]
    refine Eq.trans ?_ (if_pos hA).symm
    refine (onBlk_at _ _ _ _ r d).trans ?_
    unfold expert
    refine Finset.sum_congr rfl fun f _ => ?_
    exact congrArg₂ (· * ·) (congrArg₂ mix
      (Finset.sum_congr rfl fun k _ => congrArg₂ (· * ·) (blk0_at m ρ (adm m h) c t r k) (blk1_at m ρ (adm m h) c t hT k f))
      (Finset.sum_congr rfl fun k _ => congrArg₂ (· * ·) (blk0_at m ρ (adm m h) c t r k) (blk2_at m ρ (adm m h) c t hT k f)))
      (blk3_at m ρ (adm m h) c t hT f d)
  · rw [if_neg fun e => hA ((cond_iff _).mp e)]
    exact (offBlk_at r d).trans (if_neg hA).symm

end Cert.Kernel2Ideal.Gen

end
-- ==== Proof.Rest.Ref2.lean ====
/- The plain grouped layer, read at a row and a column. -/
module

public import proofs.«01_k».proof.Proof.Gen.Reference2Ideal.Run
public import proofs.«01_k».proof.Proof.Rest.Val2

@[expose] public section

set_option maxRecDepth 16384

noncomputable section

namespace Cert.Reference2Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Reference2Ideal Cert.Reference2Ideal.Gen Idealize.ShloMosaic.StableHlo

open Cert.Kernel2Ideal.Gen (mix expert grouped)
variable (te ta : IVec S136 32) (xs : FVec Ideal S69632x1024 .f32) (w1 w3 : FVec Ideal S8x1024x2816 .bf16) (w2 : FVec Ideal S8x2816x1024 .bf16)

/-- Which expert's layer a row takes. -/
def gate : IVec S8x69632x1 1 := (broadcastInDim S8x69632x1 ![0, 1] bcast_S8x69632_S8x69632x1_0_1 (shapeCast _ (broadcastInDim S8x136x512 ![0, 1, 2] bcast_S8x136x1_S8x136x512_0_1_2 (broadcastInDim S8x136x1 ![0, 1] bcast_S8x136_S8x136x1_0_1 (transpose S8x136 [1, 0] (andi (cmpi .eq (broadcastInDim S136x8 ![0, 1] bcast_S136x1_S136x8_0_1 (broadcastInDim S136x1 ![0] bcast_S136_S136x1_0 te)) (broadcastInDim S136x8 ![0, 1] bcast_S1x8_S136x8_0_1 (broadcastInDim S1x8 ![1] bcast_S8_S1x8_1 (iotaInDim S8 32 0)))) (broadcastInDim S136x8 ![0, 1] bcast_S136x1_S136x8_0_1 (cmpi .eq (broadcastInDim S136x1 ![0] bcast_S136_S136x1_0 ta) (broadcastInDim S136x1 ![] bcast_S_S136x1 (constantI S_ 32 1#32))))) transposes_S136x8_S8x136_1_0))) shapeCasts_S8x136x512_S8x69632))
/-- The rows by an expert's inner columns. -/
def cols (w : FVec Ideal S8x1024x2816 .bf16) (xs : FVec Ideal S69632x1024 .f32) : FVec Ideal S8x69632x2816 .f32 := (transpose S8x69632x2816 [0, 2, 1] (Host.dotGeneral dot_S8x1024x2816_S69632x1024_S8x2816x69632_1_1_02_0_n_n none (extf .f32 w bitsLt_bf16_f32) xs) transposes_S8x2816x69632_S8x69632x2816_0_2_1)
/-- Every expert's layer on every row. -/
def layers : FVec Ideal S8x69632x1024 .f32 := (Host.dotGeneral dot_S8x69632x2816_S8x2816x1024_S8x69632x1024_2_1_1_2_0_0 none (mulf (mulf (cols w1 xs) (Host.divf (broadcastInDim S8x69632x2816 ![] bcast_S_S8x69632x2816 (constant S_ .f32 0x3F800000#32)) (addf (broadcastInDim S8x69632x2816 ![] bcast_S_S8x69632x2816 (constant S_ .f32 0x3F800000#32)) (Host.exp (Host.negf (cols w1 xs)))))) (cols w3 xs)) (extf .f32 w2 bitsLt_bf16_f32))
/-- The layer each row takes. -/
def plain : FVec Ideal S69632x1024 .f32 := Host.reduceAdd (select (broadcastInDim S8x69632x1024 ![0, 1, 2] bcast_S8x69632x1_S8x69632x1024_0_1_2 (gate te ta)) (layers xs w1 w3 w2) (broadcastInDim S8x69632x1024 ![] bcast_S_S8x69632x1024 (id (constant S_ .f32 0x00000000#32)))) (constant S_ .f32 0x00000000#32) reducesTo_S8x69632x1024_S69632x1024_d0 h_S_

theorem zero_sub' (x : EReal) : 0 - x = -x := by rw [sub_eq_add_neg, zero_add]

theorem gate_at (e : Fin 8) (r : Fin 69632) : gate te ta (ix3 e r 0) = IntOp.andi (IntOp.cmpi .eq (te (ix1 ⟨r.val / 512, by omega⟩)) (BitVec.ofNat 32 e.val)) (IntOp.cmpi .eq (ta (ix1 ⟨r.val / 512, by omega⟩)) 1#32) := by
  unfold gate
  pointwise
theorem cols_at (w : FVec Ideal S8x1024x2816 .bf16) (e : Fin 8) (r : Fin 69632) (f : Fin 2816) : cols w xs (ix3 e r f) = ∑ k : Fin 1024, xs (ix2 r k) * w (ix3 e k f) := by
  unfold cols
  pointwise
  exact Finset.sum_congr rfl fun k _ => mul_comm _ _
theorem layers_at (e : Fin 8) (r : Fin 69632) (d : Fin 1024) : layers xs w1 w3 w2 (ix3 e r d) = expert xs w1 w3 w2 e r d := by
  unfold layers
  pointwise
  unfold expert
  refine Finset.sum_congr rfl fun f _ => ?_
  rw [cols_at, cols_at, ← zero_sub']
  rfl
theorem plain_at (r : Fin 69632) (d : Fin 1024) : plain te ta xs w1 w3 w2 (ix2 r d) = ∑ e : Fin 8, if gate te ta (ix3 e r 0) = 1#1 then layers xs w1 w3 w2 (ix3 e r d) else 0 := by
  unfold plain
  pointwise
  refine Finset.sum_congr rfl fun e _ => ?_
  have z : id (constant (F := Ideal) S_ .f32 0x00000000#32) ix0 = (0 : EReal) := by
    show Ideal.ofBits .f32 0x00000000#32 = 0
    simp [Ideal.ofBits, Ideal.ieee]
  rw [z]
  rfl

/-- When a row takes an expert's layer. -/
theorem gate_iff (t a : BitVec 32) (e : Fin 8) : IntOp.andi (IntOp.cmpi .eq t (BitVec.ofNat 32 e.val)) (IntOp.cmpi .eq a 1#32) = 1#1 ↔ t.toNat = e.val ∧ a = 1#32 := by
  show (BitVec.ofBool (t == BitVec.ofNat 32 e.val) &&& BitVec.ofBool (a == 1#32)) = 1#1 ↔ _
  have h : t.toNat = e.val ↔ t = BitVec.ofNat 32 e.val := by
    have e1 : (BitVec.ofNat 32 e.val).toNat = e.val := by rw [BitVec.toNat_ofNat]; exact Nat.mod_eq_of_lt (by omega)
    exact ⟨fun x => BitVec.eq_of_toNat_eq (x.trans e1.symm), fun x => x ▸ e1⟩
  rw [h]
  have key : ∀ x y : Bool, (BitVec.ofBool x &&& BitVec.ofBool y) = 1#1 ↔ x = true ∧ y = true := by decide
  exact (key _ _).trans (and_congr beq_iff_eq beq_iff_eq)

/-- Of every row's eight layers one is kept, or none: the grouped layer. -/
theorem plain_eq (h : ∀ i : S136.Idx, (te i).toNat < 8) : plain te ta xs w1 w3 w2 = grouped te ta xs w1 w3 w2 h := by
  funext y
  obtain ⟨r, d, rfl⟩ : ∃ (r : Fin 69632) (d : Fin 1024), y = ix2 r d := ⟨y 0, y 1, by funext i; match i with | ⟨0, _⟩ => rfl | ⟨1, _⟩ => rfl⟩
  rw [plain_at]
  show _ = if ta (ix1 ⟨r.val / 512, by omega⟩) = 1#32 then expert xs w1 w3 w2 ⟨_, h (ix1 ⟨r.val / 512, by omega⟩)⟩ r d else 0
  rw [Finset.sum_eq_single (⟨_, h (ix1 ⟨r.val / 512, by omega⟩)⟩ : Fin 8)]
  · rw [gate_at, layers_at]
    by_cases ha : ta (ix1 ⟨r.val / 512, by omega⟩) = 1#32
    · rw [if_pos ha, if_pos ((gate_iff _ _ _).mpr ⟨rfl, ha⟩)]
    · rw [if_neg ha, if_neg fun e => ha ((gate_iff _ _ _).mp e).2]
  · intro e _ he
    rw [gate_at, if_neg fun x => he (Fin.ext ((gate_iff _ _ _).mp x).1.symm)]
  · exact fun x => absurd (Finset.mem_univ _) x

end Cert.Reference2Ideal.Value

end
-- ==== Proof.Rest.Claims2.lean ====
/- The grouped layer's claims. -/
module

public import proofs.«01_k».proof.Defs
public import proofs.«01_k».proof.Proof.Gen.Kernel2
public import proofs.«01_k».proof.Proof.Gen.Pre_experts
public import proofs.«01_k».proof.Proof.Rest.Ref2
public import Idealize.ShloMosaic.Lib.Quiescent

@[expose] public section

set_option maxRecDepth 16384

noncomputable section

namespace Cert.Group

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

section
variable {F : FTy → Type} [FloatOps F]

/-- The printed program and its idealization are one program. -/
theorem defs₀_same : @Cert.Kernel2.defs₀ F _ _ = @Cert.Kernel2Ideal.defs₀ F _ _ := by
  unfold Cert.Kernel2.defs₀ Cert.Kernel2Ideal.defs₀
  refine congrArg Defs.onTc (funext fun l => funext fun x => ?_)
  match l, x with
  | ⟨0, _⟩, (t, s) => rfl
  | ⟨n + 1, h⟩, _ => exact absurd h (Nat.not_lt.2 (Nat.le_add_left _ _))
theorem defs_same : @Cert.Kernel2.defs F _ _ = @Cert.Kernel2Ideal.defs F _ _ := congrArg (fun d => Pipeline.defs (Cert.Kernel2.pcfgs (F := F)) d) defs₀_same

theorem pre_at (te ta : IVec Cert.Pre_experts.S136 32) (xs : FVec F Cert.Pre_experts.S69632x1024 .f32) (w1 w3 : FVec F Cert.Pre_experts.S8x1024x2816 .bf16)
    (w2 : FVec F Cert.Pre_experts.S8x2816x1024 .bf16) (i : Cert.Pre_experts.S136.Idx) :
    Cert.Pre_experts.fn te ta xs w1 w3 w2 i = IntOp.andi (IntOp.cmpi .sge (te i) 0#32) (IntOp.cmpi .slt (te i) 8#32) := rfl
end

/-- A word between zero and seven. -/
theorem lt_eight (v : BitVec 32) (h : IntOp.andi (IntOp.cmpi .sge v 0#32) (IntOp.cmpi .slt v 8#32) = 1#1) : v.toNat < 8 := by
  have key : ∀ x y : Bool, (BitVec.ofBool x &&& BitVec.ofBool y) = 1#1 → x = true ∧ y = true := by decide
  obtain ⟨h0, h1⟩ := key (BitVec.sle 0#32 v) (BitVec.slt v 8#32) h
  rw [BitVec.sle_eq_decide] at h0
  rw [BitVec.slt_eq_decide] at h1
  have a0 := of_decide_eq_true h0
  have a1 := of_decide_eq_true h1
  have e := BitVec.toInt_eq_toNat_cond v
  have b := v.isLt
  rw [show (0#32 : BitVec 32).toInt = 0 from rfl] at a0
  rw [show (8#32 : BitVec 32).toInt = 8 from rfl] at a1
  split at e <;> omega

theorem range_bits {m : (ℓ : Loc Cert.Kernel2.nD Cert.Kernel2.τ Cert.Kernel2.sig) → Buf (Elt Bits) ℓ} (h : Cert.Pre_Kernel2 m) : Cert.Kernel2Ideal.Gen.InRange (F := Bits) m :=
  fun i => lt_eight _ ((pre_at _ _ _ _ _ _ i).symm.trans (congrFun (h 0) i))
theorem range_ideal {m : (ℓ : Loc Cert.Kernel2Ideal.nD Cert.Kernel2Ideal.τ Cert.Kernel2Ideal.sig) → Buf (Elt Ideal) ℓ} (h : Cert.Pre_Kernel2Ideal m) : Cert.Kernel2Ideal.Gen.InRange m :=
  fun i => lt_eight _ ((pre_at _ _ _ _ _ _ i).symm.trans (congrFun (h 0) i))

theorem frame_plain : Cert.quiescent_Kernel2 := fun m g hp =>
  (congrArg (fun d => θ_run d (onTc (τ := Cert.Kernel2.τ) (Cert.Kernel2.main (F := Bits))) ⟨m, fun _ => 0, g⟩ _) defs_same).mpr
    (Cert.Kernel2Ideal.Gen.frame2 (F := Bits) m g (range_bits hp))
theorem frame_ideal : Cert.quiescent_Kernel2Ideal := fun m g hp => Cert.Kernel2Ideal.Gen.frame2 m g (range_ideal hp)
theorem plain_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)) ∧ r.2.sem = fun _ => 0) :=
  (θ_run _ _ _).mono (fun r h => ⟨fun c => (h c).2, sem_eq_zero_of_no_sems (by decide) _⟩) (Cert.Reference2Ideal.Value.run (F := Ideal) m g)
theorem frame_reference : Cert.quiescent_Reference2Ideal := fun m g _ => plain_frame m g
theorem frame_reference_pre : Cert.quiescent_Reference2Ideal_pre_experts := fun m g _ => plain_frame m g
theorem kept : Cert.preserves_Kernel2_Kernel2Ideal := trivial

theorem same_value : Cert.algebraic_Kernel2Ideal_Reference2Ideal := by
  intro m g m' g' hp ha
  have h := range_ideal hp
  refine ⟨fun c => (Cert.Kernel2Ideal.Gen.dats (Cert.Kernel2Ideal.Gen.adm m h) m g 0 c).arrAt (4 : Fin 5) (Cert.Kernel2Ideal.Gen.cfgA (Cert.Kernel2Ideal.Gen.adm m h)).N,
    (θ_run _ _ _).mono (fun r hr c => ⟨(hr.1 c).1 (4 : Fin 5), Cert.Kernel2Ideal.Gen.args_kept _ m g (Cert.Kernel2Ideal.Gen.tables_adm m h) r hr.1 c⟩)
      (Cert.Kernel2Ideal.Gen.run_main2 (Cert.Kernel2Ideal.Gen.adm m h) m g (Cert.Kernel2Ideal.Gen.tables_adm m h)),
    (θ_run _ _ _).mono (fun r hr c => ⟨(hr c).1.trans ?_, (hr c).2⟩) (Cert.Reference2Ideal.Value.run (F := Ideal) m' g')⟩
  obtain rfl : c = 0 := Subsingleton.elim _ _
  rw [(ha 0).1, (ha 0).2.1, (ha 0).2.2.1, (ha 0).2.2.2.1, (ha 0).2.2.2.2.1, (ha 0).2.2.2.2.2]
  exact (Cert.Reference2Ideal.Value.plain_eq _ _ _ _ _ _ h).trans (Cert.Kernel2Ideal.Gen.array2 m g h 0).symm

end Cert.Group

end
-- ==== Proof.Rest.Norm.lean ====
/- A row scaled by its root mean square, the logistic gate, and the layers of one token, over the extended reals. -/
module

public import Idealize.ShloMosaic.Lib.Pointwise
public import Idealize.ShloMosaic.PureOps.Ideal

@[expose] public section

noncomputable section

namespace Cert.Row

open Idealize.ShloMosaic

/-- A row divided by its root mean square (1024 and 1e-6 as the programs spell them), times the weights. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The logistic function. -/
def sig (z : EReal) : EReal := Ideal.div 1 (1 + Ideal.exp (0 - z))

/-- The scaled row times a matrix. -/
def proj {n : ℕ} (x g : Fin 1024 → EReal) (w : Fin 1024 → Fin n → EReal) (d : Fin n) : EReal := ∑ k, rms x g k * w k d

/-- The gate column `c` of a token. -/
def gate (x g : Fin 1024 → EReal) (wg : Fin 1024 → Fin 3072 → EReal) (b : Fin 3072 → EReal) (c : Fin 3072) : EReal := sig (proj x g wg c + b c)

/-- The three gated projections of a token, added. -/
def mixed (x g : Fin 1024 → EReal) (oa ob oc : Fin 512 → EReal) (wg : Fin 1024 → Fin 3072 → EReal) (b : Fin 3072 → EReal)
    (pa pb pc : Fin 512 → Fin 1024 → EReal) (k : Fin 1024) : EReal :=
  gate x g wg b ⟨k.val, by omega⟩ * (∑ j, oa j * pa j k) + gate x g wg b ⟨1024 + k.val, by omega⟩ * (∑ j, ob j * pb j k)
    + gate x g wg b ⟨2048 + k.val, by omega⟩ * (∑ j, oc j * pc j k)

/-- The merge layer of a token. -/
def merged (x g : Fin 1024 → EReal) (oa ob oc : Fin 512 → EReal) (wg : Fin 1024 → Fin 3072 → EReal) (b : Fin 3072 → EReal)
    (pa pb pc : Fin 512 → Fin 1024 → EReal) (wo : Fin 1024 → Fin 1024 → EReal) (d : Fin 1024) : EReal :=
  x d + ∑ k, mixed x g oa ob oc wg b pa pb pc k * wo k d

/-- The dense layer of a token. -/
def dense (x g : Fin 1024 → EReal) (w1 w3 : Fin 1024 → Fin 2816 → EReal) (w2 : Fin 2816 → Fin 1024 → EReal) (d : Fin 1024) : EReal :=
  x d + ∑ f, proj x g w1 f * sig (proj x g w1 f) * proj x g w3 f * w2 f d

/-- Zero minus a value is its negation. -/
theorem zero_sub (z : EReal) : 0 - z = -z := by rw [sub_eq_add_neg, zero_add]

/-- Equal rows and weights give equal values. -/
theorem proj_congr {n : ℕ} {x x' : Fin 1024 → EReal} {g g' : Fin 1024 → EReal} {w w' : Fin 1024 → Fin n → EReal}
    (hx : ∀ k, x k = x' k) (hg : ∀ k, g k = g' k) (hw : ∀ k j, w k j = w' k j) (d : Fin n) :
    proj x g w d = proj x' g' w' d := by
  obtain rfl : x = x' := funext hx
  obtain rfl : g = g' := funext hg
  obtain rfl : w = w' := funext fun k => funext (hw k)
  rfl

/-- Equal rows and weights give equal values. -/
theorem dense_congr {x x' : Fin 1024 → EReal} {g g' : Fin 1024 → EReal} {w1 w1' : Fin 1024 → Fin 2816 → EReal} {w3 w3' : Fin 1024 → Fin 2816 → EReal} {w2 w2' : Fin 2816 → Fin 1024 → EReal}
    (hx : ∀ k, x k = x' k) (hg : ∀ k, g k = g' k) (hw1 : ∀ k j, w1 k j = w1' k j) (hw3 : ∀ k j, w3 k j = w3' k j) (hw2 : ∀ k j, w2 k j = w2' k j) (d : Fin 1024) :
    dense x g w1 w3 w2 d = dense x' g' w1' w3' w2' d := by
  obtain rfl : x = x' := funext hx
  obtain rfl : g = g' := funext hg
  obtain rfl : w1 = w1' := funext fun k => funext (hw1 k)
  obtain rfl : w3 = w3' := funext fun k => funext (hw3 k)
  obtain rfl : w2 = w2' := funext fun k => funext (hw2 k)
  rfl

end Cert.Row

end
-- ==== Proof.Rest.Ref3.lean ====
/- The plain dense layer, read at a row and a column. -/
module

public import proofs.«01_k».proof.Proof.Gen.Reference3Ideal.Run
public import proofs.«01_k».proof.Proof.Rest.Norm

@[expose] public section

set_option maxRecDepth 16384

noncomputable section

namespace Cert.Reference3Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Reference3Ideal Cert.Reference3Ideal.Gen Idealize.ShloMosaic.StableHlo

variable (x : FVec Ideal S32768x1024 .f32) (g : FVec Ideal S1x1024 .f32) (w w1 w3 : FVec Ideal S1024x2816 .bf16) (w2 : FVec Ideal S2816x1024 .bf16)

/-- The rows divided by their root mean square, times the weights. -/
def scaled : FVec Ideal S32768x1024 .f32 := (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g))
theorem scaled_at (r : Fin 32768) (k : Fin 1024) : scaled x g (ix2 r k) = Cert.Row.rms (fun j => x (ix2 r j)) (fun j => g (ix2 0 j)) k := by
  unfold scaled
  pointwise
  rfl
/-- The scaled rows by the inner columns. -/
def cols : FVec Ideal S32768x2816 .f32 := (Host.dotGeneral dot_S32768x1024_S1024x2816_S32768x2816_1_0_0_1_n_n none (scaled x g) (extf .f32 w bitsLt_bf16_f32))
theorem cols_at (r : Fin 32768) (f : Fin 2816) : cols x g w (ix2 r f) = Cert.Row.proj (fun j => x (ix2 r j)) (fun j => g (ix2 0 j)) (fun k f => w (ix2 k f)) f := by
  unfold cols
  pointwise
  exact Finset.sum_congr rfl fun k _ => congrArg (· * _) (scaled_at x g r k)
/-- The dense layer. -/
def plain : FVec Ideal S32768x1024 .f32 := addf x (Host.dotGeneral dot_S32768x2816_S2816x1024_S32768x1024_1_0_0_1_n_n none (mulf (mulf (cols x g w1) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (cols x g w1)))))) (cols x g w3)) (extf .f32 w2 bitsLt_bf16_f32))
theorem plain_at (r : Fin 32768) (d : Fin 1024) : plain x g w1 w3 w2 (ix2 r d)
    = Cert.Row.dense (fun j => x (ix2 r j)) (fun j => g (ix2 0 j)) (fun k f => w1 (ix2 k f)) (fun k f => w3 (ix2 k f)) (fun f d => w2 (ix2 f d)) d := by
  unfold plain
  pointwise
  refine congrArg (x (ix2 r d) + ·) (Finset.sum_congr rfl fun f _ => ?_)
  rw [cols_at, cols_at, ← Cert.Row.zero_sub]
  rfl

end Cert.Reference3Ideal.Value

end
-- ==== Proof.Rest.Loads.lean ====
/- Loads of columns of a matrix, and of the whole of it, at a position. -/
module

public import Idealize.ShloMosaic.Lib.Pointwise
public import Idealize.ShloMosaic.Lib.Pipeline.ValueKit

@[expose] public section

noncomputable section

namespace Cert.Row

open Idealize.ShloMosaic

variable {Val : EltTy → Type} {e : EltTy} {A B : ℕ}

/-- A load of a rectangle from `(a, b)` on reads the position moved by `(a, b)`. -/
theorem ld_at {a b p q : ℕ} (x : (⟨2, ![A, B]⟩ : Shape).Idx → Val e) (h : ∀ n, (![a, b] : Fin 2 → ℕ) n + (![p, q] : Fin 2 → ℕ) n ≤ (⟨2, ![A, B]⟩ : Shape).size n)
    (i : Fin p) (j : Fin q) (hi : a + i.val < A) (hj : b + j.val < B) :
    View.ld x (Rect.unit (s := ⟨2, ![A, B]⟩) ![a, b] ![p, q] h) (ix2 i j) = x (ix2 ⟨a + i.val, hi⟩ ⟨b + j.val, hj⟩) := by
  refine congrArg x (funext fun n => Fin.ext ?_)
  match n with
  | ⟨0, _⟩ => exact congrArg (a + ·) (Nat.one_mul _)
  | ⟨1, _⟩ => exact congrArg (b + ·) (Nat.one_mul _)

/-- Both offsets are zero. -/
theorem zeros : ∀ n : Fin 2, (![0, 0] : Fin 2 → ℕ) n = 0 := by decide

/-- A load of the whole matrix is the matrix. -/
theorem ld_all (x : (⟨2, ![A, B]⟩ : Shape).Idx → Val e) (h : ∀ n, (![0, 0] : Fin 2 → ℕ) n + (![A, B] : Fin 2 → ℕ) n ≤ (⟨2, ![A, B]⟩ : Shape).size n) :
    View.ld x (Rect.unit (s := ⟨2, ![A, B]⟩) ![0, 0] ![A, B] h) = x :=
  View.ld_unit_lit (S := ⟨2, ![A, B]⟩) h x zeros

/-- A store of the whole matrix leaves it. -/
theorem st_all [∀ e, Nonempty (Val e)] (x : (⟨2, ![A, B]⟩ : Shape).Idx → Val e) (h : ∀ n, (![0, 0] : Fin 2 → ℕ) n + (![A, B] : Fin 2 → ℕ) n ≤ (⟨2, ![A, B]⟩ : Shape).size n) :
    View.canon [(⟨Rect.unit (s := ⟨2, ![A, B]⟩) ![0, 0] ![A, B] h, x⟩ : View.Piece Val ⟨2, ![A, B]⟩ e)] = x :=
  View.canon_cons_unit_lit (S := ⟨2, ![A, B]⟩) h x [] zeros

/-- An array at a position, its coordinates known. -/
theorem at_pos {α : Type} (f : (⟨2, ![A, B]⟩ : Shape).Idx → α) (r : Fin A) (d : Fin B) (y : (⟨2, ![A, B]⟩ : Shape).Idx) (h0 : (y 0).val = r.val) (h1 : (y 1).val = d.val) : f y = f (ix2 r d) := by
  refine congrArg f (funext fun i => ?_)
  match i with
  | ⟨0, _⟩ => exact Fin.ext h0
  | ⟨1, _⟩ => exact Fin.ext h1

end Cert.Row

end
-- ==== Proof.Rest.Blk3.lean ====
/- The dense layer: its blocks, read at a position. -/
module

public import proofs.«01_k».proof.Proof.Gen.Kernel3Ideal.Value
public import proofs.«01_k».proof.Proof.Rest.Norm
public import proofs.«01_k».proof.Proof.Rest.Loads
public import Idealize.ShloMosaic.Lib.Pipeline.Covers
public import Idealize.ShloMosaic.Lib.Pipeline.ValueKit
public import proofs.«01_k».proof.Proof.Rest.Math2

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-- The scaled rows of a block. -/
theorem norm_at (x : Vec Ideal S512x1024 .f32) (g : Vec Ideal S1x1024 .f32) (r : Fin 512) (k : Fin 1024) :
    k0_pay2 x g (ix2 r k) = Cert.Row.rms (fun j => x (ix2 r j)) (fun j => g (ix2 0 j)) k := by
  unfold k0_pay2
  pointwise
  rfl

section
variable {F : FTy → Type} [FloatOps F]

/-- What one chunk of 256 inner columns adds to the block's result. -/
abbrev tile (h : FVec F S512x1024 .bf16) (a b : Vec F S1024x256 .bf16) (c : Vec F S256x1024 .bf16) : FVec F S512x1024 .f32 := Cert.Kernel2Ideal.Gen.tile h a b c

variable (x : Vec F S512x1024 .f32) (g : Vec F S1x1024 .f32) (h : FVec F S512x1024 .bf16) (acc : FVec F S512x1024 .f32) (a b a' b' : Vec F S1024x256 .bf16) (c c' : Vec F S256x1024 .bf16)

theorem pay3_eq : k0_pay3 x g a b c = tile (k0_pay2 x g) a b c := rfl
theorem pay5_eq : k0_pay5 (k0_pay2 x g) acc (k0_pay4 x g a) b (constant S512x256 .f32 0x00000000#32) c a' b' c' = addf (addf acc (tile (k0_pay2 x g) a b c)) (tile (k0_pay2 x g) a' b' c') := rfl
theorem pay8_eq : k0_pay8 h acc (k0_pay6 h a) (k0_pay7 h b) (Scalar.ofBits .f32 0x00000000#32) c a' b' c' = addf (addf acc (tile h a b c)) (tile h a' b' c') := rfl
theorem pay12_eq : k0_pay12 h acc (k0_pay9 h a) (k0_pay10 h b) (k0_pay11 h a) c a' b' c' = addf (addf acc (tile h a b c)) (tile h a' b' c') := rfl
theorem pay16_eq : k0_pay16 h acc (k0_pay13 h a) (k0_pay14 h b) (k0_pay15 h a) (Scalar.ofBits .f32 0x3F800000#32) c a' b' c' = addf (addf acc (tile h a b c)) (tile h a' b' c') := rfl
theorem pay1_eq : k0_pay1 x h acc (k0_pay17 h a) (k0_pay18 h b) (k0_pay19 h a) c a' b' c' = addf x (addf (addf acc (tile h a b c)) (tile h a' b' c')) := rfl
end

variable (x0 : Vec Ideal S512x1024 .f32) (x1 : Vec Ideal S1x1024 .f32) (x2 x3 : Vec Ideal S1024x2816 .bf16) (x4 : Vec Ideal S2816x1024 .bf16)

/-- What one inner column adds to a row's result. -/
def term (r : Fin 512) (d : Fin 1024) (f : Fin 2816) : EReal :=
  Cert.Row.proj (fun k => x0 (ix2 r k)) (fun k => x1 (ix2 0 k)) (fun k f => x2 (ix2 k f)) f * Cert.Row.sig (Cert.Row.proj (fun k => x0 (ix2 r k)) (fun k => x1 (ix2 0 k)) (fun k f => x2 (ix2 k f)) f)
    * Cert.Row.proj (fun k => x0 (ix2 r k)) (fun k => x1 (ix2 0 k)) (fun k f => x3 (ix2 k f)) f * x4 (ix2 f d)

/-- A chunk, its matrices the inner columns from `o` on. -/
theorem tile_at (o : ℕ) (ha hb hc) (n : Fin 11) (hn : o = 256 * n.val) (r : Fin 512) (d : Fin 1024) :
    (tile (k0_pay2 x0 x1) (View.ld x2 (Rect.unit (s := S1024x2816) ![0, o] S1024x256.size ha)) (View.ld x3 (Rect.unit (s := S1024x2816) ![0, o] S1024x256.size hb)) (View.ld x4 (Rect.unit (s := S2816x1024) ![o, 0] S256x1024.size hc)) (ix2 r d) : EReal)
      = ∑ j : Fin 256, term x0 x1 x2 x3 x4 r d ⟨256 * n.val + j.val, by have := n.isLt; have := j.isLt; omega⟩ := by
  subst hn
  have hlt : ∀ j : Fin 256, 256 * n.val + j.val < 2816 := fun j => by have := n.isLt; have := j.isLt; omega
  have e : ∀ (w : Vec Ideal S1024x2816 .bf16) (hw) (j : Fin 256), (∑ k : Fin 1024, k0_pay2 x0 x1 (ix2 r k) * View.ld w (Rect.unit (s := S1024x2816) ![0, 256 * n.val] S1024x256.size hw) (ix2 k j) : EReal)
      = Cert.Row.proj (fun k => x0 (ix2 r k)) (fun k => x1 (ix2 0 k)) (fun k f => w (ix2 k f)) ⟨256 * n.val + j.val, hlt j⟩ := fun w hw j =>
    Finset.sum_congr rfl fun k _ => congrArg₂ (· * ·) (norm_at x0 x1 r k) ((Cert.Row.ld_at w hw k j (by omega) (hlt j)).trans (congrArg (fun z => w (ix2 z _)) (Fin.ext (Nat.zero_add _))))
  refine (Cert.Kernel2Ideal.Gen.tile_at _ _ _ _ r d).trans (Finset.sum_congr rfl fun j _ => congrArg₂ (· * ·) (congrArg₂ Cert.Kernel2Ideal.Gen.mix (e x2 ha j) (e x3 hb j)) ?_)
  exact (Cert.Row.ld_at x4 hc j d (hlt j) (by omega)).trans (congrArg (fun z => x4 (ix2 _ z)) (Fin.ext (Nat.zero_add _)))

/-- What a point leaves in its block, at a row and a column. -/
theorem out_at (r : Fin 512) (d : Fin 1024) : out0_5 x0 x1 x2 x3 x4 (ix2 r d)
    = Cert.Row.dense (fun k => x0 (ix2 r k)) (fun k => x1 (ix2 0 k)) (fun k f => x2 (ix2 k f)) (fun k f => x3 (ix2 k f)) (fun f e => x4 (ix2 f e)) d := by
  unfold_out out0_5
  rw [show View.ld x0 r0_0 = x0 from Cert.Row.ld_all x0 _, show View.ld x1 r0_1 = x1 from Cert.Row.ld_all x1 _]
  refine (congrFun (Cert.Row.st_all _ _) _).trans ?_
  rw [pay1_eq, pay16_eq, pay12_eq, pay8_eq, pay5_eq, pay3_eq]
  show x0 (ix2 r d) + _ = x0 (ix2 r d) + ∑ f, term x0 x1 x2 x3 x4 r d f
  rw [← Cert.Kernel2Ideal.Gen.sum_chunks (term x0 x1 x2 x3 x4 r d)]
  refine congrArg (x0 (ix2 r d) + ·) (Eq.trans ?_ (Cert.Kernel2Ideal.Gen.sum11 fun n => ∑ j : Fin 256, term x0 x1 x2 x3 x4 r d ⟨256 * n.val + j.val, by have := n.isLt; have := j.isLt; omega⟩))
  have c (o : ℕ) (ha hb hc) (n : Fin 11) (hn : o = 256 * n.val) := tile_at x0 x1 x2 x3 x4 o ha hb hc n hn r d
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·)
    (c 0 _ _ _ 0 rfl) (c 256 _ _ _ 1 rfl)) (c 512 _ _ _ 2 rfl)) (c 768 _ _ _ 3 rfl)) (c 1024 _ _ _ 4 rfl)) (c 1280 _ _ _ 5 rfl)) (c 1536 _ _ _ 6 rfl)) (c 1792 _ _ _ 7 rfl)) (c 2048 _ _ _ 8 rfl)) (c 2304 _ _ _ 9 rfl)) (c 2560 _ _ _ 10 rfl)

theorem idx0_0 : ∀ t : Fin grid0.N, win0_0.index t 0 = t.val := by decide +kernel
theorem idx0_1 : ∀ t : Fin grid0.N, win0_0.index t 1 = 0 := by decide +kernel
theorem idx1_0 : ∀ t : Fin grid0.N, win0_1.index t 0 = 0 := by decide +kernel
theorem idx1_1 : ∀ t : Fin grid0.N, win0_1.index t 1 = 0 := by decide +kernel
theorem idx2_0 : ∀ t : Fin grid0.N, win0_2.index t 0 = 0 := by decide +kernel
theorem idx2_1 : ∀ t : Fin grid0.N, win0_2.index t 1 = 0 := by decide +kernel
theorem idx3_0 : ∀ t : Fin grid0.N, win0_3.index t 0 = 0 := by decide +kernel
theorem idx3_1 : ∀ t : Fin grid0.N, win0_3.index t 1 = 0 := by decide +kernel
theorem idx4_0 : ∀ t : Fin grid0.N, win0_4.index t 0 = 0 := by decide +kernel
theorem idx4_1 : ∀ t : Fin grid0.N, win0_4.index t 1 = 0 := by decide +kernel
theorem idx5_0 : ∀ t : Fin grid0.N, win0_5.index t 0 = t.val := by decide +kernel
theorem idx5_1 : ∀ t : Fin grid0.N, win0_5.index t 1 = 0 := by decide +kernel
theorem covers5 : (cfg0.win 5).Covers := by decide +kernel
theorem lt64 (t : Fin cfg0.N) : t.val < 64 := lt_of_lt_of_eq t.isLt (by decide)

section
variable (m : (ℓ : Loc nD τ sig) → Buf (Elt Ideal) ℓ) (c : Dev nD) (t : Fin cfg0.N)
theorem blk0_at (r : Fin 512) (k : Fin 1024) : (iblk m c 0 t : Vec Ideal S512x1024 .f32) (ix2 r k) = (m ((c.tc : Thread nD τ).loc main_arg0) : Vec Ideal S32768x1024 .f32) (ix2 ⟨512 * t.val + r.val, by have := lt64 t; omega⟩ k) := by
  blk_ext [iblk, V, idx0_0, idx0_1]
theorem blk1_at (r : Fin 1) (k : Fin 1024) : (iblk m c 1 t : Vec Ideal S1x1024 .f32) (ix2 r k) = (m ((c.tc : Thread nD τ).loc main_arg1) : Vec Ideal S1x1024 .f32) (ix2 r k) := by
  blk_ext [iblk, V, idx1_0, idx1_1]
theorem blk2_at (r : Fin 1024) (k : Fin 2816) : (iblk m c 2 t : Vec Ideal S1024x2816 .bf16) (ix2 r k) = (m ((c.tc : Thread nD τ).loc main_arg2) : Vec Ideal S1024x2816 .bf16) (ix2 r k) := by
  blk_ext [iblk, V, idx2_0, idx2_1]
theorem blk3_at (r : Fin 1024) (k : Fin 2816) : (iblk m c 3 t : Vec Ideal S1024x2816 .bf16) (ix2 r k) = (m ((c.tc : Thread nD τ).loc main_arg3) : Vec Ideal S1024x2816 .bf16) (ix2 r k) := by
  blk_ext [iblk, V, idx3_0, idx3_1]
theorem blk4_at (r : Fin 2816) (k : Fin 1024) : (iblk m c 4 t : Vec Ideal S2816x1024 .bf16) (ix2 r k) = (m ((c.tc : Thread nD τ).loc main_arg4) : Vec Ideal S2816x1024 .bf16) (ix2 r k) := by
  blk_ext [iblk, V, idx4_0, idx4_1]
end

/-- The layer, every token of it. -/
def layer (x : Vec Ideal S32768x1024 .f32) (g : Vec Ideal S1x1024 .f32) (w1 w3 : Vec Ideal S1024x2816 .bf16) (w2 : Vec Ideal S2816x1024 .bf16) : Vec Ideal S32768x1024 .f32 := fun y =>
  Cert.Row.dense (fun k => x (ix2 (y 0 : Fin 32768) k)) (fun k => g (ix2 0 k)) (fun k f => w1 (ix2 k f)) (fun k f => w3 (ix2 k f)) (fun f e => w2 (ix2 f e)) (y 1 : Fin 1024)

end Cert.Kernel3Ideal.Gen

end
-- ==== Proof.Rest.Arr3.lean ====
/- The dense layer's result array. -/
module

public import proofs.«01_k».proof.Proof.Rest.Blk3

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-- The result array a run ends with. -/
theorem array5 (m : (ℓ : Loc nD τ sig) → Buf (Elt Ideal) ℓ) (c : Dev nD) : (dats m 0 c).arrAt 5 cfg0.N = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Pipeline.Dat.arrAt_eq_of_covers (dat := dats m 0 c) 5 _ covers5 fun t hf y => ?_
  have hN := lt64 t
  rw [after0_5]
  obtain ⟨r, d, rfl⟩ : ∃ (r : Fin 512) (d : Fin 1024), y = ix2 r d := ⟨y 0, y 1, by funext i; match i with | ⟨0, _⟩ => rfl | ⟨1, _⟩ => rfl⟩
  have e0 : ((((cfg0.win 5).blk t).view.emb (ix2 r d)) 0 : ℕ) = 512 * t.val + r.val := by
    blk_simp [idx5_0 t]
    omega
  have e1 : ((((cfg0.win 5).blk t).view.emb (ix2 r d)) 1 : ℕ) = d.val := by
    blk_simp [idx5_1 t]
  refine Eq.trans ?_ (Cert.Row.at_pos (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (⟨512 * t.val + r.val, by omega⟩ : Fin 32768) d _ e0 e1).symm
  have h : out0_5 (iblk m c 0 t) (iblk m c 1 t) (iblk m c 2 t) (iblk m c 3 t) (iblk m c 4 t) (ix2 r d) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (⟨512 * t.val + r.val, by omega⟩ : Fin 32768) d) :=
    (out_at _ _ _ _ _ r d).trans (Cert.Row.dense_congr (fun k => blk0_at m c t r k) (fun k => blk1_at m c t 0 k) (fun k j => blk2_at m c t k j) (fun k j => blk3_at m c t k j) (fun k j => blk4_at m c t k j) d)
  generalize out0_5 (iblk m c 0 t) (iblk m c 1 t) (iblk m c 2 t) (iblk m c 3 t) (iblk m c 4 t) = u at h ⊢
  exact h

end Cert.Kernel3Ideal.Gen

end
-- ==== Proof.Rest.Claims3.lean ====
/- The dense layer's claims. -/
module

public import proofs.«01_k».proof.Defs
public import proofs.«01_k».proof.Proof.Gen.Kernel3.Frame
public import proofs.«01_k».proof.Proof.Rest.Ref3
public import proofs.«01_k».proof.Proof.Rest.Arr3
public import Idealize.ShloMosaic.Lib.Quiescent

@[expose] public section

set_option maxRecDepth 16384

noncomputable section

namespace Cert.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-- The plain layer is the layer the blocks make. -/
theorem plain0_eq (x : FVec Ideal ⟨2, ![32768, 1024]⟩ .f32) (g : FVec Ideal ⟨2, ![1, 1024]⟩ .f32) (w1 w3 : FVec Ideal ⟨2, ![1024, 2816]⟩ .bf16) (w2 : FVec Ideal ⟨2, ![2816, 1024]⟩ .bf16) : Cert.Reference3Ideal.Value.plain x g w1 w3 w2 = Cert.Kernel3Ideal.Gen.layer x g w1 w3 w2 := by
  funext y
  obtain ⟨r, d, rfl⟩ : ∃ (r : Fin 32768) (d : Fin 1024), y = ix2 r d := ⟨y 0, y 1, by funext i; match i with | ⟨0, _⟩ => rfl | ⟨1, _⟩ => rfl⟩
  exact Cert.Reference3Ideal.Value.plain_at x g w1 w3 w2 r d

/-- The reference's result, from memories that agree on the arguments. -/
theorem res0_eq (m' : (ℓ : Loc Cert.Reference3Ideal.nD Cert.Reference3Ideal.τ Cert.Reference3Ideal.sig) → Buf (Elt Ideal) ℓ) (m : (ℓ : Loc Cert.Kernel3Ideal.nD Cert.Kernel3Ideal.τ Cert.Kernel3Ideal.sig) → Buf (Elt Ideal) ℓ)
    (ha : (m' (((0 : Dev Cert.Kernel3Ideal.nD).tc : Thread Cert.Reference3Ideal.nD Cert.Reference3Ideal.τ).loc Cert.Reference3Ideal.main_arg0) = m (((0 : Dev Cert.Kernel3Ideal.nD).tc : Thread Cert.Kernel3Ideal.nD Cert.Kernel3Ideal.τ).loc Cert.Kernel3Ideal.main_arg0)
      ∧ m' (((0 : Dev Cert.Kernel3Ideal.nD).tc : Thread Cert.Reference3Ideal.nD Cert.Reference3Ideal.τ).loc Cert.Reference3Ideal.main_arg1) = m (((0 : Dev Cert.Kernel3Ideal.nD).tc : Thread Cert.Kernel3Ideal.nD Cert.Kernel3Ideal.τ).loc Cert.Kernel3Ideal.main_arg1)
      ∧ m' (((0 : Dev Cert.Kernel3Ideal.nD).tc : Thread Cert.Reference3Ideal.nD Cert.Reference3Ideal.τ).loc Cert.Reference3Ideal.main_arg2) = m (((0 : Dev Cert.Kernel3Ideal.nD).tc : Thread Cert.Kernel3Ideal.nD Cert.Kernel3Ideal.τ).loc Cert.Kernel3Ideal.main_arg2)
      ∧ m' (((0 : Dev Cert.Kernel3Ideal.nD).tc : Thread Cert.Reference3Ideal.nD Cert.Reference3Ideal.τ).loc Cert.Reference3Ideal.main_arg3) = m (((0 : Dev Cert.Kernel3Ideal.nD).tc : Thread Cert.Kernel3Ideal.nD Cert.Kernel3Ideal.τ).loc Cert.Kernel3Ideal.main_arg3)
      ∧ m' (((0 : Dev Cert.Kernel3Ideal.nD).tc : Thread Cert.Reference3Ideal.nD Cert.Reference3Ideal.τ).loc Cert.Reference3Ideal.main_arg4) = m (((0 : Dev Cert.Kernel3Ideal.nD).tc : Thread Cert.Kernel3Ideal.nD Cert.Kernel3Ideal.τ).loc Cert.Kernel3Ideal.main_arg4))) :
    Cert.Reference3Ideal.Value.plain (m' (((0 : Dev Cert.Reference3Ideal.nD).tc : Thread Cert.Reference3Ideal.nD Cert.Reference3Ideal.τ).loc Cert.Reference3Ideal.main_arg0)) (m' (((0 : Dev Cert.Reference3Ideal.nD).tc : Thread Cert.Reference3Ideal.nD Cert.Reference3Ideal.τ).loc Cert.Reference3Ideal.main_arg1)) (m' (((0 : Dev Cert.Reference3Ideal.nD).tc : Thread Cert.Reference3Ideal.nD Cert.Reference3Ideal.τ).loc Cert.Reference3Ideal.main_arg2)) (m' (((0 : Dev Cert.Reference3Ideal.nD).tc : Thread Cert.Reference3Ideal.nD Cert.Reference3Ideal.τ).loc Cert.Reference3Ideal.main_arg3)) (m' (((0 : Dev Cert.Reference3Ideal.nD).tc : Thread Cert.Reference3Ideal.nD Cert.Reference3Ideal.τ).loc Cert.Reference3Ideal.main_arg4)) = Cert.Kernel3Ideal.Gen.layer (m (((0 : Dev Cert.Kernel3Ideal.nD).tc : Thread Cert.Kernel3Ideal.nD Cert.Kernel3Ideal.τ).loc Cert.Kernel3Ideal.main_arg0)) (m (((0 : Dev Cert.Kernel3Ideal.nD).tc : Thread Cert.Kernel3Ideal.nD Cert.Kernel3Ideal.τ).loc Cert.Kernel3Ideal.main_arg1)) (m (((0 : Dev Cert.Kernel3Ideal.nD).tc : Thread Cert.Kernel3Ideal.nD Cert.Kernel3Ideal.τ).loc Cert.Kernel3Ideal.main_arg2)) (m (((0 : Dev Cert.Kernel3Ideal.nD).tc : Thread Cert.Kernel3Ideal.nD Cert.Kernel3Ideal.τ).loc Cert.Kernel3Ideal.main_arg3)) (m (((0 : Dev Cert.Kernel3Ideal.nD).tc : Thread Cert.Kernel3Ideal.nD Cert.Kernel3Ideal.τ).loc Cert.Kernel3Ideal.main_arg4)) := by
  refine Eq.trans (b := Cert.Reference3Ideal.Value.plain (m' (((0 : Dev Cert.Reference3Ideal.nD).tc : Thread Cert.Reference3Ideal.nD Cert.Reference3Ideal.τ).loc Cert.Reference3Ideal.main_arg0)) (m' (((0 : Dev Cert.Reference3Ideal.nD).tc : Thread Cert.Reference3Ideal.nD Cert.Reference3Ideal.τ).loc Cert.Reference3Ideal.main_arg1)) (m' (((0 : Dev Cert.Reference3Ideal.nD).tc : Thread Cert.Reference3Ideal.nD Cert.Reference3Ideal.τ).loc Cert.Reference3Ideal.main_arg2)) (m' (((0 : Dev Cert.Reference3Ideal.nD).tc : Thread Cert.Reference3Ideal.nD Cert.Reference3Ideal.τ).loc Cert.Reference3Ideal.main_arg3)) (m' (((0 : Dev Cert.Reference3Ideal.nD).tc : Thread Cert.Reference3Ideal.nD Cert.Reference3Ideal.τ).loc Cert.Reference3Ideal.main_arg4))) rfl ?_
  rw [ha.1, ha.2.1, ha.2.2.1, ha.2.2.2.1, ha.2.2.2.2]
  exact plain0_eq _ _ _ _ _

theorem frame_plain : Cert.quiescent_Kernel3 := fun m g _ => Cert.Kernel3.Gen.frame (F := Bits) m g
theorem frame_ideal : Cert.quiescent_Kernel3Ideal := fun m g _ => Cert.Kernel3Ideal.Gen.frame (F := Ideal) m g
theorem frame_reference : Cert.quiescent_Reference3Ideal := fun m g _ =>
  (θ_run _ _ _).mono (fun r h => ⟨fun c => (h c).2, sem_eq_zero_of_no_sems (by decide) _⟩) (Cert.Reference3Ideal.Value.run (F := Ideal) m g)
theorem kept : Cert.preserves_Kernel3_Kernel3Ideal := trivial

theorem same_value : Cert.algebraic_Kernel3Ideal_Reference3Ideal := by
  intro m g m' g' _ ha
  refine ⟨fun c => (Cert.Kernel3Ideal.Gen.dats m 0 c).arrAt 5 Cert.Kernel3Ideal.cfg0.N,
    (θ_run _ _ _).mono (fun r hr c => hr c) (Cert.Kernel3Ideal.Value.run_blocks (F := Ideal) m g),
    (θ_run _ _ _).mono (fun r hr c => ⟨(hr c).1.trans ?_, (hr c).2⟩) (Cert.Reference3Ideal.Value.run (F := Ideal) m' g')⟩
  obtain rfl : c = 0 := Subsingleton.elim _ _
  exact (res0_eq m' m (ha 0)).trans (Cert.Kernel3Ideal.Gen.array5 m 0).symm

end Cert.Dense

end
-- ==== Proof.Rest.Ref4.lean ====
/- The plain merge layer, read at a row and a column. -/
module

public import proofs.«01_k».proof.Proof.Gen.Reference4Ideal.Run
public import proofs.«01_k».proof.Proof.Rest.Norm

@[expose] public section

set_option maxRecDepth 16384

noncomputable section

namespace Cert.Reference4Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Reference4Ideal Cert.Reference4Ideal.Gen Idealize.ShloMosaic.StableHlo

variable (x : FVec Ideal S32768x1024 .f32) (g : FVec Ideal S1x1024 .f32) (oa ob oc : FVec Ideal S32768x512 .bf16) (wg : FVec Ideal S1024x3072 .bf16) (b : FVec Ideal S1x3072 .f32) (pa pb pc : FVec Ideal S512x1024 .bf16) (wo : FVec Ideal S1024x1024 .bf16)

/-- The rows divided by their root mean square, times the weights. -/
def scaled : FVec Ideal S32768x1024 .f32 := (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g))
/-- The gates of every token. -/
def gates : FVec Ideal S32768x3072 .f32 := (Host.divf (broadcastInDim S32768x3072 ![] bcast_S_S32768x3072 (constant S_ .f32 0x3F800000#32)) (addf (broadcastInDim S32768x3072 ![] bcast_S_S32768x3072 (constant S_ .f32 0x3F800000#32)) (Host.exp (Host.negf (addf (Host.dotGeneral dot_S32768x1024_S1024x3072_S32768x3072_1_0_0_1_n_n none (scaled x g) (extf .f32 wg bitsLt_bf16_f32)) (broadcastInDim S32768x3072 ![0, 1] bcast_S1x3072_S32768x3072_0_1 b))))))
/-- The gated projections, added. -/
def mix : FVec Ideal S32768x1024 .f32 := (addf (addf (mulf (extractStridedSlice S32768x1024 ![0, 0] (gates x g wg b) slices_S32768x3072_S32768x1024_0_0) (Host.dotGeneral dot_S32768x512_S512x1024_S32768x1024_1_0_0_1_n_n none (extf .f32 oa bitsLt_bf16_f32) (extf .f32 pa bitsLt_bf16_f32))) (mulf (extractStridedSlice S32768x1024 ![0, 1024] (gates x g wg b) slices_S32768x3072_S32768x1024_0_1024) (Host.dotGeneral dot_S32768x512_S512x1024_S32768x1024_1_0_0_1_n_n none (extf .f32 ob bitsLt_bf16_f32) (extf .f32 pb bitsLt_bf16_f32)))) (mulf (extractStridedSlice S32768x1024 ![0, 2048] (gates x g wg b) slices_S32768x3072_S32768x1024_0_2048) (Host.dotGeneral dot_S32768x512_S512x1024_S32768x1024_1_0_0_1_n_n none (extf .f32 oc bitsLt_bf16_f32) (extf .f32 pc bitsLt_bf16_f32))))
/-- The merge layer. -/
def plain : FVec Ideal S32768x1024 .f32 := addf x (Host.dotGeneral dot_S32768x1024_S1024x1024_S32768x1024_1_0_0_1_n_n none (mix x g oa ob oc wg b pa pb pc) (extf .f32 wo bitsLt_bf16_f32))

theorem scaled_at (r : Fin 32768) (k : Fin 1024) : scaled x g (ix2 r k) = Cert.Row.rms (fun j => x (ix2 r j)) (fun j => g (ix2 0 j)) k := by
  unfold scaled
  pointwise
  rfl
theorem gates_at (r : Fin 32768) (c : Fin 3072) : gates x g wg b (ix2 r c) = Cert.Row.gate (fun j => x (ix2 r j)) (fun j => g (ix2 0 j)) (fun j c => wg (ix2 j c)) (fun c => b (ix2 0 c)) c := by
  unfold gates
  pointwise
  rw [← Cert.Row.zero_sub]
  refine congrArg Cert.Row.sig (congrArg (· + _) (Finset.sum_congr rfl fun k _ => congrArg (· * _) (scaled_at x g r k)))
theorem mix_at (r : Fin 32768) (k : Fin 1024) : mix x g oa ob oc wg b pa pb pc (ix2 r k)
    = Cert.Row.mixed (fun j => x (ix2 r j)) (fun j => g (ix2 0 j)) (fun j => oa (ix2 r j)) (fun j => ob (ix2 r j)) (fun j => oc (ix2 r j)) (fun j c => wg (ix2 j c)) (fun c => b (ix2 0 c)) (fun j k => pa (ix2 j k)) (fun j k => pb (ix2 j k)) (fun j k => pc (ix2 j k)) k := by
  unfold mix
  pointwise
  rw [gates_at, gates_at, gates_at]
  rfl
theorem plain_at (r : Fin 32768) (d : Fin 1024) : plain x g oa ob oc wg b pa pb pc wo (ix2 r d)
    = Cert.Row.merged (fun j => x (ix2 r j)) (fun j => g (ix2 0 j)) (fun j => oa (ix2 r j)) (fun j => ob (ix2 r j)) (fun j => oc (ix2 r j)) (fun j c => wg (ix2 j c)) (fun c => b (ix2 0 c)) (fun j k => pa (ix2 j k)) (fun j k => pb (ix2 j k)) (fun j k => pc (ix2 j k)) (fun k e => wo (ix2 k e)) d := by
  unfold plain
  pointwise
  exact congrArg (x (ix2 r d) + ·) (Finset.sum_congr rfl fun k _ => congrArg (· * _) (mix_at x g oa ob oc wg b pa pb pc r k))

end Cert.Reference4Ideal.Value

end
-- ==== Proof.Rest.Blk4.lean ====
/- The merge layer: its blocks, read at a position. -/
module

public import proofs.«01_k».proof.Proof.Gen.Kernel4Ideal.Value
public import proofs.«01_k».proof.Proof.Rest.Norm
public import proofs.«01_k».proof.Proof.Rest.Loads
public import Idealize.ShloMosaic.Lib.Pipeline.Covers
public import Idealize.ShloMosaic.Lib.Pipeline.ValueKit

@[expose] public section

set_option maxRecDepth 65536

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-- The scaled rows of a block. -/
theorem norm_at (x : Vec Ideal S512x1024 .f32) (g : Vec Ideal S1x1024 .f32) (r : Fin 512) (k : Fin 1024) :
    k0_pay1 x g (ix2 r k) = Cert.Row.rms (fun j => x (ix2 r j)) (fun j => g (ix2 0 j)) k := by
  unfold k0_pay1
  pointwise
  rfl

/-- The first gated projection of a block. -/
theorem pay2_at (x : Vec Ideal S512x1024 .f32) (g : Vec Ideal S1x1024 .f32) (w : Vec Ideal S1024x1024 .bf16) (b : Vec Ideal S1x1024 .f32) (o : Vec Ideal S512x512 .bf16) (p : Vec Ideal S512x1024 .bf16) (r : Fin 512) (k : Fin 1024) :
    k0_pay2 x g w b o p (ix2 r k)
      = Cert.Row.sig ((∑ j, k0_pay1 x g (ix2 r j) * w (ix2 j k)) + b (ix2 0 k)) * ∑ j, o (ix2 r j) * p (ix2 j k) := by
  unfold k0_pay2
  pointwise
  rfl

/-- The second gate's product. -/
theorem pay3_at (x : Vec Ideal S512x1024 .f32) (g : Vec Ideal S1x1024 .f32) (w : Vec Ideal S1024x1024 .bf16) (r : Fin 512) (k : Fin 1024) :
    k0_pay3 x g w (ix2 r k) = ∑ j, k0_pay1 x g (ix2 r j) * w (ix2 j k) := by
  unfold k0_pay3
  pointwise

/-- The block's result of its parts. -/
theorem pay4_at (x : Vec Ideal S512x1024 .f32) (h : FVec Ideal S512x1024 .bf16) (u v : FVec Ideal S512x1024 .f32) (b1 : Vec Ideal S1x1024 .f32) (o1 : Vec Ideal S512x512 .bf16) (p1 : Vec Ideal S512x1024 .bf16)
    (w : Vec Ideal S1024x1024 .bf16) (b2 : Vec Ideal S1x1024 .f32) (o2 : Vec Ideal S512x512 .bf16) (p2 : Vec Ideal S512x1024 .bf16) (wo : Vec Ideal S1024x1024 .bf16) (r : Fin 512) (d : Fin 1024) :
    k0_pay4 x h u v b1 o1 p1 w b2 o2 p2 wo (ix2 r d)
      = x (ix2 r d) + ∑ k : Fin 1024, (u (ix2 r k) + Cert.Row.sig (v (ix2 r k) + b1 (ix2 0 k)) * (∑ j, o1 (ix2 r j) * p1 (ix2 j k))
          + Cert.Row.sig ((∑ j, h (ix2 r j) * w (ix2 j k)) + b2 (ix2 0 k)) * (∑ j, o2 (ix2 r j) * p2 (ix2 j k))) * wo (ix2 k d) := by
  unfold k0_pay4
  pointwise
  rfl

/-- What a point leaves in its block, of its blocks. -/
theorem out_eq (x0 : Vec Ideal S512x1024 .f32) (x1 : Vec Ideal S1x1024 .f32) (x2 x3 x4 : Vec Ideal S512x512 .bf16) (x5 : Vec Ideal S1024x3072 .bf16) (x6 : Vec Ideal S1x3072 .f32) (x7 x8 x9 : Vec Ideal S512x1024 .bf16) (x10 : Vec Ideal S1024x1024 .bf16) :
    out0_11 x0 x1 x2 x3 x4 x5 x6 x7 x8 x9 x10 = k0_pay4 x0 (k0_pay1 x0 x1) (k0_pay2 x0 x1 (View.ld x5 r0_2) (View.ld x6 r0_3) x2 x7) (k0_pay3 x0 x1 (View.ld x5 r0_5)) (View.ld x6 r0_6) x3 x8 (View.ld x5 r0_7) (View.ld x6 r0_8) x4 x9 x10 := by
  unfold out0_11
  refine (Cert.Row.st_all _ _).trans ?_
  rw [show View.ld x0 r0_0 = x0 from Cert.Row.ld_all x0 _, show View.ld x1 r0_1 = x1 from Cert.Row.ld_all x1 _, show View.ld x2 r0_4 = x2 from Cert.Row.ld_all x2 _, show View.ld x3 r0_4 = x3 from Cert.Row.ld_all x3 _,
    show View.ld x4 r0_4 = x4 from Cert.Row.ld_all x4 _, show View.ld x7 r0_0 = x7 from Cert.Row.ld_all x7 _, show View.ld x8 r0_0 = x8 from Cert.Row.ld_all x8 _, show View.ld x9 r0_0 = x9 from Cert.Row.ld_all x9 _, show View.ld x10 r0_9 = x10 from Cert.Row.ld_all x10 _]

/-- A gate of a block: the scaled row against columns of the gate's matrix, and its bias. -/
theorem gate_at (x : Vec Ideal S512x1024 .f32) (g : Vec Ideal S1x1024 .f32) (wg : Vec Ideal S1024x3072 .bf16) (bg : Vec Ideal S1x3072 .f32) (o : ℕ) (hw hb) (r : Fin 512) (k : Fin 1024) (ho : o + k.val < 3072) :
    Cert.Row.sig ((∑ j, k0_pay1 x g (ix2 r j) * View.ld wg (Rect.unit (s := S1024x3072) ![0, o] S1024x1024.size hw) (ix2 j k)) + View.ld bg (Rect.unit (s := S1x3072) ![0, o] S1x1024.size hb) (ix2 0 k))
      = Cert.Row.gate (fun j => x (ix2 r j)) (fun j => g (ix2 0 j)) (fun j c => wg (ix2 j c)) (fun c => bg (ix2 0 c)) ⟨o + k.val, ho⟩ := by
  refine congrArg Cert.Row.sig (congrArg₂ (· + ·) (Finset.sum_congr rfl fun j _ => congrArg₂ (· * ·) (norm_at x g r j) ?_) ?_)
  · refine (Cert.Row.ld_at wg hw j k (by omega) ho).trans (congrArg (fun z => wg (ix2 z _)) (Fin.ext (Nat.zero_add _)))
  · exact Cert.Row.ld_at bg hb 0 k (by decide) ho

/-- What a point leaves in its block, at a row and a column. -/
theorem out_at (x0 : Vec Ideal S512x1024 .f32) (x1 : Vec Ideal S1x1024 .f32) (x2 x3 x4 : Vec Ideal S512x512 .bf16) (x5 : Vec Ideal S1024x3072 .bf16) (x6 : Vec Ideal S1x3072 .f32) (x7 x8 x9 : Vec Ideal S512x1024 .bf16) (x10 : Vec Ideal S1024x1024 .bf16) (r : Fin 512) (d : Fin 1024) :
    out0_11 x0 x1 x2 x3 x4 x5 x6 x7 x8 x9 x10 (ix2 r d)
      = Cert.Row.merged (fun k => x0 (ix2 r k)) (fun k => x1 (ix2 0 k)) (fun j => x2 (ix2 r j)) (fun j => x3 (ix2 r j)) (fun j => x4 (ix2 r j)) (fun k c => x5 (ix2 k c)) (fun c => x6 (ix2 0 c))
          (fun j k => x7 (ix2 j k)) (fun j k => x8 (ix2 j k)) (fun j k => x9 (ix2 j k)) (fun k e => x10 (ix2 k e)) d := by
  refine (congrFun (out_eq x0 x1 x2 x3 x4 x5 x6 x7 x8 x9 x10) _).trans ((pay4_at _ _ _ _ _ _ _ _ _ _ _ _ r d).trans ?_)
  unfold Cert.Row.merged Cert.Row.mixed
  refine congrArg₂ (· + ·) rfl (Finset.sum_congr rfl fun k _ => congrArg₂ (· * ·) (congrArg₂ (· + ·) (congrArg₂ (· + ·) ?_ ?_) ?_) rfl)
  · refine (pay2_at _ _ _ _ _ _ r k).trans (congrArg₂ (· * ·) ((gate_at x0 x1 x5 x6 0 _ _ r k (by omega)).trans ?_) rfl)
    exact congrArg _ (Fin.ext (Nat.zero_add _))
  · exact congrArg₂ (· * ·) ((congrArg (fun z => Cert.Row.sig (z + _)) (pay3_at _ _ _ r k)).trans (gate_at x0 x1 x5 x6 1024 _ _ r k (by omega))) rfl
  · exact congrArg₂ (· * ·) (gate_at x0 x1 x5 x6 2048 _ _ r k (by omega)) rfl

theorem idx0_0 : ∀ t : Fin grid0.N, win0_0.index t 0 = t.val := by decide +kernel
theorem idx0_1 : ∀ t : Fin grid0.N, win0_0.index t 1 = 0 := by decide +kernel
theorem idx2_0 : ∀ t : Fin grid0.N, win0_2.index t 0 = t.val := by decide +kernel
theorem idx2_1 : ∀ t : Fin grid0.N, win0_2.index t 1 = 0 := by decide +kernel
theorem idx3_0 : ∀ t : Fin grid0.N, win0_3.index t 0 = t.val := by decide +kernel
theorem idx3_1 : ∀ t : Fin grid0.N, win0_3.index t 1 = 0 := by decide +kernel
theorem idx4_0 : ∀ t : Fin grid0.N, win0_4.index t 0 = t.val := by decide +kernel
theorem idx4_1 : ∀ t : Fin grid0.N, win0_4.index t 1 = 0 := by decide +kernel
theorem idx11_0 : ∀ t : Fin grid0.N, win0_11.index t 0 = t.val := by decide +kernel
theorem idx11_1 : ∀ t : Fin grid0.N, win0_11.index t 1 = 0 := by decide +kernel
theorem idx1_0 : ∀ t : Fin grid0.N, win0_1.index t 0 = 0 := by decide +kernel
theorem idx1_1 : ∀ t : Fin grid0.N, win0_1.index t 1 = 0 := by decide +kernel
theorem idx5_0 : ∀ t : Fin grid0.N, win0_5.index t 0 = 0 := by decide +kernel
theorem idx5_1 : ∀ t : Fin grid0.N, win0_5.index t 1 = 0 := by decide +kernel
theorem idx6_0 : ∀ t : Fin grid0.N, win0_6.index t 0 = 0 := by decide +kernel
theorem idx6_1 : ∀ t : Fin grid0.N, win0_6.index t 1 = 0 := by decide +kernel
theorem idx7_0 : ∀ t : Fin grid0.N, win0_7.index t 0 = 0 := by decide +kernel
theorem idx7_1 : ∀ t : Fin grid0.N, win0_7.index t 1 = 0 := by decide +kernel
theorem idx8_0 : ∀ t : Fin grid0.N, win0_8.index t 0 = 0 := by decide +kernel
theorem idx8_1 : ∀ t : Fin grid0.N, win0_8.index t 1 = 0 := by decide +kernel
theorem idx9_0 : ∀ t : Fin grid0.N, win0_9.index t 0 = 0 := by decide +kernel
theorem idx9_1 : ∀ t : Fin grid0.N, win0_9.index t 1 = 0 := by decide +kernel
theorem idx10_0 : ∀ t : Fin grid0.N, win0_10.index t 0 = 0 := by decide +kernel
theorem idx10_1 : ∀ t : Fin grid0.N, win0_10.index t 1 = 0 := by decide +kernel

theorem lt64 (t : Fin cfg0.N) : t.val < 64 := lt_of_lt_of_eq t.isLt (by decide)
theorem covers11 : (cfg0.win 11).Covers := by decide +kernel

section
variable (m : (ℓ : Loc nD τ sig) → Buf (Elt Ideal) ℓ) (c : Dev nD) (t : Fin cfg0.N)
theorem blk0_at (r : Fin 512) (k : Fin 1024) : (iblk m c 0 t : Vec Ideal S512x1024 .f32) (ix2 r k) = (m ((c.tc : Thread nD τ).loc main_arg0) : Vec Ideal S32768x1024 .f32) (ix2 ⟨512 * t.val + r.val, by have := lt64 t; omega⟩ k) := by
  blk_ext [iblk, V, idx0_0, idx0_1]
theorem blk1_at (r : Fin 1) (k : Fin 1024) : (iblk m c 1 t : Vec Ideal S1x1024 .f32) (ix2 r k) = (m ((c.tc : Thread nD τ).loc main_arg1) : Vec Ideal S1x1024 .f32) (ix2 r k) := by
  blk_ext [iblk, V, idx1_0, idx1_1]
theorem blk2_at (r : Fin 512) (k : Fin 512) : (iblk m c 2 t : Vec Ideal S512x512 .bf16) (ix2 r k) = (m ((c.tc : Thread nD τ).loc main_arg2) : Vec Ideal S32768x512 .bf16) (ix2 ⟨512 * t.val + r.val, by have := lt64 t; omega⟩ k) := by
  blk_ext [iblk, V, idx2_0, idx2_1]
theorem blk3_at (r : Fin 512) (k : Fin 512) : (iblk m c 3 t : Vec Ideal S512x512 .bf16) (ix2 r k) = (m ((c.tc : Thread nD τ).loc main_arg3) : Vec Ideal S32768x512 .bf16) (ix2 ⟨512 * t.val + r.val, by have := lt64 t; omega⟩ k) := by
  blk_ext [iblk, V, idx3_0, idx3_1]
theorem blk4_at (r : Fin 512) (k : Fin 512) : (iblk m c 4 t : Vec Ideal S512x512 .bf16) (ix2 r k) = (m ((c.tc : Thread nD τ).loc main_arg4) : Vec Ideal S32768x512 .bf16) (ix2 ⟨512 * t.val + r.val, by have := lt64 t; omega⟩ k) := by
  blk_ext [iblk, V, idx4_0, idx4_1]
theorem blk5_at (r : Fin 1024) (k : Fin 3072) : (iblk m c 5 t : Vec Ideal S1024x3072 .bf16) (ix2 r k) = (m ((c.tc : Thread nD τ).loc main_arg5) : Vec Ideal S1024x3072 .bf16) (ix2 r k) := by
  blk_ext [iblk, V, idx5_0, idx5_1]
theorem blk6_at (r : Fin 1) (k : Fin 3072) : (iblk m c 6 t : Vec Ideal S1x3072 .f32) (ix2 r k) = (m ((c.tc : Thread nD τ).loc main_arg6) : Vec Ideal S1x3072 .f32) (ix2 r k) := by
  blk_ext [iblk, V, idx6_0, idx6_1]
theorem blk7_at (r : Fin 512) (k : Fin 1024) : (iblk m c 7 t : Vec Ideal S512x1024 .bf16) (ix2 r k) = (m ((c.tc : Thread nD τ).loc main_arg7) : Vec Ideal S512x1024 .bf16) (ix2 r k) := by
  blk_ext [iblk, V, idx7_0, idx7_1]
theorem blk8_at (r : Fin 512) (k : Fin 1024) : (iblk m c 8 t : Vec Ideal S512x1024 .bf16) (ix2 r k) = (m ((c.tc : Thread nD τ).loc main_arg8) : Vec Ideal S512x1024 .bf16) (ix2 r k) := by
  blk_ext [iblk, V, idx8_0, idx8_1]
theorem blk9_at (r : Fin 512) (k : Fin 1024) : (iblk m c 9 t : Vec Ideal S512x1024 .bf16) (ix2 r k) = (m ((c.tc : Thread nD τ).loc main_arg9) : Vec Ideal S512x1024 .bf16) (ix2 r k) := by
  blk_ext [iblk, V, idx9_0, idx9_1]
theorem blk10_at (r : Fin 1024) (k : Fin 1024) : (iblk m c 10 t : Vec Ideal S1024x1024 .bf16) (ix2 r k) = (m ((c.tc : Thread nD τ).loc main_arg10) : Vec Ideal S1024x1024 .bf16) (ix2 r k) := by
  blk_ext [iblk, V, idx10_0, idx10_1]
end

/-- The layer, every token of it. -/
def layer (x : Vec Ideal S32768x1024 .f32) (g : Vec Ideal S1x1024 .f32) (oa ob oc : Vec Ideal S32768x512 .bf16) (wg : Vec Ideal S1024x3072 .bf16) (b : Vec Ideal S1x3072 .f32) (pa pb pc : Vec Ideal S512x1024 .bf16)
    (wo : Vec Ideal S1024x1024 .bf16) : Vec Ideal S32768x1024 .f32 := fun y =>
  Cert.Row.merged (fun k => x (ix2 (y 0 : Fin 32768) k)) (fun k => g (ix2 0 k)) (fun j => oa (ix2 (y 0 : Fin 32768) j)) (fun j => ob (ix2 (y 0 : Fin 32768) j)) (fun j => oc (ix2 (y 0 : Fin 32768) j)) (fun k c => wg (ix2 k c)) (fun c => b (ix2 0 c))
    (fun j k => pa (ix2 j k)) (fun j k => pb (ix2 j k)) (fun j k => pc (ix2 j k)) (fun k e => wo (ix2 k e)) (y 1 : Fin 1024)

/-- The layer of equal rows and weights. -/
theorem merged_congr {x x' : Fin 1024 → EReal} {g g' : Fin 1024 → EReal} {oa oa' : Fin 512 → EReal} {ob ob' : Fin 512 → EReal} {oc oc' : Fin 512 → EReal} {wg wg' : Fin 1024 → Fin 3072 → EReal} {b b' : Fin 3072 → EReal} {pa pa' : Fin 512 → Fin 1024 → EReal} {pb pb' : Fin 512 → Fin 1024 → EReal} {pc pc' : Fin 512 → Fin 1024 → EReal} {wo wo' : Fin 1024 → Fin 1024 → EReal}
    (hx : ∀ k, x k = x' k) (hg : ∀ k, g k = g' k) (hoa : ∀ k, oa k = oa' k) (hob : ∀ k, ob k = ob' k) (hoc : ∀ k, oc k = oc' k) (hwg : ∀ k j, wg k j = wg' k j) (hb : ∀ k, b k = b' k) (hpa : ∀ k j, pa k j = pa' k j) (hpb : ∀ k j, pb k j = pb' k j) (hpc : ∀ k j, pc k j = pc' k j) (hwo : ∀ k j, wo k j = wo' k j) (d : Fin 1024) :
    Cert.Row.merged x g oa ob oc wg b pa pb pc wo d = Cert.Row.merged x' g' oa' ob' oc' wg' b' pa' pb' pc' wo' d := by
  obtain rfl : x = x' := funext hx
  obtain rfl : g = g' := funext hg
  obtain rfl : oa = oa' := funext hoa
  obtain rfl : ob = ob' := funext hob
  obtain rfl : oc = oc' := funext hoc
  obtain rfl : wg = wg' := funext fun k => funext (hwg k)
  obtain rfl : b = b' := funext hb
  obtain rfl : pa = pa' := funext fun k => funext (hpa k)
  obtain rfl : pb = pb' := funext fun k => funext (hpb k)
  obtain rfl : pc = pc' := funext fun k => funext (hpc k)
  obtain rfl : wo = wo' := funext fun k => funext (hwo k)
  rfl

/-- What a point leaves in its block is the layer there. -/
theorem point_at (m : (ℓ : Loc nD τ sig) → Buf (Elt Ideal) ℓ) (c : Dev nD) (t : Fin cfg0.N) (r : Fin 512) (d : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 (⟨512 * t.val + r.val, by have := lt64 t; omega⟩ : Fin 32768) d) :=
  (out_at _ _ _ _ _ _ _ _ _ _ _ r d).trans (merged_congr (fun k => blk0_at m c t r k) (fun k => blk1_at m c t 0 k) (fun k => blk2_at m c t r k) (fun k => blk3_at m c t r k) (fun k => blk4_at m c t r k)
    (fun k j => blk5_at m c t k j) (fun k => blk6_at m c t 0 k) (fun k j => blk7_at m c t k j) (fun k j => blk8_at m c t k j) (fun k j => blk9_at m c t k j) (fun k j => blk10_at m c t k j) d)

end Cert.Kernel4Ideal.Gen

end
-- ==== Proof.Rest.Arr4.lean ====
/- The merge layer's result array. -/
module

public import proofs.«01_k».proof.Proof.Rest.Blk4

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-- The result array a run ends with. -/
theorem array11 (m : (ℓ : Loc nD τ sig) → Buf (Elt Ideal) ℓ) (c : Dev nD) : (dats m 0 c).arrAt 11 cfg0.N
    = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine Pipeline.Dat.arrAt_eq_of_covers (dat := dats m 0 c) 11 _ covers11 fun t hf y => ?_
  have hN := lt64 t
  rw [after0_11]
  obtain ⟨r, d, rfl⟩ : ∃ (r : Fin 512) (d : Fin 1024), y = ix2 r d := ⟨y 0, y 1, by funext i; match i with | ⟨0, _⟩ => rfl | ⟨1, _⟩ => rfl⟩
  have e0 : ((((cfg0.win 11).blk t).view.emb (ix2 r d)) 0 : ℕ) = 512 * t.val + r.val := by
    blk_simp [idx11_0 t]
    omega
  have e1 : ((((cfg0.win 11).blk t).view.emb (ix2 r d)) 1 : ℕ) = d.val := by
    blk_simp [idx11_1 t]
  refine Eq.trans ?_ (Cert.Row.at_pos (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (⟨512 * t.val + r.val, by omega⟩ : Fin 32768) d _ e0 e1).symm
  have h := point_at m c t r d
  generalize out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) = u at h ⊢
  exact h

end Cert.Kernel4Ideal.Gen

end
-- ==== Proof.Rest.Claims4.lean ====
/- The merge layer's claims. -/
module

public import proofs.«01_k».proof.Defs
public import proofs.«01_k».proof.Proof.Gen.Kernel4.Frame
public import proofs.«01_k».proof.Proof.Rest.Ref4
public import proofs.«01_k».proof.Proof.Rest.Arr4
public import Idealize.ShloMosaic.Lib.Quiescent

@[expose] public section

set_option maxRecDepth 16384

noncomputable section

namespace Cert.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-- The plain layer is the layer the blocks make. -/
theorem plain0_eq (x : FVec Ideal ⟨2, ![32768, 1024]⟩ .f32) (g : FVec Ideal ⟨2, ![1, 1024]⟩ .f32) (oa ob oc : FVec Ideal ⟨2, ![32768, 512]⟩ .bf16) (wg : FVec Ideal ⟨2, ![1024, 3072]⟩ .bf16) (b : FVec Ideal ⟨2, ![1, 3072]⟩ .f32) (pa pb pc : FVec Ideal ⟨2, ![512, 1024]⟩ .bf16) (wo : FVec Ideal ⟨2, ![1024, 1024]⟩ .bf16) : Cert.Reference4Ideal.Value.plain x g oa ob oc wg b pa pb pc wo = Cert.Kernel4Ideal.Gen.layer x g oa ob oc wg b pa pb pc wo := by
  funext y
  obtain ⟨r, d, rfl⟩ : ∃ (r : Fin 32768) (d : Fin 1024), y = ix2 r d := ⟨y 0, y 1, by funext i; match i with | ⟨0, _⟩ => rfl | ⟨1, _⟩ => rfl⟩
  exact Cert.Reference4Ideal.Value.plain_at x g oa ob oc wg b pa pb pc wo r d

/-- The reference's result, from memories that agree on the arguments. -/
theorem res0_eq (m' : (ℓ : Loc Cert.Reference4Ideal.nD Cert.Reference4Ideal.τ Cert.Reference4Ideal.sig) → Buf (Elt Ideal) ℓ) (m : (ℓ : Loc Cert.Kernel4Ideal.nD Cert.Kernel4Ideal.τ Cert.Kernel4Ideal.sig) → Buf (Elt Ideal) ℓ)
    (ha : (m' (((0 : Dev Cert.Kernel4Ideal.nD).tc : Thread Cert.Reference4Ideal.nD Cert.Reference4Ideal.τ).loc Cert.Reference4Ideal.main_arg0) = m (((0 : Dev Cert.Kernel4Ideal.nD).tc : Thread Cert.Kernel4Ideal.nD Cert.Kernel4Ideal.τ).loc Cert.Kernel4Ideal.main_arg0)
      ∧ m' (((0 : Dev Cert.Kernel4Ideal.nD).tc : Thread Cert.Reference4Ideal.nD Cert.Reference4Ideal.τ).loc Cert.Reference4Ideal.main_arg1) = m (((0 : Dev Cert.Kernel4Ideal.nD).tc : Thread Cert.Kernel4Ideal.nD Cert.Kernel4Ideal.τ).loc Cert.Kernel4Ideal.main_arg1)
      ∧ m' (((0 : Dev Cert.Kernel4Ideal.nD).tc : Thread Cert.Reference4Ideal.nD Cert.Reference4Ideal.τ).loc Cert.Reference4Ideal.main_arg2) = m (((0 : Dev Cert.Kernel4Ideal.nD).tc : Thread Cert.Kernel4Ideal.nD Cert.Kernel4Ideal.τ).loc Cert.Kernel4Ideal.main_arg2)
      ∧ m' (((0 : Dev Cert.Kernel4Ideal.nD).tc : Thread Cert.Reference4Ideal.nD Cert.Reference4Ideal.τ).loc Cert.Reference4Ideal.main_arg3) = m (((0 : Dev Cert.Kernel4Ideal.nD).tc : Thread Cert.Kernel4Ideal.nD Cert.Kernel4Ideal.τ).loc Cert.Kernel4Ideal.main_arg3)
      ∧ m' (((0 : Dev Cert.Kernel4Ideal.nD).tc : Thread Cert.Reference4Ideal.nD Cert.Reference4Ideal.τ).loc Cert.Reference4Ideal.main_arg4) = m (((0 : Dev Cert.Kernel4Ideal.nD).tc : Thread Cert.Kernel4Ideal.nD Cert.Kernel4Ideal.τ).loc Cert.Kernel4Ideal.main_arg4)
      ∧ m' (((0 : Dev Cert.Kernel4Ideal.nD).tc : Thread Cert.Reference4Ideal.nD Cert.Reference4Ideal.τ).loc Cert.Reference4Ideal.main_arg5) = m (((0 : Dev Cert.Kernel4Ideal.nD).tc : Thread Cert.Kernel4Ideal.nD Cert.Kernel4Ideal.τ).loc Cert.Kernel4Ideal.main_arg5)
      ∧ m' (((0 : Dev Cert.Kernel4Ideal.nD).tc : Thread Cert.Reference4Ideal.nD Cert.Reference4Ideal.τ).loc Cert.Reference4Ideal.main_arg6) = m (((0 : Dev Cert.Kernel4Ideal.nD).tc : Thread Cert.Kernel4Ideal.nD Cert.Kernel4Ideal.τ).loc Cert.Kernel4Ideal.main_arg6)
      ∧ m' (((0 : Dev Cert.Kernel4Ideal.nD).tc : Thread Cert.Reference4Ideal.nD Cert.Reference4Ideal.τ).loc Cert.Reference4Ideal.main_arg7) = m (((0 : Dev Cert.Kernel4Ideal.nD).tc : Thread Cert.Kernel4Ideal.nD Cert.Kernel4Ideal.τ).loc Cert.Kernel4Ideal.main_arg7)
      ∧ m' (((0 : Dev Cert.Kernel4Ideal.nD).tc : Thread Cert.Reference4Ideal.nD Cert.Reference4Ideal.τ).loc Cert.Reference4Ideal.main_arg8) = m (((0 : Dev Cert.Kernel4Ideal.nD).tc : Thread Cert.Kernel4Ideal.nD Cert.Kernel4Ideal.τ).loc Cert.Kernel4Ideal.main_arg8)
      ∧ m' (((0 : Dev Cert.Kernel4Ideal.nD).tc : Thread Cert.Reference4Ideal.nD Cert.Reference4Ideal.τ).loc Cert.Reference4Ideal.main_arg9) = m (((0 : Dev Cert.Kernel4Ideal.nD).tc : Thread Cert.Kernel4Ideal.nD Cert.Kernel4Ideal.τ).loc Cert.Kernel4Ideal.main_arg9)
      ∧ m' (((0 : Dev Cert.Kernel4Ideal.nD).tc : Thread Cert.Reference4Ideal.nD Cert.Reference4Ideal.τ).loc Cert.Reference4Ideal.main_arg10) = m (((0 : Dev Cert.Kernel4Ideal.nD).tc : Thread Cert.Kernel4Ideal.nD Cert.Kernel4Ideal.τ).loc Cert.Kernel4Ideal.main_arg10))) :
    Cert.Reference4Ideal.Value.res_main_v41 m' 0 = Cert.Kernel4Ideal.Gen.layer (m (((0 : Dev Cert.Kernel4Ideal.nD).tc : Thread Cert.Kernel4Ideal.nD Cert.Kernel4Ideal.τ).loc Cert.Kernel4Ideal.main_arg0)) (m (((0 : Dev Cert.Kernel4Ideal.nD).tc : Thread Cert.Kernel4Ideal.nD Cert.Kernel4Ideal.τ).loc Cert.Kernel4Ideal.main_arg1)) (m (((0 : Dev Cert.Kernel4Ideal.nD).tc : Thread Cert.Kernel4Ideal.nD Cert.Kernel4Ideal.τ).loc Cert.Kernel4Ideal.main_arg2)) (m (((0 : Dev Cert.Kernel4Ideal.nD).tc : Thread Cert.Kernel4Ideal.nD Cert.Kernel4Ideal.τ).loc Cert.Kernel4Ideal.main_arg3)) (m (((0 : Dev Cert.Kernel4Ideal.nD).tc : Thread Cert.Kernel4Ideal.nD Cert.Kernel4Ideal.τ).loc Cert.Kernel4Ideal.main_arg4)) (m (((0 : Dev Cert.Kernel4Ideal.nD).tc : Thread Cert.Kernel4Ideal.nD Cert.Kernel4Ideal.τ).loc Cert.Kernel4Ideal.main_arg5)) (m (((0 : Dev Cert.Kernel4Ideal.nD).tc : Thread Cert.Kernel4Ideal.nD Cert.Kernel4Ideal.τ).loc Cert.Kernel4Ideal.main_arg6)) (m (((0 : Dev Cert.Kernel4Ideal.nD).tc : Thread Cert.Kernel4Ideal.nD Cert.Kernel4Ideal.τ).loc Cert.Kernel4Ideal.main_arg7)) (m (((0 : Dev Cert.Kernel4Ideal.nD).tc : Thread Cert.Kernel4Ideal.nD Cert.Kernel4Ideal.τ).loc Cert.Kernel4Ideal.main_arg8)) (m (((0 : Dev Cert.Kernel4Ideal.nD).tc : Thread Cert.Kernel4Ideal.nD Cert.Kernel4Ideal.τ).loc Cert.Kernel4Ideal.main_arg9)) (m (((0 : Dev Cert.Kernel4Ideal.nD).tc : Thread Cert.Kernel4Ideal.nD Cert.Kernel4Ideal.τ).loc Cert.Kernel4Ideal.main_arg10)) := by
  refine Eq.trans (b := Cert.Reference4Ideal.Value.plain (m' (((0 : Dev Cert.Reference4Ideal.nD).tc : Thread Cert.Reference4Ideal.nD Cert.Reference4Ideal.τ).loc Cert.Reference4Ideal.main_arg0)) (m' (((0 : Dev Cert.Reference4Ideal.nD).tc : Thread Cert.Reference4Ideal.nD Cert.Reference4Ideal.τ).loc Cert.Reference4Ideal.main_arg1)) (m' (((0 : Dev Cert.Reference4Ideal.nD).tc : Thread Cert.Reference4Ideal.nD Cert.Reference4Ideal.τ).loc Cert.Reference4Ideal.main_arg2)) (m' (((0 : Dev Cert.Reference4Ideal.nD).tc : Thread Cert.Reference4Ideal.nD Cert.Reference4Ideal.τ).loc Cert.Reference4Ideal.main_arg3)) (m' (((0 : Dev Cert.Reference4Ideal.nD).tc : Thread Cert.Reference4Ideal.nD Cert.Reference4Ideal.τ).loc Cert.Reference4Ideal.main_arg4)) (m' (((0 : Dev Cert.Reference4Ideal.nD).tc : Thread Cert.Reference4Ideal.nD Cert.Reference4Ideal.τ).loc Cert.Reference4Ideal.main_arg5)) (m' (((0 : Dev Cert.Reference4Ideal.nD).tc : Thread Cert.Reference4Ideal.nD Cert.Reference4Ideal.τ).loc Cert.Reference4Ideal.main_arg6)) (m' (((0 : Dev Cert.Reference4Ideal.nD).tc : Thread Cert.Reference4Ideal.nD Cert.Reference4Ideal.τ).loc Cert.Reference4Ideal.main_arg7)) (m' (((0 : Dev Cert.Reference4Ideal.nD).tc : Thread Cert.Reference4Ideal.nD Cert.Reference4Ideal.τ).loc Cert.Reference4Ideal.main_arg8)) (m' (((0 : Dev Cert.Reference4Ideal.nD).tc : Thread Cert.Reference4Ideal.nD Cert.Reference4Ideal.τ).loc Cert.Reference4Ideal.main_arg9)) (m' (((0 : Dev Cert.Reference4Ideal.nD).tc : Thread Cert.Reference4Ideal.nD Cert.Reference4Ideal.τ).loc Cert.Reference4Ideal.main_arg10))) rfl ?_
  rw [ha.1, ha.2.1, ha.2.2.1, ha.2.2.2.1, ha.2.2.2.2.1, ha.2.2.2.2.2.1, ha.2.2.2.2.2.2.1, ha.2.2.2.2.2.2.2.1, ha.2.2.2.2.2.2.2.2.1, ha.2.2.2.2.2.2.2.2.2.1, ha.2.2.2.2.2.2.2.2.2.2]
  exact plain0_eq _ _ _ _ _ _ _ _ _ _ _

theorem frame_plain : Cert.quiescent_Kernel4 := fun m g _ => Cert.Kernel4.Gen.frame (F := Bits) m g
theorem frame_ideal : Cert.quiescent_Kernel4Ideal := fun m g _ => Cert.Kernel4Ideal.Gen.frame (F := Ideal) m g
theorem frame_reference : Cert.quiescent_Reference4Ideal := fun m g _ =>
  (θ_run _ _ _).mono (fun r h => ⟨fun c => (h c).2, sem_eq_zero_of_no_sems (by decide) _⟩) (Cert.Reference4Ideal.Value.run (F := Ideal) m g)
theorem kept : Cert.preserves_Kernel4_Kernel4Ideal := trivial

theorem same_value : Cert.algebraic_Kernel4Ideal_Reference4Ideal := by
  intro m g m' g' _ ha
  refine ⟨fun c => (Cert.Kernel4Ideal.Gen.dats m 0 c).arrAt 11 Cert.Kernel4Ideal.cfg0.N,
    (θ_run _ _ _).mono (fun r hr c => hr c) (Cert.Kernel4Ideal.Value.run_blocks (F := Ideal) m g),
    (θ_run _ _ _).mono (fun r hr c => ⟨(hr c).1.trans ?_, (hr c).2⟩) (Cert.Reference4Ideal.Value.run (F := Ideal) m' g')⟩
  obtain rfl : c = 0 := Subsingleton.elim _ _
  exact (res0_eq m' m (ha 0)).trans (Cert.Kernel4Ideal.Gen.array11 m 0).symm

end Cert.Merge

end
-- ==== Proof.Rest.Ref5.lean ====
/- The plain projections, read at a row and a column. -/
module

public import proofs.«01_k».proof.Proof.Gen.Reference5Ideal.Run
public import proofs.«01_k».proof.Proof.Rest.Norm

@[expose] public section

set_option maxRecDepth 16384

noncomputable section

namespace Cert.Reference5Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Reference5Ideal Cert.Reference5Ideal.Gen Idealize.ShloMosaic.StableHlo

variable (x : FVec Ideal S32768x1024 .f32) (g : FVec Ideal S1x1024 .f32) (wb : FVec Ideal S1024x4608 .bf16) (ws : FVec Ideal S1024x128 .bf16)

/-- The rows divided by their root mean square, times the weights. -/
def scaled : FVec Ideal S32768x1024 .f32 := (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g))
theorem scaled_at (r : Fin 32768) (k : Fin 1024) : scaled x g (ix2 r k) = Cert.Row.rms (fun j => x (ix2 r j)) (fun j => g (ix2 0 j)) k := by
  unfold scaled
  pointwise
  rfl
/-- The columns from 0. -/
def plain0 : FVec Ideal S32768x1536 .bf16 := extractStridedSlice S32768x1536 ![0, 0] (truncf .bf16 (Host.dotGeneral dot_S32768x1024_S1024x4608_S32768x4608_1_0_0_1_n_n none (scaled x g) (extf .f32 wb bitsLt_bf16_f32)) bitsLt_bf16_f32) slices_S32768x4608_S32768x1536_0_0
theorem plain0_at (r : Fin 32768) (d : Fin 1536) : plain0 x g wb (ix2 r d)
    = Cert.Row.proj (fun j => x (ix2 r j)) (fun j => g (ix2 0 j)) (fun k f => wb (ix2 k f)) (⟨0 + d.val, by omega⟩ : Fin 4608) := by
  unfold plain0
  pointwise
  exact Finset.sum_congr rfl fun k _ => congrArg₂ (· * ·) (scaled_at x g r k) rfl
/-- The columns from 1536. -/
def plain1 : FVec Ideal S32768x1536 .bf16 := extractStridedSlice S32768x1536 ![0, 1536] (truncf .bf16 (Host.dotGeneral dot_S32768x1024_S1024x4608_S32768x4608_1_0_0_1_n_n none (scaled x g) (extf .f32 wb bitsLt_bf16_f32)) bitsLt_bf16_f32) slices_S32768x4608_S32768x1536_0_1536
theorem plain1_at (r : Fin 32768) (d : Fin 1536) : plain1 x g wb (ix2 r d)
    = Cert.Row.proj (fun j => x (ix2 r j)) (fun j => g (ix2 0 j)) (fun k f => wb (ix2 k f)) (⟨1536 + d.val, by omega⟩ : Fin 4608) := by
  unfold plain1
  pointwise
  exact Finset.sum_congr rfl fun k _ => congrArg₂ (· * ·) (scaled_at x g r k) rfl
/-- The columns from 3072. -/
def plain2 : FVec Ideal S32768x1536 .bf16 := extractStridedSlice S32768x1536 ![0, 3072] (truncf .bf16 (Host.dotGeneral dot_S32768x1024_S1024x4608_S32768x4608_1_0_0_1_n_n none (scaled x g) (extf .f32 wb bitsLt_bf16_f32)) bitsLt_bf16_f32) slices_S32768x4608_S32768x1536_0_3072
theorem plain2_at (r : Fin 32768) (d : Fin 1536) : plain2 x g wb (ix2 r d)
    = Cert.Row.proj (fun j => x (ix2 r j)) (fun j => g (ix2 0 j)) (fun k f => wb (ix2 k f)) (⟨3072 + d.val, by omega⟩ : Fin 4608) := by
  unfold plain2
  pointwise
  exact Finset.sum_congr rfl fun k _ => congrArg₂ (· * ·) (scaled_at x g r k) rfl
/-- The last projection. -/
def plain3 : FVec Ideal S32768x128 .f32 := Host.dotGeneral dot_S32768x1024_S1024x128_S32768x128_1_0_0_1_n_n none (scaled x g) (extf .f32 ws bitsLt_bf16_f32)
theorem plain3_at (r : Fin 32768) (d : Fin 128) : plain3 x g ws (ix2 r d)
    = Cert.Row.proj (fun j => x (ix2 r j)) (fun j => g (ix2 0 j)) (fun k f => ws (ix2 k f)) d := by
  unfold plain3
  pointwise
  exact Finset.sum_congr rfl fun k _ => congrArg (· * _) (scaled_at x g r k)

end Cert.Reference5Ideal.Value

end
-- ==== Proof.Rest.Blk5.lean ====
/- The projections: their blocks, read at a position. -/
module

public import proofs.«01_k».proof.Proof.Gen.Kernel5Ideal.Value
public import proofs.«01_k».proof.Proof.Rest.Norm
public import proofs.«01_k».proof.Proof.Rest.Loads
public import Idealize.ShloMosaic.Lib.Pipeline.Covers
public import Idealize.ShloMosaic.Lib.Pipeline.ValueKit

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-- The scaled rows of a block. -/
theorem norm_at (x : Vec Ideal S512x1024 .f32) (g : Vec Ideal S1x1024 .f32) (r : Fin 512) (k : Fin 1024) :
    k0_pay1 x g (ix2 r k) = Cert.Row.rms (fun j => x (ix2 r j)) (fun j => g (ix2 0 j)) k := by
  unfold k0_pay1
  pointwise
  rfl

/-- A piece of 512 columns of a block's result. -/
theorem pay_at (x : Vec Ideal S512x1024 .f32) (g : Vec Ideal S1x1024 .f32) (w : Vec Ideal S1024x512 .bf16) (r j : Fin 512) :
    k0_pay2 x g w (ix2 r j) = ∑ k, k0_pay1 x g (ix2 r k) * w (ix2 k j) := by
  unfold k0_pay2
  pointwise

/-- A piece, its matrix the columns from `o` on. -/
theorem piece_at (x : Vec Ideal S512x1024 .f32) (g : Vec Ideal S1x1024 .f32) (w : Vec Ideal S1024x4608 .bf16) (o : ℕ) (h) (r j : Fin 512) (c : Fin 4608) (hc : c.val = o + j.val) :
    k0_pay2 x g (View.ld w (Rect.unit (s := S1024x4608) ![0, o] S1024x512.size h)) (ix2 r j)
      = Cert.Row.proj (fun k => x (ix2 r k)) (fun k => g (ix2 0 k)) (fun k c => w (ix2 k c)) c := by
  refine (pay_at _ _ _ r j).trans (Finset.sum_congr rfl fun k _ => congrArg₂ (· * ·) (norm_at x g r k) ?_)
  refine (Cert.Row.ld_at w h k j (by omega) (by omega)).trans (congrArg₂ (fun a b => w (ix2 a b)) (Fin.ext (Nat.zero_add _)) (Fin.ext hc.symm))

/-- Three pieces side by side. -/
theorem pieces_at (p0 p1 p2 : Vec Ideal S512x512 .bf16) (v : Fin 512 → Fin 1536 → EReal)
    (h0 : ∀ (r j : Fin 512) (d : Fin 1536), d.val = 0 + j.val → p0 (ix2 r j) = v r d) (h1 : ∀ (r j : Fin 512) (d : Fin 1536), d.val = 512 + j.val → p1 (ix2 r j) = v r d)
    (h2 : ∀ (r j : Fin 512) (d : Fin 1536), d.val = 1024 + j.val → p2 (ix2 r j) = v r d) (r : Fin 512) (d : Fin 1536) :
    View.canon [(⟨r0_7, p2⟩ : View.Piece (Elt Ideal) S512x1536 .bf16), ⟨r0_5, p1⟩, ⟨r0_3, p0⟩] (ix2 r d) = v r d := by
  have key : ∀ (p : Vec Ideal S512x512 .bf16) (o : ℕ), (∀ (r j : Fin 512) (d : Fin 1536), d.val = o + j.val → p (ix2 r j) = v r d) →
      View.TileAt (S := S512x1536) (ix2 r d) ![0, o] S512x512.size p (v r d) := by
    intro p o hp x hx
    obtain ⟨a, b, rfl⟩ : ∃ (a b : Fin 512), x = ix2 a b := ⟨x 0, x 1, by funext i; match i with | ⟨0, _⟩ => rfl | ⟨1, _⟩ => rfl⟩
    have e : r = a := Fin.ext ((hx 0).trans (Nat.zero_add _))
    rw [e]
    exact hp a b d (hx 1)
  exact View.canon_eq_of_allAt _ _ _ (cover0_4 p2 p1 p0 _) (View.allAt_cons_unit _ _ _ _ _ (key p2 1024 h2) (View.allAt_cons_unit _ _ _ _ _ (key p1 512 h1) (View.allAt_cons_unit _ _ _ _ _ (key p0 0 h0) (View.allAt_nil _ _))))

variable (x0 : Vec Ideal S512x1024 .f32) (x1 : Vec Ideal S1x1024 .f32) (x2 : Vec Ideal S1024x4608 .bf16) (x3 : Vec Ideal S1024x128 .bf16)

theorem out4_at (r : Fin 512) (d : Fin 1536) : out0_4 x0 x1 x2 x3 (ix2 r d)
    = Cert.Row.proj (fun k => x0 (ix2 r k)) (fun k => x1 (ix2 0 k)) (fun k c => x2 (ix2 k c)) ⟨0 + d.val, by omega⟩ := by
  unfold_out out0_4
  rw [show View.ld x0 r0_0 = x0 from Cert.Row.ld_all x0 _, show View.ld x1 r0_1 = x1 from Cert.Row.ld_all x1 _]
  exact pieces_at _ _ _ (fun r d => Cert.Row.proj (fun k => x0 (ix2 r k)) (fun k => x1 (ix2 0 k)) (fun k c => x2 (ix2 k c)) ⟨0 + d.val, by omega⟩)
    (fun r j d hd => piece_at x0 x1 x2 0 _ r j _ (by show 0 + d.val = _; omega)) (fun r j d hd => piece_at x0 x1 x2 512 _ r j _ (by show 0 + d.val = _; omega))
    (fun r j d hd => piece_at x0 x1 x2 1024 _ r j _ (by show 0 + d.val = _; omega)) r d

theorem out5_at (r : Fin 512) (d : Fin 1536) : out0_5 x0 x1 x2 x3 (ix2 r d)
    = Cert.Row.proj (fun k => x0 (ix2 r k)) (fun k => x1 (ix2 0 k)) (fun k c => x2 (ix2 k c)) ⟨1536 + d.val, by omega⟩ := by
  unfold_out out0_5
  rw [show View.ld x0 r0_0 = x0 from Cert.Row.ld_all x0 _, show View.ld x1 r0_1 = x1 from Cert.Row.ld_all x1 _]
  exact pieces_at _ _ _ (fun r d => Cert.Row.proj (fun k => x0 (ix2 r k)) (fun k => x1 (ix2 0 k)) (fun k c => x2 (ix2 k c)) ⟨1536 + d.val, by omega⟩)
    (fun r j d hd => piece_at x0 x1 x2 1536 _ r j _ (by show 1536 + d.val = _; omega)) (fun r j d hd => piece_at x0 x1 x2 2048 _ r j _ (by show 1536 + d.val = _; omega))
    (fun r j d hd => piece_at x0 x1 x2 2560 _ r j _ (by show 1536 + d.val = _; omega)) r d

theorem out6_at (r : Fin 512) (d : Fin 1536) : out0_6 x0 x1 x2 x3 (ix2 r d)
    = Cert.Row.proj (fun k => x0 (ix2 r k)) (fun k => x1 (ix2 0 k)) (fun k c => x2 (ix2 k c)) ⟨3072 + d.val, by omega⟩ := by
  unfold_out out0_6
  rw [show View.ld x0 r0_0 = x0 from Cert.Row.ld_all x0 _, show View.ld x1 r0_1 = x1 from Cert.Row.ld_all x1 _]
  exact pieces_at _ _ _ (fun r d => Cert.Row.proj (fun k => x0 (ix2 r k)) (fun k => x1 (ix2 0 k)) (fun k c => x2 (ix2 k c)) ⟨3072 + d.val, by omega⟩)
    (fun r j d hd => piece_at x0 x1 x2 3072 _ r j _ (by show 3072 + d.val = _; omega)) (fun r j d hd => piece_at x0 x1 x2 3584 _ r j _ (by show 3072 + d.val = _; omega))
    (fun r j d hd => piece_at x0 x1 x2 4096 _ r j _ (by show 3072 + d.val = _; omega)) r d

theorem pay11_at (h : FVec Ideal S512x1024 .bf16) (w : Vec Ideal S1024x128 .bf16) (r : Fin 512) (j : Fin 128) :
    k0_pay11 h w (ix2 r j) = ∑ k, h (ix2 r k) * w (ix2 k j) := by
  unfold k0_pay11
  pointwise

theorem out7_at (r : Fin 512) (d : Fin 128) : out0_7 x0 x1 x2 x3 (ix2 r d)
    = Cert.Row.proj (fun k => x0 (ix2 r k)) (fun k => x1 (ix2 0 k)) (fun k c => x3 (ix2 k c)) d := by
  unfold_out out0_7
  rw [show View.ld x0 r0_0 = x0 from Cert.Row.ld_all x0 _, show View.ld x1 r0_1 = x1 from Cert.Row.ld_all x1 _, show View.ld x3 r0_14 = x3 from Cert.Row.ld_all x3 _]
  refine (congrFun (Cert.Row.st_all _ _) _).trans ((pay11_at _ _ r d).trans (Finset.sum_congr rfl fun k _ => congrArg (· * _) (norm_at x0 x1 r k)))

theorem idx0_0 : ∀ t : Fin grid0.N, win0_0.index t 0 = t.val := by decide +kernel
theorem idx0_1 : ∀ t : Fin grid0.N, win0_0.index t 1 = 0 := by decide +kernel
theorem idx1_0 : ∀ t : Fin grid0.N, win0_1.index t 0 = 0 := by decide +kernel
theorem idx1_1 : ∀ t : Fin grid0.N, win0_1.index t 1 = 0 := by decide +kernel
theorem idx2_0 : ∀ t : Fin grid0.N, win0_2.index t 0 = 0 := by decide +kernel
theorem idx2_1 : ∀ t : Fin grid0.N, win0_2.index t 1 = 0 := by decide +kernel
theorem idx3_0 : ∀ t : Fin grid0.N, win0_3.index t 0 = 0 := by decide +kernel
theorem idx3_1 : ∀ t : Fin grid0.N, win0_3.index t 1 = 0 := by decide +kernel
theorem idx4_0 : ∀ t : Fin grid0.N, win0_4.index t 0 = t.val := by decide +kernel
theorem idx4_1 : ∀ t : Fin grid0.N, win0_4.index t 1 = 0 := by decide +kernel
theorem idx5_0 : ∀ t : Fin grid0.N, win0_5.index t 0 = t.val := by decide +kernel
theorem idx5_1 : ∀ t : Fin grid0.N, win0_5.index t 1 = 0 := by decide +kernel
theorem idx6_0 : ∀ t : Fin grid0.N, win0_6.index t 0 = t.val := by decide +kernel
theorem idx6_1 : ∀ t : Fin grid0.N, win0_6.index t 1 = 0 := by decide +kernel
theorem idx7_0 : ∀ t : Fin grid0.N, win0_7.index t 0 = t.val := by decide +kernel
theorem idx7_1 : ∀ t : Fin grid0.N, win0_7.index t 1 = 0 := by decide +kernel
theorem covers4 : (cfg0.win 4).Covers := by decide +kernel
theorem covers5 : (cfg0.win 5).Covers := by decide +kernel
theorem covers6 : (cfg0.win 6).Covers := by decide +kernel
theorem covers7 : (cfg0.win 7).Covers := by decide +kernel
theorem lt64 (t : Fin cfg0.N) : t.val < 64 := lt_of_lt_of_eq t.isLt (by decide)

section
variable (m : (ℓ : Loc nD τ sig) → Buf (Elt Ideal) ℓ) (c : Dev nD) (t : Fin cfg0.N)
theorem blk0_at (r : Fin 512) (k : Fin 1024) : (iblk m c 0 t : Vec Ideal S512x1024 .f32) (ix2 r k) = (m ((c.tc : Thread nD τ).loc main_arg0) : Vec Ideal S32768x1024 .f32) (ix2 ⟨512 * t.val + r.val, by have := lt64 t; omega⟩ k) := by
  blk_ext [iblk, V, idx0_0, idx0_1]
theorem blk1_at (r : Fin 1) (k : Fin 1024) : (iblk m c 1 t : Vec Ideal S1x1024 .f32) (ix2 r k) = (m ((c.tc : Thread nD τ).loc main_arg1) : Vec Ideal S1x1024 .f32) (ix2 r k) := by
  blk_ext [iblk, V, idx1_0, idx1_1]
theorem blk2_at (r : Fin 1024) (k : Fin 4608) : (iblk m c 2 t : Vec Ideal S1024x4608 .bf16) (ix2 r k) = (m ((c.tc : Thread nD τ).loc main_arg2) : Vec Ideal S1024x4608 .bf16) (ix2 r k) := by
  blk_ext [iblk, V, idx2_0, idx2_1]
theorem blk3_at (r : Fin 1024) (k : Fin 128) : (iblk m c 3 t : Vec Ideal S1024x128 .bf16) (ix2 r k) = (m ((c.tc : Thread nD τ).loc main_arg3) : Vec Ideal S1024x128 .bf16) (ix2 r k) := by
  blk_ext [iblk, V, idx3_0, idx3_1]
end

/-- 1536 columns of the scaled rows times the large matrix, from column `o`. -/
def part (o : ℕ) (ho : o + 1536 ≤ 4608) (x : Vec Ideal S32768x1024 .f32) (g : Vec Ideal S1x1024 .f32) (w : Vec Ideal S1024x4608 .bf16) : Vec Ideal S32768x1536 .bf16 := fun y =>
  Cert.Row.proj (fun k => x (ix2 (y 0 : Fin 32768) k)) (fun k => g (ix2 0 k)) (fun k c => w (ix2 k c)) ⟨o + (y 1).val, by have h : (y 1).val < 1536 := (y 1).isLt; omega⟩

/-- The scaled rows times the small matrix. -/
def small (x : Vec Ideal S32768x1024 .f32) (g : Vec Ideal S1x1024 .f32) (w : Vec Ideal S1024x128 .bf16) : Vec Ideal S32768x128 .f32 := fun y =>
  Cert.Row.proj (fun k => x (ix2 (y 0 : Fin 32768) k)) (fun k => g (ix2 0 k)) (fun k c => w (ix2 k c)) (y 1 : Fin 128)

end Cert.Kernel5Ideal.Gen

end
-- ==== Proof.Rest.Arr5.lean ====
/- The projections' result arrays. -/
module

public import proofs.«01_k».proof.Proof.Rest.Blk5

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-- The result array a run ends with. -/
theorem array4 (m : (ℓ : Loc nD τ sig) → Buf (Elt Ideal) ℓ) (c : Dev nD) : (dats m 0 c).arrAt 4 cfg0.N = part 0 (by decide) (m ((c.tc : Thread nD τ).loc main_arg0)) (m ((c.tc : Thread nD τ).loc main_arg1)) (m ((c.tc : Thread nD τ).loc main_arg2)) := by
  refine Pipeline.Dat.arrAt_eq_of_covers (dat := dats m 0 c) 4 _ covers4 fun t hf y => ?_
  have hN := lt64 t
  rw [after0_4]
  obtain ⟨r, d, rfl⟩ : ∃ (r : Fin 512) (d : Fin 1536), y = ix2 r d := ⟨y 0, y 1, by funext i; match i with | ⟨0, _⟩ => rfl | ⟨1, _⟩ => rfl⟩
  have e0 : ((((cfg0.win 4).blk t).view.emb (ix2 r d)) 0 : ℕ) = 512 * t.val + r.val := by
    blk_simp [idx4_0 t]
    omega
  have e1 : ((((cfg0.win 4).blk t).view.emb (ix2 r d)) 1 : ℕ) = d.val := by
    blk_simp [idx4_1 t]
  refine Eq.trans ?_ (Cert.Row.at_pos (part 0 (by decide) (m ((c.tc : Thread nD τ).loc main_arg0)) (m ((c.tc : Thread nD τ).loc main_arg1)) (m ((c.tc : Thread nD τ).loc main_arg2))) (⟨512 * t.val + r.val, by omega⟩ : Fin 32768) d _ e0 e1).symm
  have h : out0_4 (iblk m c 0 t) (iblk m c 1 t) (iblk m c 2 t) (iblk m c 3 t) (ix2 r d) = part 0 (by decide) (m ((c.tc : Thread nD τ).loc main_arg0)) (m ((c.tc : Thread nD τ).loc main_arg1)) (m ((c.tc : Thread nD τ).loc main_arg2)) (ix2 (⟨512 * t.val + r.val, by omega⟩ : Fin 32768) d) :=
    (out4_at _ _ _ _ r d).trans (Cert.Row.proj_congr (fun k => blk0_at m c t r k) (fun k => blk1_at m c t 0 k) (fun k j => blk2_at m c t k j) _)
  generalize out0_4 (iblk m c 0 t) (iblk m c 1 t) (iblk m c 2 t) (iblk m c 3 t) = u at h ⊢
  exact h

/-- The result array a run ends with. -/
theorem array5 (m : (ℓ : Loc nD τ sig) → Buf (Elt Ideal) ℓ) (c : Dev nD) : (dats m 0 c).arrAt 5 cfg0.N = part 1536 (by decide) (m ((c.tc : Thread nD τ).loc main_arg0)) (m ((c.tc : Thread nD τ).loc main_arg1)) (m ((c.tc : Thread nD τ).loc main_arg2)) := by
  refine Pipeline.Dat.arrAt_eq_of_covers (dat := dats m 0 c) 5 _ covers5 fun t hf y => ?_
  have hN := lt64 t
  rw [after0_5]
  obtain ⟨r, d, rfl⟩ : ∃ (r : Fin 512) (d : Fin 1536), y = ix2 r d := ⟨y 0, y 1, by funext i; match i with | ⟨0, _⟩ => rfl | ⟨1, _⟩ => rfl⟩
  have e0 : ((((cfg0.win 5).blk t).view.emb (ix2 r d)) 0 : ℕ) = 512 * t.val + r.val := by
    blk_simp [idx5_0 t]
    omega
  have e1 : ((((cfg0.win 5).blk t).view.emb (ix2 r d)) 1 : ℕ) = d.val := by
    blk_simp [idx5_1 t]
  refine Eq.trans ?_ (Cert.Row.at_pos (part 1536 (by decide) (m ((c.tc : Thread nD τ).loc main_arg0)) (m ((c.tc : Thread nD τ).loc main_arg1)) (m ((c.tc : Thread nD τ).loc main_arg2))) (⟨512 * t.val + r.val, by omega⟩ : Fin 32768) d _ e0 e1).symm
  have h : out0_5 (iblk m c 0 t) (iblk m c 1 t) (iblk m c 2 t) (iblk m c 3 t) (ix2 r d) = part 1536 (by decide) (m ((c.tc : Thread nD τ).loc main_arg0)) (m ((c.tc : Thread nD τ).loc main_arg1)) (m ((c.tc : Thread nD τ).loc main_arg2)) (ix2 (⟨512 * t.val + r.val, by omega⟩ : Fin 32768) d) :=
    (out5_at _ _ _ _ r d).trans (Cert.Row.proj_congr (fun k => blk0_at m c t r k) (fun k => blk1_at m c t 0 k) (fun k j => blk2_at m c t k j) _)
  generalize out0_5 (iblk m c 0 t) (iblk m c 1 t) (iblk m c 2 t) (iblk m c 3 t) = u at h ⊢
  exact h

/-- The result array a run ends with. -/
theorem array6 (m : (ℓ : Loc nD τ sig) → Buf (Elt Ideal) ℓ) (c : Dev nD) : (dats m 0 c).arrAt 6 cfg0.N = part 3072 (by decide) (m ((c.tc : Thread nD τ).loc main_arg0)) (m ((c.tc : Thread nD τ).loc main_arg1)) (m ((c.tc : Thread nD τ).loc main_arg2)) := by
  refine Pipeline.Dat.arrAt_eq_of_covers (dat := dats m 0 c) 6 _ covers6 fun t hf y => ?_
  have hN := lt64 t
  rw [after0_6]
  obtain ⟨r, d, rfl⟩ : ∃ (r : Fin 512) (d : Fin 1536), y = ix2 r d := ⟨y 0, y 1, by funext i; match i with | ⟨0, _⟩ => rfl | ⟨1, _⟩ => rfl⟩
  have e0 : ((((cfg0.win 6).blk t).view.emb (ix2 r d)) 0 : ℕ) = 512 * t.val + r.val := by
    blk_simp [idx6_0 t]
    omega
  have e1 : ((((cfg0.win 6).blk t).view.emb (ix2 r d)) 1 : ℕ) = d.val := by
    blk_simp [idx6_1 t]
  refine Eq.trans ?_ (Cert.Row.at_pos (part 3072 (by decide) (m ((c.tc : Thread nD τ).loc main_arg0)) (m ((c.tc : Thread nD τ).loc main_arg1)) (m ((c.tc : Thread nD τ).loc main_arg2))) (⟨512 * t.val + r.val, by omega⟩ : Fin 32768) d _ e0 e1).symm
  have h : out0_6 (iblk m c 0 t) (iblk m c 1 t) (iblk m c 2 t) (iblk m c 3 t) (ix2 r d) = part 3072 (by decide) (m ((c.tc : Thread nD τ).loc main_arg0)) (m ((c.tc : Thread nD τ).loc main_arg1)) (m ((c.tc : Thread nD τ).loc main_arg2)) (ix2 (⟨512 * t.val + r.val, by omega⟩ : Fin 32768) d) :=
    (out6_at _ _ _ _ r d).trans (Cert.Row.proj_congr (fun k => blk0_at m c t r k) (fun k => blk1_at m c t 0 k) (fun k j => blk2_at m c t k j) _)
  generalize out0_6 (iblk m c 0 t) (iblk m c 1 t) (iblk m c 2 t) (iblk m c 3 t) = u at h ⊢
  exact h

/-- The result array a run ends with. -/
theorem array7 (m : (ℓ : Loc nD τ sig) → Buf (Elt Ideal) ℓ) (c : Dev nD) : (dats m 0 c).arrAt 7 cfg0.N = small (m ((c.tc : Thread nD τ).loc main_arg0)) (m ((c.tc : Thread nD τ).loc main_arg1)) (m ((c.tc : Thread nD τ).loc main_arg3)) := by
  refine Pipeline.Dat.arrAt_eq_of_covers (dat := dats m 0 c) 7 _ covers7 fun t hf y => ?_
  have hN := lt64 t
  rw [after0_7]
  obtain ⟨r, d, rfl⟩ : ∃ (r : Fin 512) (d : Fin 128), y = ix2 r d := ⟨y 0, y 1, by funext i; match i with | ⟨0, _⟩ => rfl | ⟨1, _⟩ => rfl⟩
  have e0 : ((((cfg0.win 7).blk t).view.emb (ix2 r d)) 0 : ℕ) = 512 * t.val + r.val := by
    blk_simp [idx7_0 t]
    omega
  have e1 : ((((cfg0.win 7).blk t).view.emb (ix2 r d)) 1 : ℕ) = d.val := by
    blk_simp [idx7_1 t]
  refine Eq.trans ?_ (Cert.Row.at_pos (small (m ((c.tc : Thread nD τ).loc main_arg0)) (m ((c.tc : Thread nD τ).loc main_arg1)) (m ((c.tc : Thread nD τ).loc main_arg3))) (⟨512 * t.val + r.val, by omega⟩ : Fin 32768) d _ e0 e1).symm
  have h : out0_7 (iblk m c 0 t) (iblk m c 1 t) (iblk m c 2 t) (iblk m c 3 t) (ix2 r d) = small (m ((c.tc : Thread nD τ).loc main_arg0)) (m ((c.tc : Thread nD τ).loc main_arg1)) (m ((c.tc : Thread nD τ).loc main_arg3)) (ix2 (⟨512 * t.val + r.val, by omega⟩ : Fin 32768) d) :=
    (out7_at _ _ _ _ r d).trans (Cert.Row.proj_congr (fun k => blk0_at m c t r k) (fun k => blk1_at m c t 0 k) (fun k j => blk3_at m c t k j) _)
  generalize out0_7 (iblk m c 0 t) (iblk m c 1 t) (iblk m c 2 t) (iblk m c 3 t) = u at h ⊢
  exact h

end Cert.Kernel5Ideal.Gen

end
-- ==== Proof.Rest.Claims5.lean ====
/- The projections' claims. -/
module

public import proofs.«01_k».proof.Defs
public import proofs.«01_k».proof.Proof.Gen.Kernel5.Frame
public import proofs.«01_k».proof.Proof.Rest.Ref5
public import proofs.«01_k».proof.Proof.Rest.Arr5
public import Idealize.ShloMosaic.Lib.Quiescent

@[expose] public section

set_option maxRecDepth 16384

noncomputable section

namespace Cert.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-- The plain layer is the layer the blocks make. -/
theorem plain0_eq (x : FVec Ideal ⟨2, ![32768, 1024]⟩ .f32) (g : FVec Ideal ⟨2, ![1, 1024]⟩ .f32) (w : FVec Ideal ⟨2, ![1024, 4608]⟩ .bf16) : Cert.Reference5Ideal.Value.plain0 x g w = Cert.Kernel5Ideal.Gen.part 0 (by decide) x g w := by
  funext y
  obtain ⟨r, d, rfl⟩ : ∃ (r : Fin 32768) (d : Fin 1536), y = ix2 r d := ⟨y 0, y 1, by funext i; match i with | ⟨0, _⟩ => rfl | ⟨1, _⟩ => rfl⟩
  exact Cert.Reference5Ideal.Value.plain0_at x g w r d

/-- The reference's result, from memories that agree on the arguments. -/
theorem res0_eq (m' : (ℓ : Loc Cert.Reference5Ideal.nD Cert.Reference5Ideal.τ Cert.Reference5Ideal.sig) → Buf (Elt Ideal) ℓ) (m : (ℓ : Loc Cert.Kernel5Ideal.nD Cert.Kernel5Ideal.τ Cert.Kernel5Ideal.sig) → Buf (Elt Ideal) ℓ)
    (ha : (m' (((0 : Dev Cert.Kernel5Ideal.nD).tc : Thread Cert.Reference5Ideal.nD Cert.Reference5Ideal.τ).loc Cert.Reference5Ideal.main_arg0) = m (((0 : Dev Cert.Kernel5Ideal.nD).tc : Thread Cert.Kernel5Ideal.nD Cert.Kernel5Ideal.τ).loc Cert.Kernel5Ideal.main_arg0)
      ∧ m' (((0 : Dev Cert.Kernel5Ideal.nD).tc : Thread Cert.Reference5Ideal.nD Cert.Reference5Ideal.τ).loc Cert.Reference5Ideal.main_arg1) = m (((0 : Dev Cert.Kernel5Ideal.nD).tc : Thread Cert.Kernel5Ideal.nD Cert.Kernel5Ideal.τ).loc Cert.Kernel5Ideal.main_arg1)
      ∧ m' (((0 : Dev Cert.Kernel5Ideal.nD).tc : Thread Cert.Reference5Ideal.nD Cert.Reference5Ideal.τ).loc Cert.Reference5Ideal.main_arg2) = m (((0 : Dev Cert.Kernel5Ideal.nD).tc : Thread Cert.Kernel5Ideal.nD Cert.Kernel5Ideal.τ).loc Cert.Kernel5Ideal.main_arg2)
      ∧ m' (((0 : Dev Cert.Kernel5Ideal.nD).tc : Thread Cert.Reference5Ideal.nD Cert.Reference5Ideal.τ).loc Cert.Reference5Ideal.main_arg3) = m (((0 : Dev Cert.Kernel5Ideal.nD).tc : Thread Cert.Kernel5Ideal.nD Cert.Kernel5Ideal.τ).loc Cert.Kernel5Ideal.main_arg3))) :
    Cert.Reference5Ideal.Value.plain0 (m' (((0 : Dev Cert.Reference5Ideal.nD).tc : Thread Cert.Reference5Ideal.nD Cert.Reference5Ideal.τ).loc Cert.Reference5Ideal.main_arg0)) (m' (((0 : Dev Cert.Reference5Ideal.nD).tc : Thread Cert.Reference5Ideal.nD Cert.Reference5Ideal.τ).loc Cert.Reference5Ideal.main_arg1)) (m' (((0 : Dev Cert.Reference5Ideal.nD).tc : Thread Cert.Reference5Ideal.nD Cert.Reference5Ideal.τ).loc Cert.Reference5Ideal.main_arg2)) = Cert.Kernel5Ideal.Gen.part 0 (by decide) (m (((0 : Dev Cert.Kernel5Ideal.nD).tc : Thread Cert.Kernel5Ideal.nD Cert.Kernel5Ideal.τ).loc Cert.Kernel5Ideal.main_arg0)) (m (((0 : Dev Cert.Kernel5Ideal.nD).tc : Thread Cert.Kernel5Ideal.nD Cert.Kernel5Ideal.τ).loc Cert.Kernel5Ideal.main_arg1)) (m (((0 : Dev Cert.Kernel5Ideal.nD).tc : Thread Cert.Kernel5Ideal.nD Cert.Kernel5Ideal.τ).loc Cert.Kernel5Ideal.main_arg2)) := by
  refine Eq.trans (b := Cert.Reference5Ideal.Value.plain0 (m' (((0 : Dev Cert.Reference5Ideal.nD).tc : Thread Cert.Reference5Ideal.nD Cert.Reference5Ideal.τ).loc Cert.Reference5Ideal.main_arg0)) (m' (((0 : Dev Cert.Reference5Ideal.nD).tc : Thread Cert.Reference5Ideal.nD Cert.Reference5Ideal.τ).loc Cert.Reference5Ideal.main_arg1)) (m' (((0 : Dev Cert.Reference5Ideal.nD).tc : Thread Cert.Reference5Ideal.nD Cert.Reference5Ideal.τ).loc Cert.Reference5Ideal.main_arg2))) rfl ?_
  rw [ha.1, ha.2.1, ha.2.2.1]
  exact plain0_eq _ _ _

/-- The plain layer is the layer the blocks make. -/
theorem plain1_eq (x : FVec Ideal ⟨2, ![32768, 1024]⟩ .f32) (g : FVec Ideal ⟨2, ![1, 1024]⟩ .f32) (w : FVec Ideal ⟨2, ![1024, 4608]⟩ .bf16) : Cert.Reference5Ideal.Value.plain1 x g w = Cert.Kernel5Ideal.Gen.part 1536 (by decide) x g w := by
  funext y
  obtain ⟨r, d, rfl⟩ : ∃ (r : Fin 32768) (d : Fin 1536), y = ix2 r d := ⟨y 0, y 1, by funext i; match i with | ⟨0, _⟩ => rfl | ⟨1, _⟩ => rfl⟩
  exact Cert.Reference5Ideal.Value.plain1_at x g w r d

/-- The reference's result, from memories that agree on the arguments. -/
theorem res1_eq (m' : (ℓ : Loc Cert.Reference5Ideal.nD Cert.Reference5Ideal.τ Cert.Reference5Ideal.sig) → Buf (Elt Ideal) ℓ) (m : (ℓ : Loc Cert.Kernel5Ideal.nD Cert.Kernel5Ideal.τ Cert.Kernel5Ideal.sig) → Buf (Elt Ideal) ℓ)
    (ha : (m' (((0 : Dev Cert.Kernel5Ideal.nD).tc : Thread Cert.Reference5Ideal.nD Cert.Reference5Ideal.τ).loc Cert.Reference5Ideal.main_arg0) = m (((0 : Dev Cert.Kernel5Ideal.nD).tc : Thread Cert.Kernel5Ideal.nD Cert.Kernel5Ideal.τ).loc Cert.Kernel5Ideal.main_arg0)
      ∧ m' (((0 : Dev Cert.Kernel5Ideal.nD).tc : Thread Cert.Reference5Ideal.nD Cert.Reference5Ideal.τ).loc Cert.Reference5Ideal.main_arg1) = m (((0 : Dev Cert.Kernel5Ideal.nD).tc : Thread Cert.Kernel5Ideal.nD Cert.Kernel5Ideal.τ).loc Cert.Kernel5Ideal.main_arg1)
      ∧ m' (((0 : Dev Cert.Kernel5Ideal.nD).tc : Thread Cert.Reference5Ideal.nD Cert.Reference5Ideal.τ).loc Cert.Reference5Ideal.main_arg2) = m (((0 : Dev Cert.Kernel5Ideal.nD).tc : Thread Cert.Kernel5Ideal.nD Cert.Kernel5Ideal.τ).loc Cert.Kernel5Ideal.main_arg2)
      ∧ m' (((0 : Dev Cert.Kernel5Ideal.nD).tc : Thread Cert.Reference5Ideal.nD Cert.Reference5Ideal.τ).loc Cert.Reference5Ideal.main_arg3) = m (((0 : Dev Cert.Kernel5Ideal.nD).tc : Thread Cert.Kernel5Ideal.nD Cert.Kernel5Ideal.τ).loc Cert.Kernel5Ideal.main_arg3))) :
    Cert.Reference5Ideal.Value.plain1 (m' (((0 : Dev Cert.Reference5Ideal.nD).tc : Thread Cert.Reference5Ideal.nD Cert.Reference5Ideal.τ).loc Cert.Reference5Ideal.main_arg0)) (m' (((0 : Dev Cert.Reference5Ideal.nD).tc : Thread Cert.Reference5Ideal.nD Cert.Reference5Ideal.τ).loc Cert.Reference5Ideal.main_arg1)) (m' (((0 : Dev Cert.Reference5Ideal.nD).tc : Thread Cert.Reference5Ideal.nD Cert.Reference5Ideal.τ).loc Cert.Reference5Ideal.main_arg2)) = Cert.Kernel5Ideal.Gen.part 1536 (by decide) (m (((0 : Dev Cert.Kernel5Ideal.nD).tc : Thread Cert.Kernel5Ideal.nD Cert.Kernel5Ideal.τ).loc Cert.Kernel5Ideal.main_arg0)) (m (((0 : Dev Cert.Kernel5Ideal.nD).tc : Thread Cert.Kernel5Ideal.nD Cert.Kernel5Ideal.τ).loc Cert.Kernel5Ideal.main_arg1)) (m (((0 : Dev Cert.Kernel5Ideal.nD).tc : Thread Cert.Kernel5Ideal.nD Cert.Kernel5Ideal.τ).loc Cert.Kernel5Ideal.main_arg2)) := by
  refine Eq.trans (b := Cert.Reference5Ideal.Value.plain1 (m' (((0 : Dev Cert.Reference5Ideal.nD).tc : Thread Cert.Reference5Ideal.nD Cert.Reference5Ideal.τ).loc Cert.Reference5Ideal.main_arg0)) (m' (((0 : Dev Cert.Reference5Ideal.nD).tc : Thread Cert.Reference5Ideal.nD Cert.Reference5Ideal.τ).loc Cert.Reference5Ideal.main_arg1)) (m' (((0 : Dev Cert.Reference5Ideal.nD).tc : Thread Cert.Reference5Ideal.nD Cert.Reference5Ideal.τ).loc Cert.Reference5Ideal.main_arg2))) rfl ?_
  rw [ha.1, ha.2.1, ha.2.2.1]
  exact plain1_eq _ _ _

/-- The plain layer is the layer the blocks make. -/
theorem plain2_eq (x : FVec Ideal ⟨2, ![32768, 1024]⟩ .f32) (g : FVec Ideal ⟨2, ![1, 1024]⟩ .f32) (w : FVec Ideal ⟨2, ![1024, 4608]⟩ .bf16) : Cert.Reference5Ideal.Value.plain2 x g w = Cert.Kernel5Ideal.Gen.part 3072 (by decide) x g w := by
  funext y
  obtain ⟨r, d, rfl⟩ : ∃ (r : Fin 32768) (d : Fin 1536), y = ix2 r d := ⟨y 0, y 1, by funext i; match i with | ⟨0, _⟩ => rfl | ⟨1, _⟩ => rfl⟩
  exact Cert.Reference5Ideal.Value.plain2_at x g w r d

/-- The reference's result, from memories that agree on the arguments. -/
theorem res2_eq (m' : (ℓ : Loc Cert.Reference5Ideal.nD Cert.Reference5Ideal.τ Cert.Reference5Ideal.sig) → Buf (Elt Ideal) ℓ) (m : (ℓ : Loc Cert.Kernel5Ideal.nD Cert.Kernel5Ideal.τ Cert.Kernel5Ideal.sig) → Buf (Elt Ideal) ℓ)
    (ha : (m' (((0 : Dev Cert.Kernel5Ideal.nD).tc : Thread Cert.Reference5Ideal.nD Cert.Reference5Ideal.τ).loc Cert.Reference5Ideal.main_arg0) = m (((0 : Dev Cert.Kernel5Ideal.nD).tc : Thread Cert.Kernel5Ideal.nD Cert.Kernel5Ideal.τ).loc Cert.Kernel5Ideal.main_arg0)
      ∧ m' (((0 : Dev Cert.Kernel5Ideal.nD).tc : Thread Cert.Reference5Ideal.nD Cert.Reference5Ideal.τ).loc Cert.Reference5Ideal.main_arg1) = m (((0 : Dev Cert.Kernel5Ideal.nD).tc : Thread Cert.Kernel5Ideal.nD Cert.Kernel5Ideal.τ).loc Cert.Kernel5Ideal.main_arg1)
      ∧ m' (((0 : Dev Cert.Kernel5Ideal.nD).tc : Thread Cert.Reference5Ideal.nD Cert.Reference5Ideal.τ).loc Cert.Reference5Ideal.main_arg2) = m (((0 : Dev Cert.Kernel5Ideal.nD).tc : Thread Cert.Kernel5Ideal.nD Cert.Kernel5Ideal.τ).loc Cert.Kernel5Ideal.main_arg2)
      ∧ m' (((0 : Dev Cert.Kernel5Ideal.nD).tc : Thread Cert.Reference5Ideal.nD Cert.Reference5Ideal.τ).loc Cert.Reference5Ideal.main_arg3) = m (((0 : Dev Cert.Kernel5Ideal.nD).tc : Thread Cert.Kernel5Ideal.nD Cert.Kernel5Ideal.τ).loc Cert.Kernel5Ideal.main_arg3))) :
    Cert.Reference5Ideal.Value.plain2 (m' (((0 : Dev Cert.Reference5Ideal.nD).tc : Thread Cert.Reference5Ideal.nD Cert.Reference5Ideal.τ).loc Cert.Reference5Ideal.main_arg0)) (m' (((0 : Dev Cert.Reference5Ideal.nD).tc : Thread Cert.Reference5Ideal.nD Cert.Reference5Ideal.τ).loc Cert.Reference5Ideal.main_arg1)) (m' (((0 : Dev Cert.Reference5Ideal.nD).tc : Thread Cert.Reference5Ideal.nD Cert.Reference5Ideal.τ).loc Cert.Reference5Ideal.main_arg2)) = Cert.Kernel5Ideal.Gen.part 3072 (by decide) (m (((0 : Dev Cert.Kernel5Ideal.nD).tc : Thread Cert.Kernel5Ideal.nD Cert.Kernel5Ideal.τ).loc Cert.Kernel5Ideal.main_arg0)) (m (((0 : Dev Cert.Kernel5Ideal.nD).tc : Thread Cert.Kernel5Ideal.nD Cert.Kernel5Ideal.τ).loc Cert.Kernel5Ideal.main_arg1)) (m (((0 : Dev Cert.Kernel5Ideal.nD).tc : Thread Cert.Kernel5Ideal.nD Cert.Kernel5Ideal.τ).loc Cert.Kernel5Ideal.main_arg2)) := by
  refine Eq.trans (b := Cert.Reference5Ideal.Value.plain2 (m' (((0 : Dev Cert.Reference5Ideal.nD).tc : Thread Cert.Reference5Ideal.nD Cert.Reference5Ideal.τ).loc Cert.Reference5Ideal.main_arg0)) (m' (((0 : Dev Cert.Reference5Ideal.nD).tc : Thread Cert.Reference5Ideal.nD Cert.Reference5Ideal.τ).loc Cert.Reference5Ideal.main_arg1)) (m' (((0 : Dev Cert.Reference5Ideal.nD).tc : Thread Cert.Reference5Ideal.nD Cert.Reference5Ideal.τ).loc Cert.Reference5Ideal.main_arg2))) rfl ?_
  rw [ha.1, ha.2.1, ha.2.2.1]
  exact plain2_eq _ _ _

/-- The plain layer is the layer the blocks make. -/
theorem plain3_eq (x : FVec Ideal ⟨2, ![32768, 1024]⟩ .f32) (g : FVec Ideal ⟨2, ![1, 1024]⟩ .f32) (w : FVec Ideal ⟨2, ![1024, 128]⟩ .bf16) : Cert.Reference5Ideal.Value.plain3 x g w = Cert.Kernel5Ideal.Gen.small x g w := by
  funext y
  obtain ⟨r, d, rfl⟩ : ∃ (r : Fin 32768) (d : Fin 128), y = ix2 r d := ⟨y 0, y 1, by funext i; match i with | ⟨0, _⟩ => rfl | ⟨1, _⟩ => rfl⟩
  exact Cert.Reference5Ideal.Value.plain3_at x g w r d

/-- The reference's result, from memories that agree on the arguments. -/
theorem res3_eq (m' : (ℓ : Loc Cert.Reference5Ideal.nD Cert.Reference5Ideal.τ Cert.Reference5Ideal.sig) → Buf (Elt Ideal) ℓ) (m : (ℓ : Loc Cert.Kernel5Ideal.nD Cert.Kernel5Ideal.τ Cert.Kernel5Ideal.sig) → Buf (Elt Ideal) ℓ)
    (ha : (m' (((0 : Dev Cert.Kernel5Ideal.nD).tc : Thread Cert.Reference5Ideal.nD Cert.Reference5Ideal.τ).loc Cert.Reference5Ideal.main_arg0) = m (((0 : Dev Cert.Kernel5Ideal.nD).tc : Thread Cert.Kernel5Ideal.nD Cert.Kernel5Ideal.τ).loc Cert.Kernel5Ideal.main_arg0)
      ∧ m' (((0 : Dev Cert.Kernel5Ideal.nD).tc : Thread Cert.Reference5Ideal.nD Cert.Reference5Ideal.τ).loc Cert.Reference5Ideal.main_arg1) = m (((0 : Dev Cert.Kernel5Ideal.nD).tc : Thread Cert.Kernel5Ideal.nD Cert.Kernel5Ideal.τ).loc Cert.Kernel5Ideal.main_arg1)
      ∧ m' (((0 : Dev Cert.Kernel5Ideal.nD).tc : Thread Cert.Reference5Ideal.nD Cert.Reference5Ideal.τ).loc Cert.Reference5Ideal.main_arg2) = m (((0 : Dev Cert.Kernel5Ideal.nD).tc : Thread Cert.Kernel5Ideal.nD Cert.Kernel5Ideal.τ).loc Cert.Kernel5Ideal.main_arg2)
      ∧ m' (((0 : Dev Cert.Kernel5Ideal.nD).tc : Thread Cert.Reference5Ideal.nD Cert.Reference5Ideal.τ).loc Cert.Reference5Ideal.main_arg3) = m (((0 : Dev Cert.Kernel5Ideal.nD).tc : Thread Cert.Kernel5Ideal.nD Cert.Kernel5Ideal.τ).loc Cert.Kernel5Ideal.main_arg3))) :
    Cert.Reference5Ideal.Value.plain3 (m' (((0 : Dev Cert.Reference5Ideal.nD).tc : Thread Cert.Reference5Ideal.nD Cert.Reference5Ideal.τ).loc Cert.Reference5Ideal.main_arg0)) (m' (((0 : Dev Cert.Reference5Ideal.nD).tc : Thread Cert.Reference5Ideal.nD Cert.Reference5Ideal.τ).loc Cert.Reference5Ideal.main_arg1)) (m' (((0 : Dev Cert.Reference5Ideal.nD).tc : Thread Cert.Reference5Ideal.nD Cert.Reference5Ideal.τ).loc Cert.Reference5Ideal.main_arg3)) = Cert.Kernel5Ideal.Gen.small (m (((0 : Dev Cert.Kernel5Ideal.nD).tc : Thread Cert.Kernel5Ideal.nD Cert.Kernel5Ideal.τ).loc Cert.Kernel5Ideal.main_arg0)) (m (((0 : Dev Cert.Kernel5Ideal.nD).tc : Thread Cert.Kernel5Ideal.nD Cert.Kernel5Ideal.τ).loc Cert.Kernel5Ideal.main_arg1)) (m (((0 : Dev Cert.Kernel5Ideal.nD).tc : Thread Cert.Kernel5Ideal.nD Cert.Kernel5Ideal.τ).loc Cert.Kernel5Ideal.main_arg3)) := by
  refine Eq.trans (b := Cert.Reference5Ideal.Value.plain3 (m' (((0 : Dev Cert.Reference5Ideal.nD).tc : Thread Cert.Reference5Ideal.nD Cert.Reference5Ideal.τ).loc Cert.Reference5Ideal.main_arg0)) (m' (((0 : Dev Cert.Reference5Ideal.nD).tc : Thread Cert.Reference5Ideal.nD Cert.Reference5Ideal.τ).loc Cert.Reference5Ideal.main_arg1)) (m' (((0 : Dev Cert.Reference5Ideal.nD).tc : Thread Cert.Reference5Ideal.nD Cert.Reference5Ideal.τ).loc Cert.Reference5Ideal.main_arg3))) rfl ?_
  rw [ha.1, ha.2.1, ha.2.2.2]
  exact plain3_eq _ _ _

theorem frame_plain : Cert.quiescent_Kernel5 := fun m g _ => Cert.Kernel5.Gen.frame (F := Bits) m g
theorem frame_ideal : Cert.quiescent_Kernel5Ideal := fun m g _ => Cert.Kernel5Ideal.Gen.frame (F := Ideal) m g
theorem frame_reference : Cert.quiescent_Reference5Ideal := fun m g _ =>
  (θ_run _ _ _).mono (fun r h => ⟨fun c => (h c).2.2.2.2, sem_eq_zero_of_no_sems (by decide) _⟩) (Cert.Reference5Ideal.Value.run (F := Ideal) m g)
theorem kept : Cert.preserves_Kernel5_Kernel5Ideal := trivial

theorem same_value : Cert.algebraic_Kernel5Ideal_Reference5Ideal := by
  intro m g m' g' _ ha
  refine ⟨fun c => (Cert.Kernel5Ideal.Gen.dats m 0 c).arrAt 4 Cert.Kernel5Ideal.cfg0.N, fun c => (Cert.Kernel5Ideal.Gen.dats m 0 c).arrAt 5 Cert.Kernel5Ideal.cfg0.N, fun c => (Cert.Kernel5Ideal.Gen.dats m 0 c).arrAt 6 Cert.Kernel5Ideal.cfg0.N, fun c => (Cert.Kernel5Ideal.Gen.dats m 0 c).arrAt 7 Cert.Kernel5Ideal.cfg0.N,
    (θ_run _ _ _).mono (fun r hr c => hr c) (Cert.Kernel5Ideal.Value.run_blocks (F := Ideal) m g),
    (θ_run _ _ _).mono (fun r hr c => ⟨(hr c).1.trans ?_, (hr c).2.1.trans ?_, (hr c).2.2.1.trans ?_, (hr c).2.2.2.1.trans ?_, (hr c).2.2.2.2⟩) (Cert.Reference5Ideal.Value.run (F := Ideal) m' g')⟩
  · obtain rfl : c = 0 := Subsingleton.elim _ _
    exact (res0_eq m' m (ha 0)).trans (Cert.Kernel5Ideal.Gen.array4 m 0).symm
  · obtain rfl : c = 0 := Subsingleton.elim _ _
    exact (res1_eq m' m (ha 0)).trans (Cert.Kernel5Ideal.Gen.array5 m 0).symm
  · obtain rfl : c = 0 := Subsingleton.elim _ _
    exact (res2_eq m' m (ha 0)).trans (Cert.Kernel5Ideal.Gen.array6 m 0).symm
  · obtain rfl : c = 0 := Subsingleton.elim _ _
    exact (res3_eq m' m (ha 0)).trans (Cert.Kernel5Ideal.Gen.array7 m 0).symm

end Cert.Inproj

end
-- ==== Proof.lean ====
/- The proof of the certificate's claims. -/
module

public import proofs.«01_k».proof.Defs
public import proofs.«01_k».proof.Proof.Attn.Claims
public import proofs.«01_k».proof.Proof.Rest.Claims2
public import proofs.«01_k».proof.Proof.Rest.Claims3
public import proofs.«01_k».proof.Proof.Rest.Claims4
public import proofs.«01_k».proof.Proof.Rest.Claims5

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Attn.pre_facts, Cert.Pre_experts.Gen.facts,
    Cert.Attn.frame_plain, Cert.Attn.frame_ideal, Cert.Attn.frame_ideal_pre, Cert.Attn.frame_reference, Cert.Attn.frame_reference_pre, Cert.Group.frame_plain, Cert.Group.frame_ideal, Cert.Group.frame_reference, Cert.Group.frame_reference_pre, Cert.Dense.frame_plain, Cert.Dense.frame_ideal, Cert.Dense.frame_reference, Cert.Merge.frame_plain, Cert.Merge.frame_ideal, Cert.Merge.frame_reference, Cert.Inproj.frame_plain, Cert.Inproj.frame_ideal, Cert.Inproj.frame_reference,
    Cert.Attn.mask_kept, Cert.Attn.same_value, Cert.Group.kept, Cert.Group.same_value, Cert.Dense.kept, Cert.Dense.same_value, Cert.Merge.kept, Cert.Merge.same_value, Cert.Inproj.kept, Cert.Inproj.same_value⟩

end Cert.Proof

end
